-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v115_0)) (v1 : (c : Dev Cert.KernelIdeal.nD) → Buf (Elt Ideal) ((c.tc : Thread Cert.KernelIdeal.nD Cert.KernelIdeal.τ).loc Cert.KernelIdeal.main_v115_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v115_0) = v0 c
          ∧ r.2.mem ((c.tc : Thread Cert.KernelIdeal.nD Cert.KernelIdeal.τ).loc Cert.KernelIdeal.main_v115_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x128 : Shape := ⟨2, ![10000, 128]⟩
abbrev S10000x32x128 : Shape := ⟨3, ![10000, 32, 128]⟩
abbrev S10000x32x16 : Shape := ⟨3, ![10000, 32, 16]⟩
abbrev S10000 : Shape := ⟨1, ![10000]⟩
abbrev S10000x32 : Shape := ⟨2, ![10000, 32]⟩
abbrev S128x32 : Shape := ⟨2, ![128, 32]⟩
abbrev S32 : Shape := ⟨1, ![32]⟩
abbrev S16x32 : Shape := ⟨2, ![16, 32]⟩
abbrev S96x64 : Shape := ⟨2, ![96, 64]⟩
abbrev S64 : Shape := ⟨1, ![64]⟩
abbrev S160x64 : Shape := ⟨2, ![160, 64]⟩
abbrev S_ : Shape := ⟨0, ![]⟩
abbrev S31 : Shape := ⟨1, ![31]⟩
abbrev S1 : Shape := ⟨1, ![1]⟩
abbrev S1x1 : Shape := ⟨2, ![1, 1]⟩
abbrev S1x32 : Shape := ⟨2, ![1, 32]⟩
abbrev S32x1 : Shape := ⟨2, ![32, 1]⟩
abbrev S32x64 : Shape := ⟨2, ![32, 64]⟩
abbrev S1x64 : Shape := ⟨2, ![1, 64]⟩
abbrev S32x32 : Shape := ⟨2, ![32, 32]⟩
abbrev S32x128 : Shape := ⟨2, ![32, 128]⟩
abbrev S32x16 : Shape := ⟨2, ![32, 16]⟩
abbrev S32x80 : Shape := ⟨2, ![32, 80]⟩
abbrev S32x2560 : Shape := ⟨2, ![32, 2560]⟩
abbrev S2560 : Shape := ⟨1, ![2560]⟩
abbrev S2560x1 : Shape := ⟨2, ![2560, 1]⟩
abbrev S80 : Shape := ⟨1, ![80]⟩
abbrev S1x80 : Shape := ⟨2, ![1, 80]⟩
abbrev S2560x80 : Shape := ⟨2, ![2560, 80]⟩
abbrev S80x2560 : Shape := ⟨2, ![80, 2560]⟩
abbrev S2560x32 : Shape := ⟨2, ![2560, 32]⟩
abbrev S320000 : Shape := ⟨1, ![320000]⟩
abbrev S1x320000 : Shape := ⟨2, ![1, 320000]⟩
abbrev S32x10000 : Shape := ⟨2, ![32, 10000]⟩
abbrev S32x125x80 : Shape := ⟨3, ![32, 125, 80]⟩
abbrev S125x32x80 : Shape := ⟨3, ![125, 32, 80]⟩
abbrev S2 : Shape := ⟨1, ![2]⟩
abbrev S10000x16 : Shape := ⟨2, ![10000, 16]⟩
abbrev S80x128 : Shape := ⟨2, ![80, 128]⟩
abbrev S80x32x128 : Shape := ⟨3, ![80, 32, 128]⟩
abbrev S80x32x16 : Shape := ⟨3, ![80, 32, 16]⟩
abbrev S1x2560 : Shape := ⟨2, ![1, 2560]⟩
abbrev S1x32x80 : Shape := ⟨3, ![1, 32, 80]⟩
abbrev S80x32 : Shape := ⟨2, ![80, 32]⟩
abbrev S80x16 : Shape := ⟨2, ![80, 16]⟩
abbrev S80x64 : Shape := ⟨2, ![80, 64]⟩
abbrev S2560x128 : Shape := ⟨2, ![2560, 128]⟩
abbrev S2560x16 : Shape := ⟨2, ![2560, 16]⟩
abbrev S2560x64 : Shape := ⟨2, ![2560, 64]⟩
abbrev S80x32x64 : Shape := ⟨3, ![80, 32, 64]⟩
abbrev S80x1x64 : Shape := ⟨3, ![80, 1, 64]⟩
abbrev S80x1 : Shape := ⟨2, ![80, 1]⟩

abbrev nBuf : Space → Nat
  | .hbm => 667
  | .vmem => 40
  | .smem => 0
  | _ => 0

abbrev hbmTy0_0 (i : Nat) : BufTy := match i % 128 with
  | 0 => ⟨S10000x128, .f32⟩
  | 1 => ⟨S10000x32x128, .f32⟩
  | 2 => ⟨S10000x32x16, .f32⟩
  | 3 => ⟨S10000, .f32⟩
  | 4 => ⟨S10000x32, .f32⟩
  | 5 => ⟨S10000x32, .i32⟩
  | 6 => ⟨S128x32, .f32⟩
  | 7 => ⟨S32, .f32⟩
  | 8 => ⟨S16x32, .f32⟩
  | 9 => ⟨S32, .f32⟩
  | 10 => ⟨S96x64, .f32⟩
  | 11 => ⟨S64, .f32⟩
  | 12 => ⟨S160x64, .f32⟩
  | 13 => ⟨S64, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S31, .f32⟩
  | 22 => ⟨S_, .f32⟩
  | 23 => ⟨S31, .f32⟩
  | 24 => ⟨S31, .f32⟩
  | 25 => ⟨S1, .f32⟩
  | 26 => ⟨S_, .f32⟩
  | 27 => ⟨S31, .f32⟩
  | 28 => ⟨S31, .f32⟩
  | 29 => ⟨S31, .f32⟩
  | 30 => ⟨S31, .f32⟩
  | 31 => ⟨S1, .f32⟩
  | 32 => ⟨S31, .f32⟩
  | 33 => ⟨S31, .f32⟩
  | 34 => ⟨S31, .f32⟩
  | 35 => ⟨S1, .f32⟩
  | 36 => ⟨S32, .f32⟩
  | 37 => ⟨S_, .f32⟩
  | 38 => ⟨S32, .f32⟩
  | 39 => ⟨S32, .f32⟩
  | 40 => ⟨S_, .f32⟩
  | 41 => ⟨S32, .f32⟩
  | 42 => ⟨S32, .f32⟩
  | 43 => ⟨S_, .f32⟩
  | 44 => ⟨S1, .f32⟩
  | 45 => ⟨S1x1, .f32⟩
  | 46 => ⟨S1x32, .f32⟩
  | 47 => ⟨S1x32, .f32⟩
  | 48 => ⟨S1x32, .f32⟩
  | 49 => ⟨S1x32, .f32⟩
  | 50 => ⟨S_, .f32⟩
  | 51 => ⟨S1, .f32⟩
  | 52 => ⟨S1x1, .f32⟩
  | 53 => ⟨S1x32, .f32⟩
  | 54 => ⟨S1x32, .f32⟩
  | 55 => ⟨S1x32, .f32⟩
  | 56 => ⟨S1x32, .f32⟩
  | 57 => ⟨S32, .f32⟩
  | 58 => ⟨S32x1, .f32⟩
  | 59 => ⟨S32x64, .f32⟩
  | 60 => ⟨S32x64, .f32⟩
  | 61 => ⟨S32x64, .f32⟩
  | 62 => ⟨S_, .f32⟩
  | 63 => ⟨S64, .f32⟩
  | 64 => ⟨S1x64, .f32⟩
  | 65 => ⟨S32, .f32⟩
  | 66 => ⟨S32x1, .f32⟩
  | 67 => ⟨S32x64, .f32⟩
  | 68 => ⟨S32x64, .f32⟩
  | 69 => ⟨S32x64, .f32⟩
  | 70 => ⟨S_, .f32⟩
  | 71 => ⟨S64, .f32⟩
  | 72 => ⟨S1x64, .f32⟩
  | 73 => ⟨S1x64, .f32⟩
  | 74 => ⟨S1x64, .f32⟩
  | 75 => ⟨S1x64, .f32⟩
  | 76 => ⟨S32, .f32⟩
  | 77 => ⟨S_, .f32⟩
  | 78 => ⟨S32, .f32⟩
  | 79 => ⟨S32, .f32⟩
  | 80 => ⟨S_, .f32⟩
  | 81 => ⟨S32, .f32⟩
  | 82 => ⟨S32, .f32⟩
  | 83 => ⟨S32x1, .f32⟩
  | 84 => ⟨S1x32, .f32⟩
  | 85 => ⟨S32x32, .f32⟩
  | 86 => ⟨S32x32, .f32⟩
  | 87 => ⟨S32x32, .f32⟩
  | 88 => ⟨S32x32, .f32⟩
  | 89 => ⟨S32x128, .f32⟩
  | 90 => ⟨S32x16, .f32⟩
  | 91 => ⟨S32x64, .f32⟩
  | 92 => ⟨S32x64, .f32⟩
  | 93 => ⟨S32x64, .f32⟩
  | 94 => ⟨S32x64, .f32⟩
  | 95 => ⟨S32x64, .f32⟩
  | 96 => ⟨S32x64, .f32⟩
  | 97 => ⟨S32x32, .f32⟩
  | 98 => ⟨S32x1, .f32⟩
  | 99 => ⟨S32x80, .f32⟩
  | 100 => ⟨S32x1, .f32⟩
  | 101 => ⟨S32x2560, .f32⟩
  | 102 => ⟨S32x1, .f32⟩
  | 103 => ⟨S32x2560, .f32⟩
  | 104 => ⟨S32x1, .f32⟩
  | 105 => ⟨S32x2560, .f32⟩
  | 106 => ⟨S32, .f32⟩
  | 107 => ⟨S_, .f32⟩
  | 108 => ⟨S32, .f32⟩
  | 109 => ⟨S32, .f32⟩
  | 110 => ⟨S32x1, .f32⟩
  | 111 => ⟨S32x2560, .f32⟩
  | 112 => ⟨S2560, .i32⟩
  | 113 => ⟨S_, .i32⟩
  | 114 => ⟨S2560, .i32⟩
  | 115 => ⟨S2560, .i32⟩
  | 116 => ⟨S2560x1, .i32⟩
  | 117 => ⟨S80, .i32⟩
  | 118 => ⟨S1x80, .i32⟩
  | 119 => ⟨S2560x80, .i32⟩
  | 120 => ⟨S2560x80, .i32⟩
  | 121 => ⟨S2560x80, .i1⟩
  | 122 => ⟨S2560x80, .f32⟩
  | 123 => ⟨S80x2560, .f32⟩
  | 124 => ⟨S_, .i32⟩
  | 125 => ⟨S2560, .i32⟩
  | 126 => ⟨S2560, .i32⟩
  | 127 => ⟨S2560, .f32⟩
  | _ => ⟨S10000x128, .f32⟩

abbrev hbmTy0_1 (i : Nat) : BufTy := match i % 128 with
  | 0 => ⟨S2560x1, .f32⟩
  | 1 => ⟨S2560x32, .f32⟩
  | 2 => ⟨S_, .i32⟩
  | 3 => ⟨S2560, .i32⟩
  | 4 => ⟨S2560, .i32⟩
  | 5 => ⟨S2560x1, .i32⟩
  | 6 => ⟨S32, .i32⟩
  | 7 => ⟨S1x32, .i32⟩
  | 8 => ⟨S2560x32, .i32⟩
  | 9 => ⟨S2560x32, .i32⟩
  | 10 => ⟨S2560x32, .i1⟩
  | 11 => ⟨S2560x32, .f32⟩
  | 12 => ⟨S10000x32, .f32⟩
  | 13 => ⟨S320000, .f32⟩
  | 14 => ⟨S1x320000, .f32⟩
  | 15 => ⟨S1x320000, .f32⟩
  | 16 => ⟨S10000x32, .f32⟩
  | 17 => ⟨S1x320000, .f32⟩
  | 18 => ⟨S32x10000, .f32⟩
  | 19 => ⟨S32x125x80, .f32⟩
  | 20 => ⟨S125x32x80, .f32⟩
  | 21 => ⟨S_, .i32⟩
  | 22 => ⟨S_, .i32⟩
  | 23 => ⟨S_, .i32⟩
  | 24 => ⟨S_, .i32⟩
  | 25 => ⟨S1, .i32⟩
  | 26 => ⟨S_, .i32⟩
  | 27 => ⟨S_, .i32⟩
  | 28 => ⟨S_, .i32⟩
  | 29 => ⟨S1, .i32⟩
  | 30 => ⟨S2, .i32⟩
  | 31 => ⟨S_, .i32⟩
  | 32 => ⟨S_, .i32⟩
  | 33 => ⟨S_, .i32⟩
  | 34 => ⟨S1, .i32⟩
  | 35 => ⟨S_, .i32⟩
  | 36 => ⟨S_, .i32⟩
  | 37 => ⟨S1, .i32⟩
  | 38 => ⟨S2, .i32⟩
  | 39 => ⟨S1, .i32⟩
  | 40 => ⟨S_, .i32⟩
  | 41 => ⟨S1, .i32⟩
  | 42 => ⟨S_, .i32⟩
  | 43 => ⟨S1, .i32⟩
  | 44 => ⟨S1, .i32⟩
  | 45 => ⟨S_, .i32⟩
  | 46 => ⟨S_, .i32⟩
  | 47 => ⟨S_, .i32⟩
  | 48 => ⟨S1, .i32⟩
  | 49 => ⟨S1, .i32⟩
  | 50 => ⟨S1, .i32⟩
  | 51 => ⟨S1, .i32⟩
  | 52 => ⟨S1, .i32⟩
  | 53 => ⟨S_, .i32⟩
  | 54 => ⟨S1, .i32⟩
  | 55 => ⟨S1, .i32⟩
  | 56 => ⟨S_, .i32⟩
  | 57 => ⟨S1, .i32⟩
  | 58 => ⟨S1, .i32⟩
  | 59 => ⟨S1, .i32⟩
  | 60 => ⟨S1, .i32⟩
  | 61 => ⟨S1, .i32⟩
  | 62 => ⟨S_, .i32⟩
  | 63 => ⟨S1, .i32⟩
  | 64 => ⟨S1, .i32⟩
  | 65 => ⟨S_, .i32⟩
  | 66 => ⟨S1, .i32⟩
  | 67 => ⟨S1, .i32⟩
  | 68 => ⟨S1, .i32⟩
  | 69 => ⟨S1, .i32⟩
  | 70 => ⟨S1, .i32⟩
  | 71 => ⟨S_, .i32⟩
  | 72 => ⟨S1, .i32⟩
  | 73 => ⟨S1, .i32⟩
  | 74 => ⟨S_, .i32⟩
  | 75 => ⟨S1, .i32⟩
  | 76 => ⟨S1, .i32⟩
  | 77 => ⟨S1, .i32⟩
  | 78 => ⟨S1, .i32⟩
  | 79 => ⟨S1, .i32⟩
  | 80 => ⟨S_, .i32⟩
  | 81 => ⟨S1, .i32⟩
  | 82 => ⟨S1, .i32⟩
  | 83 => ⟨S_, .i32⟩
  | 84 => ⟨S1, .i32⟩
  | 85 => ⟨S1, .i32⟩
  | 86 => ⟨S1, .i32⟩
  | 87 => ⟨S1, .i32⟩
  | 88 => ⟨S1, .i32⟩
  | 89 => ⟨S1, .i32⟩
  | 90 => ⟨S1, .i32⟩
  | 91 => ⟨S1, .i32⟩
  | 92 => ⟨S_, .i32⟩
  | 93 => ⟨S1, .i32⟩
  | 94 => ⟨S1, .i32⟩
  | 95 => ⟨S1, .i32⟩
  | 96 => ⟨S_, .i32⟩
  | 97 => ⟨S1, .i32⟩
  | 98 => ⟨S1, .i32⟩
  | 99 => ⟨S_, .i32⟩
  | 100 => ⟨S1, .i32⟩
  | 101 => ⟨S1, .i32⟩
  | 102 => ⟨S1, .i32⟩
  | 103 => ⟨S1, .i32⟩
  | 104 => ⟨S1, .i32⟩
  | 105 => ⟨S_, .i32⟩
  | 106 => ⟨S1, .i32⟩
  | 107 => ⟨S1, .i32⟩
  | 108 => ⟨S_, .i32⟩
  | 109 => ⟨S1, .i32⟩
  | 110 => ⟨S1, .i32⟩
  | 111 => ⟨S1, .i32⟩
  | 112 => ⟨S1, .i32⟩
  | 113 => ⟨S1, .i32⟩
  | 114 => ⟨S_, .i32⟩
  | 115 => ⟨S1, .i32⟩
  | 116 => ⟨S1, .i32⟩
  | 117 => ⟨S_, .i32⟩
  | 118 => ⟨S1, .i32⟩
  | 119 => ⟨S1, .i32⟩
  | 120 => ⟨S1, .i32⟩
  | 121 => ⟨S1, .i32⟩
  | 122 => ⟨S1, .i32⟩
  | 123 => ⟨S_, .i32⟩
  | 124 => ⟨S1, .i32⟩
  | 125 => ⟨S1, .i32⟩
  | 126 => ⟨S_, .i32⟩
  | 127 => ⟨S1, .i32⟩
  | _ => ⟨S10000x128, .f32⟩

abbrev hbmTy0_2 (i : Nat) : BufTy := match i % 128 with
  | 0 => ⟨S1, .i32⟩
  | 1 => ⟨S1, .i32⟩
  | 2 => ⟨S1, .i32⟩
  | 3 => ⟨S1, .i32⟩
  | 4 => ⟨S1, .i32⟩
  | 5 => ⟨S1, .i32⟩
  | 6 => ⟨S1, .i32⟩
  | 7 => ⟨S_, .i32⟩
  | 8 => ⟨S1, .i32⟩
  | 9 => ⟨S1, .i32⟩
  | 10 => ⟨S1, .i32⟩
  | 11 => ⟨S_, .i32⟩
  | 12 => ⟨S1, .i32⟩
  | 13 => ⟨S1, .i32⟩
  | 14 => ⟨S_, .i32⟩
  | 15 => ⟨S1, .i32⟩
  | 16 => ⟨S1, .i32⟩
  | 17 => ⟨S1, .i32⟩
  | 18 => ⟨S1, .i32⟩
  | 19 => ⟨S1, .i32⟩
  | 20 => ⟨S_, .i32⟩
  | 21 => ⟨S1, .i32⟩
  | 22 => ⟨S1, .i32⟩
  | 23 => ⟨S_, .i32⟩
  | 24 => ⟨S1, .i32⟩
  | 25 => ⟨S1, .i32⟩
  | 26 => ⟨S1, .i32⟩
  | 27 => ⟨S1, .i32⟩
  | 28 => ⟨S1, .i32⟩
  | 29 => ⟨S_, .i32⟩
  | 30 => ⟨S1, .i32⟩
  | 31 => ⟨S1, .i32⟩
  | 32 => ⟨S_, .i32⟩
  | 33 => ⟨S1, .i32⟩
  | 34 => ⟨S1, .i32⟩
  | 35 => ⟨S1, .i32⟩
  | 36 => ⟨S1, .i32⟩
  | 37 => ⟨S1, .i32⟩
  | 38 => ⟨S_, .i32⟩
  | 39 => ⟨S1, .i32⟩
  | 40 => ⟨S1, .i32⟩
  | 41 => ⟨S_, .i32⟩
  | 42 => ⟨S1, .i32⟩
  | 43 => ⟨S1, .i32⟩
  | 44 => ⟨S1, .i32⟩
  | 45 => ⟨S1, .i32⟩
  | 46 => ⟨S1, .i32⟩
  | 47 => ⟨S1, .i32⟩
  | 48 => ⟨S1, .i32⟩
  | 49 => ⟨S1, .i32⟩
  | 50 => ⟨S_, .i32⟩
  | 51 => ⟨S1, .i32⟩
  | 52 => ⟨S1, .i32⟩
  | 53 => ⟨S1, .i32⟩
  | 54 => ⟨S_, .i32⟩
  | 55 => ⟨S1, .i32⟩
  | 56 => ⟨S1, .i32⟩
  | 57 => ⟨S_, .i32⟩
  | 58 => ⟨S1, .i32⟩
  | 59 => ⟨S1, .i32⟩
  | 60 => ⟨S1, .i32⟩
  | 61 => ⟨S1, .i32⟩
  | 62 => ⟨S1, .i32⟩
  | 63 => ⟨S_, .i32⟩
  | 64 => ⟨S1, .i32⟩
  | 65 => ⟨S1, .i32⟩
  | 66 => ⟨S_, .i32⟩
  | 67 => ⟨S1, .i32⟩
  | 68 => ⟨S1, .i32⟩
  | 69 => ⟨S1, .i32⟩
  | 70 => ⟨S1, .i32⟩
  | 71 => ⟨S1, .i32⟩
  | 72 => ⟨S_, .i32⟩
  | 73 => ⟨S1, .i32⟩
  | 74 => ⟨S1, .i32⟩
  | 75 => ⟨S_, .i32⟩
  | 76 => ⟨S1, .i32⟩
  | 77 => ⟨S1, .i32⟩
  | 78 => ⟨S1, .i32⟩
  | 79 => ⟨S1, .i32⟩
  | 80 => ⟨S1, .i32⟩
  | 81 => ⟨S_, .i32⟩
  | 82 => ⟨S1, .i32⟩
  | 83 => ⟨S1, .i32⟩
  | 84 => ⟨S_, .i32⟩
  | 85 => ⟨S1, .i32⟩
  | 86 => ⟨S1, .i32⟩
  | 87 => ⟨S1, .i32⟩
  | 88 => ⟨S1, .i32⟩
  | 89 => ⟨S1, .i32⟩
  | 90 => ⟨S1, .i32⟩
  | 91 => ⟨S1, .i32⟩
  | 92 => ⟨S1, .i32⟩
  | 93 => ⟨S_, .i32⟩
  | 94 => ⟨S1, .i32⟩
  | 95 => ⟨S1, .i32⟩
  | 96 => ⟨S1, .i32⟩
  | 97 => ⟨S_, .i32⟩
  | 98 => ⟨S1, .i32⟩
  | 99 => ⟨S1, .i32⟩
  | 100 => ⟨S_, .i32⟩
  | 101 => ⟨S1, .i32⟩
  | 102 => ⟨S1, .i32⟩
  | 103 => ⟨S1, .i32⟩
  | 104 => ⟨S1, .i32⟩
  | 105 => ⟨S1, .i32⟩
  | 106 => ⟨S_, .i32⟩
  | 107 => ⟨S1, .i32⟩
  | 108 => ⟨S1, .i32⟩
  | 109 => ⟨S_, .i32⟩
  | 110 => ⟨S1, .i32⟩
  | 111 => ⟨S1, .i32⟩
  | 112 => ⟨S1, .i32⟩
  | 113 => ⟨S1, .i32⟩
  | 114 => ⟨S1, .i32⟩
  | 115 => ⟨S_, .i32⟩
  | 116 => ⟨S1, .i32⟩
  | 117 => ⟨S1, .i32⟩
  | 118 => ⟨S_, .i32⟩
  | 119 => ⟨S1, .i32⟩
  | 120 => ⟨S1, .i32⟩
  | 121 => ⟨S1, .i32⟩
  | 122 => ⟨S1, .i32⟩
  | 123 => ⟨S1, .i32⟩
  | 124 => ⟨S_, .i32⟩
  | 125 => ⟨S1, .i32⟩
  | 126 => ⟨S1, .i32⟩
  | 127 => ⟨S_, .i32⟩
  | _ => ⟨S10000x128, .f32⟩

abbrev hbmTy0_3 (i : Nat) : BufTy := match i % 128 with
  | 0 => ⟨S1, .i32⟩
  | 1 => ⟨S1, .i32⟩
  | 2 => ⟨S1, .i32⟩
  | 3 => ⟨S1, .i32⟩
  | 4 => ⟨S1, .i32⟩
  | 5 => ⟨S1, .i32⟩
  | 6 => ⟨S1, .i32⟩
  | 7 => ⟨S1, .i32⟩
  | 8 => ⟨S_, .i32⟩
  | 9 => ⟨S1, .i32⟩
  | 10 => ⟨S1, .i32⟩
  | 11 => ⟨S2, .i32⟩
  | 12 => ⟨S_, .f32⟩
  | 13 => ⟨S_, .f32⟩
  | 14 => ⟨S_, .f32⟩
  | 15 => ⟨S_, .f32⟩
  | 16 => ⟨S1x1, .f32⟩
  | 17 => ⟨S1x1, .f32⟩
  | 18 => ⟨S1, .i32⟩
  | 19 => ⟨S_, .i32⟩
  | 20 => ⟨S1, .i32⟩
  | 21 => ⟨S_, .i32⟩
  | 22 => ⟨S10000x32, .i64⟩
  | 23 => ⟨S10000x32, .i64⟩
  | 24 => ⟨S_, .i64⟩
  | 25 => ⟨S10000x32, .i64⟩
  | 26 => ⟨S10000x32, .i64⟩
  | 27 => ⟨S_, .i64⟩
  | 28 => ⟨S10000x32, .i64⟩
  | 29 => ⟨S10000x32, .i64⟩
  | 30 => ⟨S10000x32, .i64⟩
  | 31 => ⟨S_, .i64⟩
  | 32 => ⟨S10000x32, .i64⟩
  | 33 => ⟨S10000x32, .i64⟩
  | 34 => ⟨S10000x32, .i32⟩
  | 35 => ⟨S10000x32, .i32⟩
  | 36 => ⟨S_, .i32⟩
  | 37 => ⟨S_, .i32⟩
  | 38 => ⟨S_, .i32⟩
  | 39 => ⟨S10000x32, .i32⟩
  | 40 => ⟨S10000x32, .i32⟩
  | 41 => ⟨S10000x32, .i32⟩
  | 42 => ⟨S10000x32, .i32⟩
  | 43 => ⟨S10000x32, .i32⟩
  | 44 => ⟨S_, .i32⟩
  | 45 => ⟨S10000x32, .i32⟩
  | 46 => ⟨S10000x32, .i32⟩
  | 47 => ⟨S_, .i32⟩
  | 48 => ⟨S10000x32, .i32⟩
  | 49 => ⟨S10000x32, .i32⟩
  | 50 => ⟨S10000x32, .i32⟩
  | 51 => ⟨S10000x32, .i32⟩
  | 52 => ⟨S10000x32, .i32⟩
  | 53 => ⟨S_, .i32⟩
  | 54 => ⟨S10000x32, .i32⟩
  | 55 => ⟨S10000x32, .i32⟩
  | 56 => ⟨S_, .i32⟩
  | 57 => ⟨S10000x32, .i32⟩
  | 58 => ⟨S10000x32, .i32⟩
  | 59 => ⟨S10000x32, .i32⟩
  | 60 => ⟨S10000x32, .i32⟩
  | 61 => ⟨S10000x32, .i32⟩
  | 62 => ⟨S_, .i32⟩
  | 63 => ⟨S10000x32, .i32⟩
  | 64 => ⟨S10000x32, .i32⟩
  | 65 => ⟨S_, .i32⟩
  | 66 => ⟨S10000x32, .i32⟩
  | 67 => ⟨S10000x32, .i32⟩
  | 68 => ⟨S10000x32, .i32⟩
  | 69 => ⟨S10000x32, .i32⟩
  | 70 => ⟨S10000x32, .i32⟩
  | 71 => ⟨S_, .i32⟩
  | 72 => ⟨S10000x32, .i32⟩
  | 73 => ⟨S10000x32, .i32⟩
  | 74 => ⟨S_, .i32⟩
  | 75 => ⟨S10000x32, .i32⟩
  | 76 => ⟨S10000x32, .i32⟩
  | 77 => ⟨S10000x32, .i32⟩
  | 78 => ⟨S10000x32, .i32⟩
  | 79 => ⟨S10000x32, .i32⟩
  | 80 => ⟨S10000x32, .i32⟩
  | 81 => ⟨S10000x32, .i32⟩
  | 82 => ⟨S10000x32, .i32⟩
  | 83 => ⟨S_, .i32⟩
  | 84 => ⟨S10000x32, .i32⟩
  | 85 => ⟨S10000x32, .i32⟩
  | 86 => ⟨S10000x32, .i32⟩
  | 87 => ⟨S_, .i32⟩
  | 88 => ⟨S10000x32, .i32⟩
  | 89 => ⟨S10000x32, .i32⟩
  | 90 => ⟨S_, .i32⟩
  | 91 => ⟨S10000x32, .i32⟩
  | 92 => ⟨S10000x32, .i32⟩
  | 93 => ⟨S10000x32, .i32⟩
  | 94 => ⟨S10000x32, .i32⟩
  | 95 => ⟨S10000x32, .i32⟩
  | 96 => ⟨S_, .i32⟩
  | 97 => ⟨S10000x32, .i32⟩
  | 98 => ⟨S10000x32, .i32⟩
  | 99 => ⟨S_, .i32⟩
  | 100 => ⟨S10000x32, .i32⟩
  | 101 => ⟨S10000x32, .i32⟩
  | 102 => ⟨S10000x32, .i32⟩
  | 103 => ⟨S10000x32, .i32⟩
  | 104 => ⟨S10000x32, .i32⟩
  | 105 => ⟨S_, .i32⟩
  | 106 => ⟨S10000x32, .i32⟩
  | 107 => ⟨S10000x32, .i32⟩
  | 108 => ⟨S_, .i32⟩
  | 109 => ⟨S10000x32, .i32⟩
  | 110 => ⟨S10000x32, .i32⟩
  | 111 => ⟨S10000x32, .i32⟩
  | 112 => ⟨S10000x32, .i32⟩
  | 113 => ⟨S10000x32, .i32⟩
  | 114 => ⟨S_, .i32⟩
  | 115 => ⟨S10000x32, .i32⟩
  | 116 => ⟨S10000x32, .i32⟩
  | 117 => ⟨S_, .i32⟩
  | 118 => ⟨S10000x32, .i32⟩
  | 119 => ⟨S10000x32, .i32⟩
  | 120 => ⟨S10000x32, .i32⟩
  | 121 => ⟨S10000x32, .i32⟩
  | 122 => ⟨S10000x32, .i32⟩
  | 123 => ⟨S10000x32, .i32⟩
  | 124 => ⟨S10000x32, .i32⟩
  | 125 => ⟨S10000x32, .i32⟩
  | 126 => ⟨S_, .i32⟩
  | 127 => ⟨S10000x32, .i32⟩
  | _ => ⟨S10000x128, .f32⟩

abbrev hbmTy0_4 (i : Nat) : BufTy := match i % 128 with
  | 0 => ⟨S10000x32, .i32⟩
  | 1 => ⟨S10000x32, .i32⟩
  | 2 => ⟨S_, .i32⟩
  | 3 => ⟨S10000x32, .i32⟩
  | 4 => ⟨S10000x32, .i32⟩
  | 5 => ⟨S_, .i32⟩
  | 6 => ⟨S10000x32, .i32⟩
  | 7 => ⟨S10000x32, .i32⟩
  | 8 => ⟨S10000x32, .i32⟩
  | 9 => ⟨S10000x32, .i32⟩
  | 10 => ⟨S10000x32, .i32⟩
  | 11 => ⟨S_, .i32⟩
  | 12 => ⟨S10000x32, .i32⟩
  | 13 => ⟨S10000x32, .i32⟩
  | 14 => ⟨S_, .i32⟩
  | 15 => ⟨S10000x32, .i32⟩
  | 16 => ⟨S10000x32, .i32⟩
  | 17 => ⟨S10000x32, .i32⟩
  | 18 => ⟨S10000x32, .i32⟩
  | 19 => ⟨S10000x32, .i32⟩
  | 20 => ⟨S_, .i32⟩
  | 21 => ⟨S10000x32, .i32⟩
  | 22 => ⟨S10000x32, .i32⟩
  | 23 => ⟨S_, .i32⟩
  | 24 => ⟨S10000x32, .i32⟩
  | 25 => ⟨S10000x32, .i32⟩
  | 26 => ⟨S10000x32, .i32⟩
  | 27 => ⟨S10000x32, .i32⟩
  | 28 => ⟨S10000x32, .i32⟩
  | 29 => ⟨S_, .i32⟩
  | 30 => ⟨S10000x32, .i32⟩
  | 31 => ⟨S10000x32, .i32⟩
  | 32 => ⟨S_, .i32⟩
  | 33 => ⟨S10000x32, .i32⟩
  | 34 => ⟨S10000x32, .i32⟩
  | 35 => ⟨S10000x32, .i32⟩
  | 36 => ⟨S10000x32, .i32⟩
  | 37 => ⟨S10000x32, .i32⟩
  | 38 => ⟨S10000x32, .i32⟩
  | 39 => ⟨S10000x32, .i32⟩
  | 40 => ⟨S10000x32, .i32⟩
  | 41 => ⟨S_, .i32⟩
  | 42 => ⟨S10000x32, .i32⟩
  | 43 => ⟨S10000x32, .i32⟩
  | 44 => ⟨S10000x32, .i32⟩
  | 45 => ⟨S_, .i32⟩
  | 46 => ⟨S10000x32, .i32⟩
  | 47 => ⟨S10000x32, .i32⟩
  | 48 => ⟨S_, .i32⟩
  | 49 => ⟨S10000x32, .i32⟩
  | 50 => ⟨S10000x32, .i32⟩
  | 51 => ⟨S10000x32, .i32⟩
  | 52 => ⟨S10000x32, .i32⟩
  | 53 => ⟨S10000x32, .i32⟩
  | 54 => ⟨S_, .i32⟩
  | 55 => ⟨S10000x32, .i32⟩
  | 56 => ⟨S10000x32, .i32⟩
  | 57 => ⟨S_, .i32⟩
  | 58 => ⟨S10000x32, .i32⟩
  | 59 => ⟨S10000x32, .i32⟩
  | 60 => ⟨S10000x32, .i32⟩
  | 61 => ⟨S10000x32, .i32⟩
  | 62 => ⟨S10000x32, .i32⟩
  | 63 => ⟨S_, .i32⟩
  | 64 => ⟨S10000x32, .i32⟩
  | 65 => ⟨S10000x32, .i32⟩
  | 66 => ⟨S_, .i32⟩
  | 67 => ⟨S10000x32, .i32⟩
  | 68 => ⟨S10000x32, .i32⟩
  | 69 => ⟨S10000x32, .i32⟩
  | 70 => ⟨S10000x32, .i32⟩
  | 71 => ⟨S10000x32, .i32⟩
  | 72 => ⟨S_, .i32⟩
  | 73 => ⟨S10000x32, .i32⟩
  | 74 => ⟨S10000x32, .i32⟩
  | 75 => ⟨S_, .i32⟩
  | 76 => ⟨S10000x32, .i32⟩
  | 77 => ⟨S10000x32, .i32⟩
  | 78 => ⟨S10000x32, .i32⟩
  | 79 => ⟨S10000x32, .i32⟩
  | 80 => ⟨S10000x32, .i32⟩
  | 81 => ⟨S10000x32, .i32⟩
  | 82 => ⟨S10000x32, .i32⟩
  | 83 => ⟨S10000x32, .i32⟩
  | 84 => ⟨S_, .i32⟩
  | 85 => ⟨S10000x32, .i32⟩
  | 86 => ⟨S10000x32, .i32⟩
  | 87 => ⟨S10000x32, .i32⟩
  | 88 => ⟨S_, .i32⟩
  | 89 => ⟨S10000x32, .i32⟩
  | 90 => ⟨S10000x32, .i32⟩
  | 91 => ⟨S_, .i32⟩
  | 92 => ⟨S10000x32, .i32⟩
  | 93 => ⟨S10000x32, .i32⟩
  | 94 => ⟨S10000x32, .i32⟩
  | 95 => ⟨S10000x32, .i32⟩
  | 96 => ⟨S10000x32, .i32⟩
  | 97 => ⟨S_, .i32⟩
  | 98 => ⟨S10000x32, .i32⟩
  | 99 => ⟨S10000x32, .i32⟩
  | 100 => ⟨S_, .i32⟩
  | 101 => ⟨S10000x32, .i32⟩
  | 102 => ⟨S10000x32, .i32⟩
  | 103 => ⟨S10000x32, .i32⟩
  | 104 => ⟨S10000x32, .i32⟩
  | 105 => ⟨S10000x32, .i32⟩
  | 106 => ⟨S_, .i32⟩
  | 107 => ⟨S10000x32, .i32⟩
  | 108 => ⟨S10000x32, .i32⟩
  | 109 => ⟨S_, .i32⟩
  | 110 => ⟨S10000x32, .i32⟩
  | 111 => ⟨S10000x32, .i32⟩
  | 112 => ⟨S10000x32, .i32⟩
  | 113 => ⟨S10000x32, .i32⟩
  | 114 => ⟨S10000x32, .i32⟩
  | 115 => ⟨S_, .i32⟩
  | 116 => ⟨S10000x32, .i32⟩
  | 117 => ⟨S10000x32, .i32⟩
  | 118 => ⟨S_, .i32⟩
  | 119 => ⟨S10000x32, .i32⟩
  | 120 => ⟨S10000x32, .i32⟩
  | 121 => ⟨S10000x32, .i32⟩
  | 122 => ⟨S10000x32, .i32⟩
  | 123 => ⟨S10000x32, .i32⟩
  | 124 => ⟨S10000x32, .i32⟩
  | 125 => ⟨S10000x32, .i32⟩
  | 126 => ⟨S10000x32, .i32⟩
  | 127 => ⟨S_, .i32⟩
  | _ => ⟨S10000x128, .f32⟩

abbrev hbmTy0_5 (i : Nat) : BufTy := match i % 128 with
  | 0 => ⟨S10000x32, .i32⟩
  | 1 => ⟨S10000x32, .i32⟩
  | 2 => ⟨S10000x32, .i32⟩
  | 3 => ⟨S_, .i32⟩
  | 4 => ⟨S10000x32, .i32⟩
  | 5 => ⟨S10000x32, .i32⟩
  | 6 => ⟨S_, .i32⟩
  | 7 => ⟨S10000x32, .i32⟩
  | 8 => ⟨S10000x32, .i32⟩
  | 9 => ⟨S10000x32, .f32⟩
  | 10 => ⟨S_, .f32⟩
  | 11 => ⟨S10000x32, .f32⟩
  | 12 => ⟨S10000x32, .f32⟩
  | 13 => ⟨S1x1, .f32⟩
  | 14 => ⟨S10000x32, .f32⟩
  | 15 => ⟨S10000x32, .f32⟩
  | 16 => ⟨S10000x32, .f32⟩
  | 17 => ⟨S10000x32, .f32⟩
  | 18 => ⟨S10000x32, .f32⟩
  | 19 => ⟨S10000x32, .f32⟩
  | 20 => ⟨S10000x32, .f32⟩
  | 21 => ⟨S10000x32, .f32⟩
  | 22 => ⟨S10000x32, .f32⟩
  | 23 => ⟨S10000x32, .f32⟩
  | 24 => ⟨S1x64, .f32⟩
  | 25 => ⟨S10000x32, .f32⟩
  | 26 => ⟨S10000x16, .i32⟩
  | _ => ⟨S10000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S10000x128, .f32⟩

abbrev bufTy : (tb : Table) → Fin (tcTables nBuf tb) → BufTy
  | .hbm, ⟨i, _⟩ => hbmTy i
  | .local _ .vmem, ⟨0, _⟩ => ⟨S80x128, .f32⟩
  | .local _ .vmem, ⟨1, _⟩ => ⟨S80x128, .f32⟩
  | .local _ .vmem, ⟨2, _⟩ => ⟨S80x32x128, .f32⟩
  | .local _ .vmem, ⟨3, _⟩ => ⟨S80x32x128, .f32⟩
  | .local _ .vmem, ⟨4, _⟩ => ⟨S80x32x16, .f32⟩
  | .local _ .vmem, ⟨5, _⟩ => ⟨S80x32x16, .f32⟩
  | .local _ .vmem, ⟨6, _⟩ => ⟨S1x2560, .f32⟩
  | .local _ .vmem, ⟨7, _⟩ => ⟨S1x2560, .f32⟩
  | .local _ .vmem, ⟨8, _⟩ => ⟨S1x2560, .f32⟩
  | .local _ .vmem, ⟨9, _⟩ => ⟨S1x2560, .f32⟩
  | .local _ .vmem, ⟨10, _⟩ => ⟨S1x2560, .f32⟩
  | .local _ .vmem, ⟨11, _⟩ => ⟨S1x2560, .f32⟩
  | .local _ .vmem, ⟨12, _⟩ => ⟨S1x32x80, .f32⟩
  | .local _ .vmem, ⟨13, _⟩ => ⟨S1x32x80, .f32⟩
  | .local _ .vmem, ⟨14, _⟩ => ⟨S80x32, .f32⟩
  | .local _ .vmem, ⟨15, _⟩ => ⟨S80x32, .f32⟩
  | .local _ .vmem, ⟨16, _⟩ => ⟨S32x128, .f32⟩
  | .local _ .vmem, ⟨17, _⟩ => ⟨S32x80, .f32⟩
  | .local _ .vmem, ⟨18, _⟩ => ⟨S32x2560, .f32⟩
  | .local _ .vmem, ⟨19, _⟩ => ⟨S32x16, .f32⟩
  | .local _ .vmem, ⟨20, _⟩ => ⟨S32x2560, .f32⟩
  | .local _ .vmem, ⟨21, _⟩ => ⟨S32x64, .f32⟩
  | .local _ .vmem, ⟨22, _⟩ => ⟨S1x64, .f32⟩
  | .local _ .vmem, ⟨23, _⟩ => ⟨S32x64, .f32⟩
  | .local _ .vmem, ⟨24, _⟩ => ⟨S32x64, .f32⟩
  | .local _ .vmem, ⟨25, _⟩ => ⟨S32x64, .f32⟩
  | .local _ .vmem, ⟨26, _⟩ => ⟨S32x64, .f32⟩
  | .local _ .vmem, ⟨27, _⟩ => ⟨S32x64, .f32⟩
  | .local _ .vmem, ⟨28, _⟩ => ⟨S1x64, .f32⟩
  | .local _ .vmem, ⟨29, _⟩ => ⟨S32x2560, .f32⟩
  | .local _ .vmem, ⟨30, _⟩ => ⟨S32x2560, .f32⟩
  | .local _ .vmem, ⟨31, _⟩ => ⟨S32x32, .f32⟩
  | .local _ .vmem, ⟨32, _⟩ => ⟨S2560x80, .f32⟩
  | .local _ .vmem, ⟨33, _⟩ => ⟨S80x2560, .f32⟩
  | .local _ .vmem, ⟨34, _⟩ => ⟨S2560x32, .f32⟩
  | .local _ .vmem, ⟨35, _⟩ => ⟨S2560x32, .f32⟩
  | .local _ .vmem, ⟨36, _⟩ => ⟨S80x32, .f32⟩
  | .local _ .vmem, ⟨37, _⟩ => ⟨S80x32, .f32⟩
  | .local _ .vmem, ⟨38, _⟩ => ⟨S80x16, .i32⟩
  | .local _ .vmem, ⟨39, _⟩ => ⟨S80x16, .i32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_cst : Ref sig .tc := ⟨.hbm, 19, rfl⟩
abbrev main_call0_v3 : Ref sig .tc := ⟨.hbm, 20, rfl⟩
abbrev main_call0_v4 : Ref sig .tc := ⟨.hbm, 21, rfl⟩
abbrev main_call0_cst_0 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_cst_1 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_v15 : Ref sig .tc := ⟨.hbm, 34, rfl⟩
abbrev main_call0_v16 : Ref sig .tc := ⟨.hbm, 35, rfl⟩
abbrev main_v0 : Ref sig .tc := ⟨.hbm, 36, rfl⟩
abbrev main_cst_1 : Ref sig .tc := ⟨.hbm, 37, rfl⟩
abbrev main_v1 : Ref sig .tc := ⟨.hbm, 38, rfl⟩
abbrev main_v2 : Ref sig .tc := ⟨.hbm, 39, rfl⟩
abbrev main_cst_2 : Ref sig .tc := ⟨.hbm, 40, rfl⟩
abbrev main_v3 : Ref sig .tc := ⟨.hbm, 41, rfl⟩
abbrev main_v4 : Ref sig .tc := ⟨.hbm, 42, rfl⟩
abbrev main_cst_3 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_cst_4 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_cst_5 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_cst_6 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_cst_7 : Ref sig .tc := ⟨.hbm, 77, rfl⟩
abbrev main_v35 : Ref sig .tc := ⟨.hbm, 78, rfl⟩
abbrev main_v36 : Ref sig .tc := ⟨.hbm, 79, rfl⟩
abbrev main_cst_8 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_cst_9 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_c : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_c_10 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_c_11 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_c_12 : Ref sig .tc := ⟨.hbm, 149, rfl⟩
abbrev main_c_13 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_c_14 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_c_15 : Ref sig .tc := ⟨.hbm, 159, rfl⟩
abbrev main_call1_c : Ref sig .tc := ⟨.hbm, 160, rfl⟩
abbrev main_call1_v0 : Ref sig .tc := ⟨.hbm, 161, rfl⟩
abbrev main_call1_v1 : Ref sig .tc := ⟨.hbm, 162, rfl⟩
abbrev main_call1_c_0 : Ref sig .tc := ⟨.hbm, 163, rfl⟩
abbrev main_call1_v2 : Ref sig .tc := ⟨.hbm, 164, rfl⟩
abbrev main_call1_v3 : Ref sig .tc := ⟨.hbm, 165, rfl⟩
abbrev main_call1_v4 : Ref sig .tc := ⟨.hbm, 166, rfl⟩
abbrev main_call1_v5 : Ref sig .tc := ⟨.hbm, 167, rfl⟩
abbrev main_call1_v6 : Ref sig .tc := ⟨.hbm, 168, rfl⟩
abbrev main_call1_v7 : Ref sig .tc := ⟨.hbm, 169, rfl⟩
abbrev main_call1_v8 : Ref sig .tc := ⟨.hbm, 170, rfl⟩
abbrev main_call1_v9 : Ref sig .tc := ⟨.hbm, 171, rfl⟩
abbrev main_call1_v10 : Ref sig .tc := ⟨.hbm, 172, rfl⟩
abbrev main_call1_call0_v0 : Ref sig .tc := ⟨.hbm, 173, rfl⟩
abbrev main_call1_call0_c : Ref sig .tc := ⟨.hbm, 174, rfl⟩
abbrev main_call1_call0_v1 : Ref sig .tc := ⟨.hbm, 175, rfl⟩
abbrev main_call1_call0_v2 : Ref sig .tc := ⟨.hbm, 176, rfl⟩
abbrev main_call1_call0_v3 : Ref sig .tc := ⟨.hbm, 177, rfl⟩
abbrev main_call1_call0_v4 : Ref sig .tc := ⟨.hbm, 178, rfl⟩
abbrev main_call1_call0_v5 : Ref sig .tc := ⟨.hbm, 179, rfl⟩
abbrev main_call1_call0_v6 : Ref sig .tc := ⟨.hbm, 180, rfl⟩
abbrev main_call1_call0_c_0 : Ref sig .tc := ⟨.hbm, 181, rfl⟩
abbrev main_call1_call0_v7 : Ref sig .tc := ⟨.hbm, 182, rfl⟩
abbrev main_call1_call0_v8 : Ref sig .tc := ⟨.hbm, 183, rfl⟩
abbrev main_call1_call0_c_1 : Ref sig .tc := ⟨.hbm, 184, rfl⟩
abbrev main_call1_call0_v9 : Ref sig .tc := ⟨.hbm, 185, rfl⟩
abbrev main_call1_call0_v10 : Ref sig .tc := ⟨.hbm, 186, rfl⟩
abbrev main_call1_call0_v11 : Ref sig .tc := ⟨.hbm, 187, rfl⟩
abbrev main_call1_call0_v12 : Ref sig .tc := ⟨.hbm, 188, rfl⟩
abbrev main_call1_call0_v13 : Ref sig .tc := ⟨.hbm, 189, rfl⟩
abbrev main_call1_call0_c_2 : Ref sig .tc := ⟨.hbm, 190, rfl⟩
abbrev main_call1_call0_v14 : Ref sig .tc := ⟨.hbm, 191, rfl⟩
abbrev main_call1_call0_v15 : Ref sig .tc := ⟨.hbm, 192, rfl⟩
abbrev main_call1_call0_c_3 : Ref sig .tc := ⟨.hbm, 193, rfl⟩
abbrev main_call1_call0_v16 : Ref sig .tc := ⟨.hbm, 194, rfl⟩
abbrev main_call1_call0_v17 : Ref sig .tc := ⟨.hbm, 195, rfl⟩
abbrev main_call1_call0_v18 : Ref sig .tc := ⟨.hbm, 196, rfl⟩
abbrev main_call1_call0_v19 : Ref sig .tc := ⟨.hbm, 197, rfl⟩
abbrev main_call1_call0_v20 : Ref sig .tc := ⟨.hbm, 198, rfl⟩
abbrev main_call1_call0_c_4 : Ref sig .tc := ⟨.hbm, 199, rfl⟩
abbrev main_call1_call0_v21 : Ref sig .tc := ⟨.hbm, 200, rfl⟩
abbrev main_call1_call0_v22 : Ref sig .tc := ⟨.hbm, 201, rfl⟩
abbrev main_call1_call0_c_5 : Ref sig .tc := ⟨.hbm, 202, rfl⟩
abbrev main_call1_call0_v23 : Ref sig .tc := ⟨.hbm, 203, rfl⟩
abbrev main_call1_call0_v24 : Ref sig .tc := ⟨.hbm, 204, rfl⟩
abbrev main_call1_call0_v25 : Ref sig .tc := ⟨.hbm, 205, rfl⟩
abbrev main_call1_call0_v26 : Ref sig .tc := ⟨.hbm, 206, rfl⟩
abbrev main_call1_call0_v27 : Ref sig .tc := ⟨.hbm, 207, rfl⟩
abbrev main_call1_call0_c_6 : Ref sig .tc := ⟨.hbm, 208, rfl⟩
abbrev main_call1_call0_v28 : Ref sig .tc := ⟨.hbm, 209, rfl⟩
abbrev main_call1_call0_v29 : Ref sig .tc := ⟨.hbm, 210, rfl⟩
abbrev main_call1_call0_c_7 : Ref sig .tc := ⟨.hbm, 211, rfl⟩
abbrev main_call1_call0_v30 : Ref sig .tc := ⟨.hbm, 212, rfl⟩
abbrev main_call1_call0_v31 : Ref sig .tc := ⟨.hbm, 213, rfl⟩
abbrev main_call1_call0_v32 : Ref sig .tc := ⟨.hbm, 214, rfl⟩
abbrev main_call1_call0_v33 : Ref sig .tc := ⟨.hbm, 215, rfl⟩
abbrev main_call1_call0_v34 : Ref sig .tc := ⟨.hbm, 216, rfl⟩
abbrev main_call1_call0_v35 : Ref sig .tc := ⟨.hbm, 217, rfl⟩
abbrev main_call1_call0_v36 : Ref sig .tc := ⟨.hbm, 218, rfl⟩
abbrev main_call1_call0_v37 : Ref sig .tc := ⟨.hbm, 219, rfl⟩
abbrev main_call1_call0_c_8 : Ref sig .tc := ⟨.hbm, 220, rfl⟩
abbrev main_call1_call0_v38 : Ref sig .tc := ⟨.hbm, 221, rfl⟩
abbrev main_call1_call0_v39 : Ref sig .tc := ⟨.hbm, 222, rfl⟩
abbrev main_call1_call0_v40 : Ref sig .tc := ⟨.hbm, 223, rfl⟩
abbrev main_call1_call0_c_9 : Ref sig .tc := ⟨.hbm, 224, rfl⟩
abbrev main_call1_call0_v41 : Ref sig .tc := ⟨.hbm, 225, rfl⟩
abbrev main_call1_call0_v42 : Ref sig .tc := ⟨.hbm, 226, rfl⟩
abbrev main_call1_call0_c_10 : Ref sig .tc := ⟨.hbm, 227, rfl⟩
abbrev main_call1_call0_v43 : Ref sig .tc := ⟨.hbm, 228, rfl⟩
abbrev main_call1_call0_v44 : Ref sig .tc := ⟨.hbm, 229, rfl⟩
abbrev main_call1_call0_v45 : Ref sig .tc := ⟨.hbm, 230, rfl⟩
abbrev main_call1_call0_v46 : Ref sig .tc := ⟨.hbm, 231, rfl⟩
abbrev main_call1_call0_v47 : Ref sig .tc := ⟨.hbm, 232, rfl⟩
abbrev main_call1_call0_c_11 : Ref sig .tc := ⟨.hbm, 233, rfl⟩
abbrev main_call1_call0_v48 : Ref sig .tc := ⟨.hbm, 234, rfl⟩
abbrev main_call1_call0_v49 : Ref sig .tc := ⟨.hbm, 235, rfl⟩
abbrev main_call1_call0_c_12 : Ref sig .tc := ⟨.hbm, 236, rfl⟩
abbrev main_call1_call0_v50 : Ref sig .tc := ⟨.hbm, 237, rfl⟩
abbrev main_call1_call0_v51 : Ref sig .tc := ⟨.hbm, 238, rfl⟩
abbrev main_call1_call0_v52 : Ref sig .tc := ⟨.hbm, 239, rfl⟩
abbrev main_call1_call0_v53 : Ref sig .tc := ⟨.hbm, 240, rfl⟩
abbrev main_call1_call0_v54 : Ref sig .tc := ⟨.hbm, 241, rfl⟩
abbrev main_call1_call0_c_13 : Ref sig .tc := ⟨.hbm, 242, rfl⟩
abbrev main_call1_call0_v55 : Ref sig .tc := ⟨.hbm, 243, rfl⟩
abbrev main_call1_call0_v56 : Ref sig .tc := ⟨.hbm, 244, rfl⟩
abbrev main_call1_call0_c_14 : Ref sig .tc := ⟨.hbm, 245, rfl⟩
abbrev main_call1_call0_v57 : Ref sig .tc := ⟨.hbm, 246, rfl⟩
abbrev main_call1_call0_v58 : Ref sig .tc := ⟨.hbm, 247, rfl⟩
abbrev main_call1_call0_v59 : Ref sig .tc := ⟨.hbm, 248, rfl⟩
abbrev main_call1_call0_v60 : Ref sig .tc := ⟨.hbm, 249, rfl⟩
abbrev main_call1_call0_v61 : Ref sig .tc := ⟨.hbm, 250, rfl⟩
abbrev main_call1_call0_c_15 : Ref sig .tc := ⟨.hbm, 251, rfl⟩
abbrev main_call1_call0_v62 : Ref sig .tc := ⟨.hbm, 252, rfl⟩
abbrev main_call1_call0_v63 : Ref sig .tc := ⟨.hbm, 253, rfl⟩
abbrev main_call1_call0_c_16 : Ref sig .tc := ⟨.hbm, 254, rfl⟩
abbrev main_call1_call0_v64 : Ref sig .tc := ⟨.hbm, 255, rfl⟩
abbrev main_call1_call0_v65 : Ref sig .tc := ⟨.hbm, 256, rfl⟩
abbrev main_call1_call0_v66 : Ref sig .tc := ⟨.hbm, 257, rfl⟩
abbrev main_call1_call0_v67 : Ref sig .tc := ⟨.hbm, 258, rfl⟩
abbrev main_call1_call0_v68 : Ref sig .tc := ⟨.hbm, 259, rfl⟩
abbrev main_call1_call0_v69 : Ref sig .tc := ⟨.hbm, 260, rfl⟩
abbrev main_call1_call0_v70 : Ref sig .tc := ⟨.hbm, 261, rfl⟩
abbrev main_call1_call0_v71 : Ref sig .tc := ⟨.hbm, 262, rfl⟩
abbrev main_call1_call0_c_17 : Ref sig .tc := ⟨.hbm, 263, rfl⟩
abbrev main_call1_call0_v72 : Ref sig .tc := ⟨.hbm, 264, rfl⟩
abbrev main_call1_call0_v73 : Ref sig .tc := ⟨.hbm, 265, rfl⟩
abbrev main_call1_call0_v74 : Ref sig .tc := ⟨.hbm, 266, rfl⟩
abbrev main_call1_call0_c_18 : Ref sig .tc := ⟨.hbm, 267, rfl⟩
abbrev main_call1_call0_v75 : Ref sig .tc := ⟨.hbm, 268, rfl⟩
abbrev main_call1_call0_v76 : Ref sig .tc := ⟨.hbm, 269, rfl⟩
abbrev main_call1_call0_c_19 : Ref sig .tc := ⟨.hbm, 270, rfl⟩
abbrev main_call1_call0_v77 : Ref sig .tc := ⟨.hbm, 271, rfl⟩
abbrev main_call1_call0_v78 : Ref sig .tc := ⟨.hbm, 272, rfl⟩
abbrev main_call1_call0_v79 : Ref sig .tc := ⟨.hbm, 273, rfl⟩
abbrev main_call1_call0_v80 : Ref sig .tc := ⟨.hbm, 274, rfl⟩
abbrev main_call1_call0_v81 : Ref sig .tc := ⟨.hbm, 275, rfl⟩
abbrev main_call1_call0_c_20 : Ref sig .tc := ⟨.hbm, 276, rfl⟩
abbrev main_call1_call0_v82 : Ref sig .tc := ⟨.hbm, 277, rfl⟩
abbrev main_call1_call0_v83 : Ref sig .tc := ⟨.hbm, 278, rfl⟩
abbrev main_call1_call0_c_21 : Ref sig .tc := ⟨.hbm, 279, rfl⟩
abbrev main_call1_call0_v84 : Ref sig .tc := ⟨.hbm, 280, rfl⟩
abbrev main_call1_call0_v85 : Ref sig .tc := ⟨.hbm, 281, rfl⟩
abbrev main_call1_call0_v86 : Ref sig .tc := ⟨.hbm, 282, rfl⟩
abbrev main_call1_call0_v87 : Ref sig .tc := ⟨.hbm, 283, rfl⟩
abbrev main_call1_call0_v88 : Ref sig .tc := ⟨.hbm, 284, rfl⟩
abbrev main_call1_call0_c_22 : Ref sig .tc := ⟨.hbm, 285, rfl⟩
abbrev main_call1_call0_v89 : Ref sig .tc := ⟨.hbm, 286, rfl⟩
abbrev main_call1_call0_v90 : Ref sig .tc := ⟨.hbm, 287, rfl⟩
abbrev main_call1_call0_c_23 : Ref sig .tc := ⟨.hbm, 288, rfl⟩
abbrev main_call1_call0_v91 : Ref sig .tc := ⟨.hbm, 289, rfl⟩
abbrev main_call1_call0_v92 : Ref sig .tc := ⟨.hbm, 290, rfl⟩
abbrev main_call1_call0_v93 : Ref sig .tc := ⟨.hbm, 291, rfl⟩
abbrev main_call1_call0_v94 : Ref sig .tc := ⟨.hbm, 292, rfl⟩
abbrev main_call1_call0_v95 : Ref sig .tc := ⟨.hbm, 293, rfl⟩
abbrev main_call1_call0_c_24 : Ref sig .tc := ⟨.hbm, 294, rfl⟩
abbrev main_call1_call0_v96 : Ref sig .tc := ⟨.hbm, 295, rfl⟩
abbrev main_call1_call0_v97 : Ref sig .tc := ⟨.hbm, 296, rfl⟩
abbrev main_call1_call0_c_25 : Ref sig .tc := ⟨.hbm, 297, rfl⟩
abbrev main_call1_call0_v98 : Ref sig .tc := ⟨.hbm, 298, rfl⟩
abbrev main_call1_call0_v99 : Ref sig .tc := ⟨.hbm, 299, rfl⟩
abbrev main_call1_call0_v100 : Ref sig .tc := ⟨.hbm, 300, rfl⟩
abbrev main_call1_call0_v101 : Ref sig .tc := ⟨.hbm, 301, rfl⟩
abbrev main_call1_call0_v102 : Ref sig .tc := ⟨.hbm, 302, rfl⟩
abbrev main_call1_call0_v103 : Ref sig .tc := ⟨.hbm, 303, rfl⟩
abbrev main_call1_call0_v104 : Ref sig .tc := ⟨.hbm, 304, rfl⟩
abbrev main_call1_call0_v105 : Ref sig .tc := ⟨.hbm, 305, rfl⟩
abbrev main_call1_call0_c_26 : Ref sig .tc := ⟨.hbm, 306, rfl⟩
abbrev main_call1_call0_v106 : Ref sig .tc := ⟨.hbm, 307, rfl⟩
abbrev main_call1_call0_v107 : Ref sig .tc := ⟨.hbm, 308, rfl⟩
abbrev main_call1_call0_v108 : Ref sig .tc := ⟨.hbm, 309, rfl⟩
abbrev main_call1_call0_c_27 : Ref sig .tc := ⟨.hbm, 310, rfl⟩
abbrev main_call1_call0_v109 : Ref sig .tc := ⟨.hbm, 311, rfl⟩
abbrev main_call1_call0_v110 : Ref sig .tc := ⟨.hbm, 312, rfl⟩
abbrev main_call1_call0_c_28 : Ref sig .tc := ⟨.hbm, 313, rfl⟩
abbrev main_call1_call0_v111 : Ref sig .tc := ⟨.hbm, 314, rfl⟩
abbrev main_call1_call0_v112 : Ref sig .tc := ⟨.hbm, 315, rfl⟩
abbrev main_call1_call0_v113 : Ref sig .tc := ⟨.hbm, 316, rfl⟩
abbrev main_call1_call0_v114 : Ref sig .tc := ⟨.hbm, 317, rfl⟩
abbrev main_call1_call0_v115 : Ref sig .tc := ⟨.hbm, 318, rfl⟩
abbrev main_call1_call0_c_29 : Ref sig .tc := ⟨.hbm, 319, rfl⟩
abbrev main_call1_call0_v116 : Ref sig .tc := ⟨.hbm, 320, rfl⟩
abbrev main_call1_call0_v117 : Ref sig .tc := ⟨.hbm, 321, rfl⟩
abbrev main_call1_call0_c_30 : Ref sig .tc := ⟨.hbm, 322, rfl⟩
abbrev main_call1_call0_v118 : Ref sig .tc := ⟨.hbm, 323, rfl⟩
abbrev main_call1_call0_v119 : Ref sig .tc := ⟨.hbm, 324, rfl⟩
abbrev main_call1_call0_v120 : Ref sig .tc := ⟨.hbm, 325, rfl⟩
abbrev main_call1_call0_v121 : Ref sig .tc := ⟨.hbm, 326, rfl⟩
abbrev main_call1_call0_v122 : Ref sig .tc := ⟨.hbm, 327, rfl⟩
abbrev main_call1_call0_c_31 : Ref sig .tc := ⟨.hbm, 328, rfl⟩
abbrev main_call1_call0_v123 : Ref sig .tc := ⟨.hbm, 329, rfl⟩
abbrev main_call1_call0_v124 : Ref sig .tc := ⟨.hbm, 330, rfl⟩
abbrev main_call1_call0_c_32 : Ref sig .tc := ⟨.hbm, 331, rfl⟩
abbrev main_call1_call0_v125 : Ref sig .tc := ⟨.hbm, 332, rfl⟩
abbrev main_call1_call0_v126 : Ref sig .tc := ⟨.hbm, 333, rfl⟩
abbrev main_call1_call0_v127 : Ref sig .tc := ⟨.hbm, 334, rfl⟩
abbrev main_call1_call0_v128 : Ref sig .tc := ⟨.hbm, 335, rfl⟩
abbrev main_call1_call0_v129 : Ref sig .tc := ⟨.hbm, 336, rfl⟩
abbrev main_call1_call0_c_33 : Ref sig .tc := ⟨.hbm, 337, rfl⟩
abbrev main_call1_call0_v130 : Ref sig .tc := ⟨.hbm, 338, rfl⟩
abbrev main_call1_call0_v131 : Ref sig .tc := ⟨.hbm, 339, rfl⟩
abbrev main_call1_call0_c_34 : Ref sig .tc := ⟨.hbm, 340, rfl⟩
abbrev main_call1_call0_v132 : Ref sig .tc := ⟨.hbm, 341, rfl⟩
abbrev main_call1_call0_v133 : Ref sig .tc := ⟨.hbm, 342, rfl⟩
abbrev main_call1_call0_v134 : Ref sig .tc := ⟨.hbm, 343, rfl⟩
abbrev main_call1_call0_v135 : Ref sig .tc := ⟨.hbm, 344, rfl⟩
abbrev main_call1_call0_v136 : Ref sig .tc := ⟨.hbm, 345, rfl⟩
abbrev main_call1_call0_v137 : Ref sig .tc := ⟨.hbm, 346, rfl⟩
abbrev main_call1_call0_v138 : Ref sig .tc := ⟨.hbm, 347, rfl⟩
abbrev main_call1_call0_v139 : Ref sig .tc := ⟨.hbm, 348, rfl⟩
abbrev main_call1_call0_c_35 : Ref sig .tc := ⟨.hbm, 349, rfl⟩
abbrev main_call1_call0_v140 : Ref sig .tc := ⟨.hbm, 350, rfl⟩
abbrev main_call1_call0_v141 : Ref sig .tc := ⟨.hbm, 351, rfl⟩
abbrev main_call1_call0_v142 : Ref sig .tc := ⟨.hbm, 352, rfl⟩
abbrev main_call1_call0_c_36 : Ref sig .tc := ⟨.hbm, 353, rfl⟩
abbrev main_call1_call0_v143 : Ref sig .tc := ⟨.hbm, 354, rfl⟩
abbrev main_call1_call0_v144 : Ref sig .tc := ⟨.hbm, 355, rfl⟩
abbrev main_call1_call0_c_37 : Ref sig .tc := ⟨.hbm, 356, rfl⟩
abbrev main_call1_call0_v145 : Ref sig .tc := ⟨.hbm, 357, rfl⟩
abbrev main_call1_call0_v146 : Ref sig .tc := ⟨.hbm, 358, rfl⟩
abbrev main_call1_call0_v147 : Ref sig .tc := ⟨.hbm, 359, rfl⟩
abbrev main_call1_call0_v148 : Ref sig .tc := ⟨.hbm, 360, rfl⟩
abbrev main_call1_call0_v149 : Ref sig .tc := ⟨.hbm, 361, rfl⟩
abbrev main_call1_call0_c_38 : Ref sig .tc := ⟨.hbm, 362, rfl⟩
abbrev main_call1_call0_v150 : Ref sig .tc := ⟨.hbm, 363, rfl⟩
abbrev main_call1_call0_v151 : Ref sig .tc := ⟨.hbm, 364, rfl⟩
abbrev main_call1_call0_c_39 : Ref sig .tc := ⟨.hbm, 365, rfl⟩
abbrev main_call1_call0_v152 : Ref sig .tc := ⟨.hbm, 366, rfl⟩
abbrev main_call1_call0_v153 : Ref sig .tc := ⟨.hbm, 367, rfl⟩
abbrev main_call1_call0_v154 : Ref sig .tc := ⟨.hbm, 368, rfl⟩
abbrev main_call1_call0_v155 : Ref sig .tc := ⟨.hbm, 369, rfl⟩
abbrev main_call1_call0_v156 : Ref sig .tc := ⟨.hbm, 370, rfl⟩
abbrev main_call1_call0_c_40 : Ref sig .tc := ⟨.hbm, 371, rfl⟩
abbrev main_call1_call0_v157 : Ref sig .tc := ⟨.hbm, 372, rfl⟩
abbrev main_call1_call0_v158 : Ref sig .tc := ⟨.hbm, 373, rfl⟩
abbrev main_call1_call0_c_41 : Ref sig .tc := ⟨.hbm, 374, rfl⟩
abbrev main_call1_call0_v159 : Ref sig .tc := ⟨.hbm, 375, rfl⟩
abbrev main_call1_call0_v160 : Ref sig .tc := ⟨.hbm, 376, rfl⟩
abbrev main_call1_call0_v161 : Ref sig .tc := ⟨.hbm, 377, rfl⟩
abbrev main_call1_call0_v162 : Ref sig .tc := ⟨.hbm, 378, rfl⟩
abbrev main_call1_call0_v163 : Ref sig .tc := ⟨.hbm, 379, rfl⟩
abbrev main_call1_call0_c_42 : Ref sig .tc := ⟨.hbm, 380, rfl⟩
abbrev main_call1_call0_v164 : Ref sig .tc := ⟨.hbm, 381, rfl⟩
abbrev main_call1_call0_v165 : Ref sig .tc := ⟨.hbm, 382, rfl⟩
abbrev main_call1_call0_c_43 : Ref sig .tc := ⟨.hbm, 383, rfl⟩
abbrev main_call1_call0_v166 : Ref sig .tc := ⟨.hbm, 384, rfl⟩
abbrev main_call1_call0_v167 : Ref sig .tc := ⟨.hbm, 385, rfl⟩
abbrev main_call1_call0_v168 : Ref sig .tc := ⟨.hbm, 386, rfl⟩
abbrev main_call1_call0_v169 : Ref sig .tc := ⟨.hbm, 387, rfl⟩
abbrev main_call1_call0_v170 : Ref sig .tc := ⟨.hbm, 388, rfl⟩
abbrev main_call1_v11_0 : Ref sig .tc := ⟨.hbm, 389, rfl⟩
abbrev main_call1_call0_v172 : Ref sig .tc := ⟨.hbm, 390, rfl⟩
abbrev main_call1_call0_v173 : Ref sig .tc := ⟨.hbm, 391, rfl⟩
abbrev main_call1_call0_c_44 : Ref sig .tc := ⟨.hbm, 392, rfl⟩
abbrev main_call1_call0_v174 : Ref sig .tc := ⟨.hbm, 393, rfl⟩
abbrev main_call1_v11_1 : Ref sig .tc := ⟨.hbm, 394, rfl⟩
abbrev main_v108 : Ref sig .tc := ⟨.hbm, 395, rfl⟩
abbrev main_cst_16 : Ref sig .tc := ⟨.hbm, 396, rfl⟩
abbrev main_cst_17 : Ref sig .tc := ⟨.hbm, 397, rfl⟩
abbrev main_call2_v0 : Ref sig .tc := ⟨.hbm, 398, rfl⟩
abbrev main_call2_v1 : Ref sig .tc := ⟨.hbm, 399, rfl⟩
abbrev main_call2_v2 : Ref sig .tc := ⟨.hbm, 400, rfl⟩
abbrev main_call2_v3 : Ref sig .tc := ⟨.hbm, 401, rfl⟩
abbrev main_call2_v4 : Ref sig .tc := ⟨.hbm, 402, rfl⟩
abbrev main_call2_v5 : Ref sig .tc := ⟨.hbm, 403, rfl⟩
abbrev main_call2_v6 : Ref sig .tc := ⟨.hbm, 404, rfl⟩
abbrev main_call2_v7 : Ref sig .tc := ⟨.hbm, 405, rfl⟩
abbrev main_call2_v8 : Ref sig .tc := ⟨.hbm, 406, rfl⟩
abbrev main_call2_v9 : Ref sig .tc := ⟨.hbm, 407, rfl⟩
abbrev main_call2_c : Ref sig .tc := ⟨.hbm, 408, rfl⟩
abbrev main_call2_v10 : Ref sig .tc := ⟨.hbm, 409, rfl⟩
abbrev main_call2_v11 : Ref sig .tc := ⟨.hbm, 410, rfl⟩
abbrev main_call2_c_0 : Ref sig .tc := ⟨.hbm, 411, rfl⟩
abbrev main_call2_v12 : Ref sig .tc := ⟨.hbm, 412, rfl⟩
abbrev main_call2_v13 : Ref sig .tc := ⟨.hbm, 413, rfl⟩
abbrev main_call2_v14 : Ref sig .tc := ⟨.hbm, 414, rfl⟩
abbrev main_call2_c_1 : Ref sig .tc := ⟨.hbm, 415, rfl⟩
abbrev main_call2_v15 : Ref sig .tc := ⟨.hbm, 416, rfl⟩
abbrev main_call2_v16 : Ref sig .tc := ⟨.hbm, 417, rfl⟩
abbrev main_call2_v17 : Ref sig .tc := ⟨.hbm, 418, rfl⟩
abbrev main_call2_v18 : Ref sig .tc := ⟨.hbm, 419, rfl⟩
abbrev main_call2_call0_v0 : Ref sig .tc := ⟨.hbm, 420, rfl⟩
abbrev main_call2_call0_c : Ref sig .tc := ⟨.hbm, 421, rfl⟩
abbrev main_call2_call0_v1 : Ref sig .tc := ⟨.hbm, 422, rfl⟩
abbrev main_call2_call0_v2 : Ref sig .tc := ⟨.hbm, 423, rfl⟩
abbrev main_call2_call0_v3 : Ref sig .tc := ⟨.hbm, 424, rfl⟩
abbrev main_call2_call0_v4 : Ref sig .tc := ⟨.hbm, 425, rfl⟩
abbrev main_call2_call0_v5 : Ref sig .tc := ⟨.hbm, 426, rfl⟩
abbrev main_call2_call0_v6 : Ref sig .tc := ⟨.hbm, 427, rfl⟩
abbrev main_call2_call0_c_0 : Ref sig .tc := ⟨.hbm, 428, rfl⟩
abbrev main_call2_call0_v7 : Ref sig .tc := ⟨.hbm, 429, rfl⟩
abbrev main_call2_call0_v8 : Ref sig .tc := ⟨.hbm, 430, rfl⟩
abbrev main_call2_call0_c_1 : Ref sig .tc := ⟨.hbm, 431, rfl⟩
abbrev main_call2_call0_v9 : Ref sig .tc := ⟨.hbm, 432, rfl⟩
abbrev main_call2_call0_v10 : Ref sig .tc := ⟨.hbm, 433, rfl⟩
abbrev main_call2_call0_v11 : Ref sig .tc := ⟨.hbm, 434, rfl⟩
abbrev main_call2_call0_v12 : Ref sig .tc := ⟨.hbm, 435, rfl⟩
abbrev main_call2_call0_v13 : Ref sig .tc := ⟨.hbm, 436, rfl⟩
abbrev main_call2_call0_c_2 : Ref sig .tc := ⟨.hbm, 437, rfl⟩
abbrev main_call2_call0_v14 : Ref sig .tc := ⟨.hbm, 438, rfl⟩
abbrev main_call2_call0_v15 : Ref sig .tc := ⟨.hbm, 439, rfl⟩
abbrev main_call2_call0_c_3 : Ref sig .tc := ⟨.hbm, 440, rfl⟩
abbrev main_call2_call0_v16 : Ref sig .tc := ⟨.hbm, 441, rfl⟩
abbrev main_call2_call0_v17 : Ref sig .tc := ⟨.hbm, 442, rfl⟩
abbrev main_call2_call0_v18 : Ref sig .tc := ⟨.hbm, 443, rfl⟩
abbrev main_call2_call0_v19 : Ref sig .tc := ⟨.hbm, 444, rfl⟩
abbrev main_call2_call0_v20 : Ref sig .tc := ⟨.hbm, 445, rfl⟩
abbrev main_call2_call0_c_4 : Ref sig .tc := ⟨.hbm, 446, rfl⟩
abbrev main_call2_call0_v21 : Ref sig .tc := ⟨.hbm, 447, rfl⟩
abbrev main_call2_call0_v22 : Ref sig .tc := ⟨.hbm, 448, rfl⟩
abbrev main_call2_call0_c_5 : Ref sig .tc := ⟨.hbm, 449, rfl⟩
abbrev main_call2_call0_v23 : Ref sig .tc := ⟨.hbm, 450, rfl⟩
abbrev main_call2_call0_v24 : Ref sig .tc := ⟨.hbm, 451, rfl⟩
abbrev main_call2_call0_v25 : Ref sig .tc := ⟨.hbm, 452, rfl⟩
abbrev main_call2_call0_v26 : Ref sig .tc := ⟨.hbm, 453, rfl⟩
abbrev main_call2_call0_v27 : Ref sig .tc := ⟨.hbm, 454, rfl⟩
abbrev main_call2_call0_c_6 : Ref sig .tc := ⟨.hbm, 455, rfl⟩
abbrev main_call2_call0_v28 : Ref sig .tc := ⟨.hbm, 456, rfl⟩
abbrev main_call2_call0_v29 : Ref sig .tc := ⟨.hbm, 457, rfl⟩
abbrev main_call2_call0_c_7 : Ref sig .tc := ⟨.hbm, 458, rfl⟩
abbrev main_call2_call0_v30 : Ref sig .tc := ⟨.hbm, 459, rfl⟩
abbrev main_call2_call0_v31 : Ref sig .tc := ⟨.hbm, 460, rfl⟩
abbrev main_call2_call0_v32 : Ref sig .tc := ⟨.hbm, 461, rfl⟩
abbrev main_call2_call0_v33 : Ref sig .tc := ⟨.hbm, 462, rfl⟩
abbrev main_call2_call0_v34 : Ref sig .tc := ⟨.hbm, 463, rfl⟩
abbrev main_call2_call0_v35 : Ref sig .tc := ⟨.hbm, 464, rfl⟩
abbrev main_call2_call0_v36 : Ref sig .tc := ⟨.hbm, 465, rfl⟩
abbrev main_call2_call0_v37 : Ref sig .tc := ⟨.hbm, 466, rfl⟩
abbrev main_call2_call0_c_8 : Ref sig .tc := ⟨.hbm, 467, rfl⟩
abbrev main_call2_call0_v38 : Ref sig .tc := ⟨.hbm, 468, rfl⟩
abbrev main_call2_call0_v39 : Ref sig .tc := ⟨.hbm, 469, rfl⟩
abbrev main_call2_call0_v40 : Ref sig .tc := ⟨.hbm, 470, rfl⟩
abbrev main_call2_call0_c_9 : Ref sig .tc := ⟨.hbm, 471, rfl⟩
abbrev main_call2_call0_v41 : Ref sig .tc := ⟨.hbm, 472, rfl⟩
abbrev main_call2_call0_v42 : Ref sig .tc := ⟨.hbm, 473, rfl⟩
abbrev main_call2_call0_c_10 : Ref sig .tc := ⟨.hbm, 474, rfl⟩
abbrev main_call2_call0_v43 : Ref sig .tc := ⟨.hbm, 475, rfl⟩
abbrev main_call2_call0_v44 : Ref sig .tc := ⟨.hbm, 476, rfl⟩
abbrev main_call2_call0_v45 : Ref sig .tc := ⟨.hbm, 477, rfl⟩
abbrev main_call2_call0_v46 : Ref sig .tc := ⟨.hbm, 478, rfl⟩
abbrev main_call2_call0_v47 : Ref sig .tc := ⟨.hbm, 479, rfl⟩
abbrev main_call2_call0_c_11 : Ref sig .tc := ⟨.hbm, 480, rfl⟩
abbrev main_call2_call0_v48 : Ref sig .tc := ⟨.hbm, 481, rfl⟩
abbrev main_call2_call0_v49 : Ref sig .tc := ⟨.hbm, 482, rfl⟩
abbrev main_call2_call0_c_12 : Ref sig .tc := ⟨.hbm, 483, rfl⟩
abbrev main_call2_call0_v50 : Ref sig .tc := ⟨.hbm, 484, rfl⟩
abbrev main_call2_call0_v51 : Ref sig .tc := ⟨.hbm, 485, rfl⟩
abbrev main_call2_call0_v52 : Ref sig .tc := ⟨.hbm, 486, rfl⟩
abbrev main_call2_call0_v53 : Ref sig .tc := ⟨.hbm, 487, rfl⟩
abbrev main_call2_call0_v54 : Ref sig .tc := ⟨.hbm, 488, rfl⟩
abbrev main_call2_call0_c_13 : Ref sig .tc := ⟨.hbm, 489, rfl⟩
abbrev main_call2_call0_v55 : Ref sig .tc := ⟨.hbm, 490, rfl⟩
abbrev main_call2_call0_v56 : Ref sig .tc := ⟨.hbm, 491, rfl⟩
abbrev main_call2_call0_c_14 : Ref sig .tc := ⟨.hbm, 492, rfl⟩
abbrev main_call2_call0_v57 : Ref sig .tc := ⟨.hbm, 493, rfl⟩
abbrev main_call2_call0_v58 : Ref sig .tc := ⟨.hbm, 494, rfl⟩
abbrev main_call2_call0_v59 : Ref sig .tc := ⟨.hbm, 495, rfl⟩
abbrev main_call2_call0_v60 : Ref sig .tc := ⟨.hbm, 496, rfl⟩
abbrev main_call2_call0_v61 : Ref sig .tc := ⟨.hbm, 497, rfl⟩
abbrev main_call2_call0_c_15 : Ref sig .tc := ⟨.hbm, 498, rfl⟩
abbrev main_call2_call0_v62 : Ref sig .tc := ⟨.hbm, 499, rfl⟩
abbrev main_call2_call0_v63 : Ref sig .tc := ⟨.hbm, 500, rfl⟩
abbrev main_call2_call0_c_16 : Ref sig .tc := ⟨.hbm, 501, rfl⟩
abbrev main_call2_call0_v64 : Ref sig .tc := ⟨.hbm, 502, rfl⟩
abbrev main_call2_call0_v65 : Ref sig .tc := ⟨.hbm, 503, rfl⟩
abbrev main_call2_call0_v66 : Ref sig .tc := ⟨.hbm, 504, rfl⟩
abbrev main_call2_call0_v67 : Ref sig .tc := ⟨.hbm, 505, rfl⟩
abbrev main_call2_call0_v68 : Ref sig .tc := ⟨.hbm, 506, rfl⟩
abbrev main_call2_call0_v69 : Ref sig .tc := ⟨.hbm, 507, rfl⟩
abbrev main_call2_call0_v70 : Ref sig .tc := ⟨.hbm, 508, rfl⟩
abbrev main_call2_call0_v71 : Ref sig .tc := ⟨.hbm, 509, rfl⟩
abbrev main_call2_call0_c_17 : Ref sig .tc := ⟨.hbm, 510, rfl⟩
abbrev main_call2_call0_v72 : Ref sig .tc := ⟨.hbm, 511, rfl⟩
abbrev main_call2_call0_v73 : Ref sig .tc := ⟨.hbm, 512, rfl⟩
abbrev main_call2_call0_v74 : Ref sig .tc := ⟨.hbm, 513, rfl⟩
abbrev main_call2_call0_c_18 : Ref sig .tc := ⟨.hbm, 514, rfl⟩
abbrev main_call2_call0_v75 : Ref sig .tc := ⟨.hbm, 515, rfl⟩
abbrev main_call2_call0_v76 : Ref sig .tc := ⟨.hbm, 516, rfl⟩
abbrev main_call2_call0_c_19 : Ref sig .tc := ⟨.hbm, 517, rfl⟩
abbrev main_call2_call0_v77 : Ref sig .tc := ⟨.hbm, 518, rfl⟩
abbrev main_call2_call0_v78 : Ref sig .tc := ⟨.hbm, 519, rfl⟩
abbrev main_call2_call0_v79 : Ref sig .tc := ⟨.hbm, 520, rfl⟩
abbrev main_call2_call0_v80 : Ref sig .tc := ⟨.hbm, 521, rfl⟩
abbrev main_call2_call0_v81 : Ref sig .tc := ⟨.hbm, 522, rfl⟩
abbrev main_call2_call0_c_20 : Ref sig .tc := ⟨.hbm, 523, rfl⟩
abbrev main_call2_call0_v82 : Ref sig .tc := ⟨.hbm, 524, rfl⟩
abbrev main_call2_call0_v83 : Ref sig .tc := ⟨.hbm, 525, rfl⟩
abbrev main_call2_call0_c_21 : Ref sig .tc := ⟨.hbm, 526, rfl⟩
abbrev main_call2_call0_v84 : Ref sig .tc := ⟨.hbm, 527, rfl⟩
abbrev main_call2_call0_v85 : Ref sig .tc := ⟨.hbm, 528, rfl⟩
abbrev main_call2_call0_v86 : Ref sig .tc := ⟨.hbm, 529, rfl⟩
abbrev main_call2_call0_v87 : Ref sig .tc := ⟨.hbm, 530, rfl⟩
abbrev main_call2_call0_v88 : Ref sig .tc := ⟨.hbm, 531, rfl⟩
abbrev main_call2_call0_c_22 : Ref sig .tc := ⟨.hbm, 532, rfl⟩
abbrev main_call2_call0_v89 : Ref sig .tc := ⟨.hbm, 533, rfl⟩
abbrev main_call2_call0_v90 : Ref sig .tc := ⟨.hbm, 534, rfl⟩
abbrev main_call2_call0_c_23 : Ref sig .tc := ⟨.hbm, 535, rfl⟩
abbrev main_call2_call0_v91 : Ref sig .tc := ⟨.hbm, 536, rfl⟩
abbrev main_call2_call0_v92 : Ref sig .tc := ⟨.hbm, 537, rfl⟩
abbrev main_call2_call0_v93 : Ref sig .tc := ⟨.hbm, 538, rfl⟩
abbrev main_call2_call0_v94 : Ref sig .tc := ⟨.hbm, 539, rfl⟩
abbrev main_call2_call0_v95 : Ref sig .tc := ⟨.hbm, 540, rfl⟩
abbrev main_call2_call0_c_24 : Ref sig .tc := ⟨.hbm, 541, rfl⟩
abbrev main_call2_call0_v96 : Ref sig .tc := ⟨.hbm, 542, rfl⟩
abbrev main_call2_call0_v97 : Ref sig .tc := ⟨.hbm, 543, rfl⟩
abbrev main_call2_call0_c_25 : Ref sig .tc := ⟨.hbm, 544, rfl⟩
abbrev main_call2_call0_v98 : Ref sig .tc := ⟨.hbm, 545, rfl⟩
abbrev main_call2_call0_v99 : Ref sig .tc := ⟨.hbm, 546, rfl⟩
abbrev main_call2_call0_v100 : Ref sig .tc := ⟨.hbm, 547, rfl⟩
abbrev main_call2_call0_v101 : Ref sig .tc := ⟨.hbm, 548, rfl⟩
abbrev main_call2_call0_v102 : Ref sig .tc := ⟨.hbm, 549, rfl⟩
abbrev main_call2_call0_v103 : Ref sig .tc := ⟨.hbm, 550, rfl⟩
abbrev main_call2_call0_v104 : Ref sig .tc := ⟨.hbm, 551, rfl⟩
abbrev main_call2_call0_v105 : Ref sig .tc := ⟨.hbm, 552, rfl⟩
abbrev main_call2_call0_c_26 : Ref sig .tc := ⟨.hbm, 553, rfl⟩
abbrev main_call2_call0_v106 : Ref sig .tc := ⟨.hbm, 554, rfl⟩
abbrev main_call2_call0_v107 : Ref sig .tc := ⟨.hbm, 555, rfl⟩
abbrev main_call2_call0_v108 : Ref sig .tc := ⟨.hbm, 556, rfl⟩
abbrev main_call2_call0_c_27 : Ref sig .tc := ⟨.hbm, 557, rfl⟩
abbrev main_call2_call0_v109 : Ref sig .tc := ⟨.hbm, 558, rfl⟩
abbrev main_call2_call0_v110 : Ref sig .tc := ⟨.hbm, 559, rfl⟩
abbrev main_call2_call0_c_28 : Ref sig .tc := ⟨.hbm, 560, rfl⟩
abbrev main_call2_call0_v111 : Ref sig .tc := ⟨.hbm, 561, rfl⟩
abbrev main_call2_call0_v112 : Ref sig .tc := ⟨.hbm, 562, rfl⟩
abbrev main_call2_call0_v113 : Ref sig .tc := ⟨.hbm, 563, rfl⟩
abbrev main_call2_call0_v114 : Ref sig .tc := ⟨.hbm, 564, rfl⟩
abbrev main_call2_call0_v115 : Ref sig .tc := ⟨.hbm, 565, rfl⟩
abbrev main_call2_call0_c_29 : Ref sig .tc := ⟨.hbm, 566, rfl⟩
abbrev main_call2_call0_v116 : Ref sig .tc := ⟨.hbm, 567, rfl⟩
abbrev main_call2_call0_v117 : Ref sig .tc := ⟨.hbm, 568, rfl⟩
abbrev main_call2_call0_c_30 : Ref sig .tc := ⟨.hbm, 569, rfl⟩
abbrev main_call2_call0_v118 : Ref sig .tc := ⟨.hbm, 570, rfl⟩
abbrev main_call2_call0_v119 : Ref sig .tc := ⟨.hbm, 571, rfl⟩
abbrev main_call2_call0_v120 : Ref sig .tc := ⟨.hbm, 572, rfl⟩
abbrev main_call2_call0_v121 : Ref sig .tc := ⟨.hbm, 573, rfl⟩
abbrev main_call2_call0_v122 : Ref sig .tc := ⟨.hbm, 574, rfl⟩
abbrev main_call2_call0_c_31 : Ref sig .tc := ⟨.hbm, 575, rfl⟩
abbrev main_call2_call0_v123 : Ref sig .tc := ⟨.hbm, 576, rfl⟩
abbrev main_call2_call0_v124 : Ref sig .tc := ⟨.hbm, 577, rfl⟩
abbrev main_call2_call0_c_32 : Ref sig .tc := ⟨.hbm, 578, rfl⟩
abbrev main_call2_call0_v125 : Ref sig .tc := ⟨.hbm, 579, rfl⟩
abbrev main_call2_call0_v126 : Ref sig .tc := ⟨.hbm, 580, rfl⟩
abbrev main_call2_call0_v127 : Ref sig .tc := ⟨.hbm, 581, rfl⟩
abbrev main_call2_call0_v128 : Ref sig .tc := ⟨.hbm, 582, rfl⟩
abbrev main_call2_call0_v129 : Ref sig .tc := ⟨.hbm, 583, rfl⟩
abbrev main_call2_call0_c_33 : Ref sig .tc := ⟨.hbm, 584, rfl⟩
abbrev main_call2_call0_v130 : Ref sig .tc := ⟨.hbm, 585, rfl⟩
abbrev main_call2_call0_v131 : Ref sig .tc := ⟨.hbm, 586, rfl⟩
abbrev main_call2_call0_c_34 : Ref sig .tc := ⟨.hbm, 587, rfl⟩
abbrev main_call2_call0_v132 : Ref sig .tc := ⟨.hbm, 588, rfl⟩
abbrev main_call2_call0_v133 : Ref sig .tc := ⟨.hbm, 589, rfl⟩
abbrev main_call2_call0_v134 : Ref sig .tc := ⟨.hbm, 590, rfl⟩
abbrev main_call2_call0_v135 : Ref sig .tc := ⟨.hbm, 591, rfl⟩
abbrev main_call2_call0_v136 : Ref sig .tc := ⟨.hbm, 592, rfl⟩
abbrev main_call2_call0_v137 : Ref sig .tc := ⟨.hbm, 593, rfl⟩
abbrev main_call2_call0_v138 : Ref sig .tc := ⟨.hbm, 594, rfl⟩
abbrev main_call2_call0_v139 : Ref sig .tc := ⟨.hbm, 595, rfl⟩
abbrev main_call2_call0_c_35 : Ref sig .tc := ⟨.hbm, 596, rfl⟩
abbrev main_call2_call0_v140 : Ref sig .tc := ⟨.hbm, 597, rfl⟩
abbrev main_call2_call0_v141 : Ref sig .tc := ⟨.hbm, 598, rfl⟩
abbrev main_call2_call0_v142 : Ref sig .tc := ⟨.hbm, 599, rfl⟩
abbrev main_call2_call0_c_36 : Ref sig .tc := ⟨.hbm, 600, rfl⟩
abbrev main_call2_call0_v143 : Ref sig .tc := ⟨.hbm, 601, rfl⟩
abbrev main_call2_call0_v144 : Ref sig .tc := ⟨.hbm, 602, rfl⟩
abbrev main_call2_call0_c_37 : Ref sig .tc := ⟨.hbm, 603, rfl⟩
abbrev main_call2_call0_v145 : Ref sig .tc := ⟨.hbm, 604, rfl⟩
abbrev main_call2_call0_v146 : Ref sig .tc := ⟨.hbm, 605, rfl⟩
abbrev main_call2_call0_v147 : Ref sig .tc := ⟨.hbm, 606, rfl⟩
abbrev main_call2_call0_v148 : Ref sig .tc := ⟨.hbm, 607, rfl⟩
abbrev main_call2_call0_v149 : Ref sig .tc := ⟨.hbm, 608, rfl⟩
abbrev main_call2_call0_c_38 : Ref sig .tc := ⟨.hbm, 609, rfl⟩
abbrev main_call2_call0_v150 : Ref sig .tc := ⟨.hbm, 610, rfl⟩
abbrev main_call2_call0_v151 : Ref sig .tc := ⟨.hbm, 611, rfl⟩
abbrev main_call2_call0_c_39 : Ref sig .tc := ⟨.hbm, 612, rfl⟩
abbrev main_call2_call0_v152 : Ref sig .tc := ⟨.hbm, 613, rfl⟩
abbrev main_call2_call0_v153 : Ref sig .tc := ⟨.hbm, 614, rfl⟩
abbrev main_call2_call0_v154 : Ref sig .tc := ⟨.hbm, 615, rfl⟩
abbrev main_call2_call0_v155 : Ref sig .tc := ⟨.hbm, 616, rfl⟩
abbrev main_call2_call0_v156 : Ref sig .tc := ⟨.hbm, 617, rfl⟩
abbrev main_call2_call0_c_40 : Ref sig .tc := ⟨.hbm, 618, rfl⟩
abbrev main_call2_call0_v157 : Ref sig .tc := ⟨.hbm, 619, rfl⟩
abbrev main_call2_call0_v158 : Ref sig .tc := ⟨.hbm, 620, rfl⟩
abbrev main_call2_call0_c_41 : Ref sig .tc := ⟨.hbm, 621, rfl⟩
abbrev main_call2_call0_v159 : Ref sig .tc := ⟨.hbm, 622, rfl⟩
abbrev main_call2_call0_v160 : Ref sig .tc := ⟨.hbm, 623, rfl⟩
abbrev main_call2_call0_v161 : Ref sig .tc := ⟨.hbm, 624, rfl⟩
abbrev main_call2_call0_v162 : Ref sig .tc := ⟨.hbm, 625, rfl⟩
abbrev main_call2_call0_v163 : Ref sig .tc := ⟨.hbm, 626, rfl⟩
abbrev main_call2_call0_c_42 : Ref sig .tc := ⟨.hbm, 627, rfl⟩
abbrev main_call2_call0_v164 : Ref sig .tc := ⟨.hbm, 628, rfl⟩
abbrev main_call2_call0_v165 : Ref sig .tc := ⟨.hbm, 629, rfl⟩
abbrev main_call2_call0_c_43 : Ref sig .tc := ⟨.hbm, 630, rfl⟩
abbrev main_call2_call0_v166 : Ref sig .tc := ⟨.hbm, 631, rfl⟩
abbrev main_call2_call0_v167 : Ref sig .tc := ⟨.hbm, 632, rfl⟩
abbrev main_call2_call0_v168 : Ref sig .tc := ⟨.hbm, 633, rfl⟩
abbrev main_call2_call0_v169 : Ref sig .tc := ⟨.hbm, 634, rfl⟩
abbrev main_call2_call0_v170 : Ref sig .tc := ⟨.hbm, 635, rfl⟩
abbrev main_call2_v19_0 : Ref sig .tc := ⟨.hbm, 636, rfl⟩
abbrev main_call2_call0_v172 : Ref sig .tc := ⟨.hbm, 637, rfl⟩
abbrev main_call2_call0_v173 : Ref sig .tc := ⟨.hbm, 638, rfl⟩
abbrev main_call2_call0_c_44 : Ref sig .tc := ⟨.hbm, 639, rfl⟩
abbrev main_call2_call0_v174 : Ref sig .tc := ⟨.hbm, 640, rfl⟩
abbrev main_call2_v19_1 : Ref sig .tc := ⟨.hbm, 641, rfl⟩
abbrev main_call2_v20 : Ref sig .tc := ⟨.hbm, 642, rfl⟩
abbrev main_call2_c_2 : Ref sig .tc := ⟨.hbm, 643, rfl⟩
abbrev main_call2_v21 : Ref sig .tc := ⟨.hbm, 644, rfl⟩
abbrev main_call2_v22 : Ref sig .tc := ⟨.hbm, 645, rfl⟩
abbrev main_call2_c_3 : Ref sig .tc := ⟨.hbm, 646, rfl⟩
abbrev main_call2_v23 : Ref sig .tc := ⟨.hbm, 647, rfl⟩
abbrev main_call2_v24 : Ref sig .tc := ⟨.hbm, 648, rfl⟩
abbrev main_call2_v25 : Ref sig .tc := ⟨.hbm, 649, rfl⟩
abbrev main_call2_cst : Ref sig .tc := ⟨.hbm, 650, rfl⟩
abbrev main_call2_v26 : Ref sig .tc := ⟨.hbm, 651, rfl⟩
abbrev main_call2_v27 : Ref sig .tc := ⟨.hbm, 652, rfl⟩
abbrev main_call2_v28 : Ref sig .tc := ⟨.hbm, 653, rfl⟩
abbrev main_call2_v29 : Ref sig .tc := ⟨.hbm, 654, rfl⟩
abbrev main_call2_v30 : Ref sig .tc := ⟨.hbm, 655, rfl⟩
abbrev main_call2_v31 : Ref sig .tc := ⟨.hbm, 656, rfl⟩
abbrev main_call2_v32 : Ref sig .tc := ⟨.hbm, 657, rfl⟩
abbrev main_call2_v33 : Ref sig .tc := ⟨.hbm, 658, rfl⟩
abbrev main_v109 : Ref sig .tc := ⟨.hbm, 659, rfl⟩
abbrev main_v110 : Ref sig .tc := ⟨.hbm, 660, rfl⟩
abbrev main_v111 : Ref sig .tc := ⟨.hbm, 661, rfl⟩
abbrev main_v112 : Ref sig .tc := ⟨.hbm, 662, rfl⟩
abbrev main_v113 : Ref sig .tc := ⟨.hbm, 663, rfl⟩
abbrev main_v114 : Ref sig .tc := ⟨.hbm, 664, rfl⟩
abbrev main_v115_0 : Ref sig .tc := ⟨.hbm, 665, rfl⟩
abbrev main_v115_1 : Ref sig .tc := ⟨.hbm, 666, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg19_0 : Ref sig .tc := ⟨.vmem, 27, rfl⟩
abbrev cc0_stg20_0 : Ref sig .tc := ⟨.vmem, 28, rfl⟩
abbrev cc0_stg21_0 : Ref sig .tc := ⟨.vmem, 29, rfl⟩
abbrev cc0_stg22_0 : Ref sig .tc := ⟨.vmem, 30, rfl⟩
abbrev cc0_stg23_0 : Ref sig .tc := ⟨.vmem, 31, rfl⟩
abbrev cc0_stg24_0 : Ref sig .tc := ⟨.vmem, 32, rfl⟩
abbrev cc0_stg25_0 : Ref sig .tc := ⟨.vmem, 33, rfl⟩
abbrev cc0_stg26_0 : Ref sig .tc := ⟨.vmem, 34, rfl⟩
abbrev cc0_stg27_0 : Ref sig .tc := ⟨.vmem, 35, rfl⟩
abbrev cc0_stg28_0 : Ref sig .tc := ⟨.vmem, 36, rfl⟩
abbrev cc0_stg28_1 : Ref sig .tc := ⟨.vmem, 37, rfl⟩
abbrev cc0_stg29_0 : Ref sig .tc := ⟨.vmem, 38, rfl⟩
abbrev cc0_stg29_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem18_0 : DmaSem sig := 26
abbrev cc0_sem19_0 : DmaSem sig := 27
abbrev cc0_sem20_0 : DmaSem sig := 28
abbrev cc0_sem21_0 : DmaSem sig := 29
abbrev cc0_sem22_0 : DmaSem sig := 30
abbrev cc0_sem23_0 : DmaSem sig := 31
abbrev cc0_sem24_0 : DmaSem sig := 32
abbrev cc0_sem25_0 : DmaSem sig := 33
abbrev cc0_sem26_0 : DmaSem sig := 34
abbrev cc0_sem27_0 : DmaSem sig := 35
abbrev cc0_sem28_0 : DmaSem sig := 36
abbrev cc0_sem28_1 : DmaSem sig := 37
abbrev cc0_sem29_0 : DmaSem sig := 38
abbrev cc0_sem29_1 : DmaSem sig := 39

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_29 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S80x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S80x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S80x32x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2560 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x32x80 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S80x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S32x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x80 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x2560 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32x2560 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S32x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S32x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S32x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S32x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S32x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S32x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x64 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S32x2560 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S32x2560 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S32x32 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S2560x80 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S80x2560 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S2560x32 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S2560x32 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 2 → Memref sig .tc .vmem S80x32 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S80x16 .i32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]
-- ==== ReferenceIdeal.lean ====
abbrev S10000x128 : Shape := ⟨2, ![10000, 128]⟩
abbrev S10000x32x128 : Shape := ⟨3, ![10000, 32, 128]⟩
abbrev S10000x32x16 : Shape := ⟨3, ![10000, 32, 16]⟩
abbrev S10000 : Shape := ⟨1, ![10000]⟩
abbrev S10000x32 : Shape := ⟨2, ![10000, 32]⟩
abbrev S128x32 : Shape := ⟨2, ![128, 32]⟩
abbrev S32 : Shape := ⟨1, ![32]⟩
abbrev S16x32 : Shape := ⟨2, ![16, 32]⟩
abbrev S96x64 : Shape := ⟨2, ![96, 64]⟩
abbrev S64 : Shape := ⟨1, ![64]⟩
abbrev S160x64 : Shape := ⟨2, ![160, 64]⟩
abbrev S1x32 : Shape := ⟨2, ![1, 32]⟩
abbrev S_ : Shape := ⟨0, ![]⟩
abbrev S31 : Shape := ⟨1, ![31]⟩
abbrev S1 : Shape := ⟨1, ![1]⟩
abbrev S10000x1 : Shape := ⟨2, ![10000, 1]⟩
abbrev S10000x96 : Shape := ⟨2, ![10000, 96]⟩
abbrev S320000x128 : Shape := ⟨2, ![320000, 128]⟩
abbrev S320000x32 : Shape := ⟨2, ![320000, 32]⟩
abbrev S320000x16 : Shape := ⟨2, ![320000, 16]⟩
abbrev S320000 : Shape := ⟨1, ![320000]⟩
abbrev S320000x1 : Shape := ⟨2, ![320000, 1]⟩
abbrev S10000x32x1 : Shape := ⟨3, ![10000, 32, 1]⟩
abbrev S10000x1x32 : Shape := ⟨3, ![10000, 1, 32]⟩
abbrev S10000x32x32 : Shape := ⟨3, ![10000, 32, 32]⟩
abbrev S320000x160 : Shape := ⟨2, ![320000, 160]⟩
abbrev S10000x32x160 : Shape := ⟨3, ![10000, 32, 160]⟩
abbrev S10000x64 : Shape := ⟨2, ![10000, 64]⟩
abbrev S1x64 : Shape := ⟨2, ![1, 64]⟩
abbrev S10000x32x64 : Shape := ⟨3, ![10000, 32, 64]⟩
abbrev S1x1x64 : Shape := ⟨3, ![1, 1, 64]⟩
abbrev S2 : Shape := ⟨1, ![2]⟩
abbrev S1x1 : Shape := ⟨2, ![1, 1]⟩
abbrev S10000x16 : Shape := ⟨2, ![10000, 16]⟩

abbrev nBuf : Space → Nat
  | .hbm => 753
  | .vmem => 0
  | .smem => 0
  | _ => 0

abbrev hbmTy0_0 (i : Nat) : BufTy := match i % 128 with
  | 0 => ⟨S10000x128, .f32⟩
  | 1 => ⟨S10000x32x128, .f32⟩
  | 2 => ⟨S10000x32x16, .f32⟩
  | 3 => ⟨S10000, .f32⟩
  | 4 => ⟨S10000x32, .f32⟩
  | 5 => ⟨S10000x32, .i32⟩
  | 6 => ⟨S128x32, .f32⟩
  | 7 => ⟨S32, .f32⟩
  | 8 => ⟨S16x32, .f32⟩
  | 9 => ⟨S32, .f32⟩
  | 10 => ⟨S96x64, .f32⟩
  | 11 => ⟨S64, .f32⟩
  | 12 => ⟨S160x64, .f32⟩
  | 13 => ⟨S64, .f32⟩
  | 14 => ⟨S10000x32, .f32⟩
  | 15 => ⟨S1x32, .f32⟩
  | 16 => ⟨S10000x32, .f32⟩
  | 17 => ⟨S10000x32, .f32⟩
  | 18 => ⟨S_, .f32⟩
  | 19 => ⟨S10000x32, .f32⟩
  | 20 => ⟨S10000x32, .f32⟩
  | 21 => ⟨S_, .f32⟩
  | 22 => ⟨S10000, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S31, .f32⟩
  | 31 => ⟨S_, .f32⟩
  | 32 => ⟨S31, .f32⟩
  | 33 => ⟨S31, .f32⟩
  | 34 => ⟨S1, .f32⟩
  | 35 => ⟨S_, .f32⟩
  | 36 => ⟨S31, .f32⟩
  | 37 => ⟨S31, .f32⟩
  | 38 => ⟨S31, .f32⟩
  | 39 => ⟨S31, .f32⟩
  | 40 => ⟨S1, .f32⟩
  | 41 => ⟨S31, .f32⟩
  | 42 => ⟨S31, .f32⟩
  | 43 => ⟨S31, .f32⟩
  | 44 => ⟨S1, .f32⟩
  | 45 => ⟨S32, .f32⟩
  | 46 => ⟨S_, .f32⟩
  | 47 => ⟨S32, .f32⟩
  | 48 => ⟨S32, .f32⟩
  | 49 => ⟨S_, .f32⟩
  | 50 => ⟨S32, .f32⟩
  | 51 => ⟨S32, .f32⟩
  | 52 => ⟨S10000x1, .f32⟩
  | 53 => ⟨S1x32, .f32⟩
  | 54 => ⟨S10000x32, .f32⟩
  | 55 => ⟨S10000x32, .f32⟩
  | 56 => ⟨S10000x32, .f32⟩
  | 57 => ⟨S10000x32, .f32⟩
  | 58 => ⟨S_, .f32⟩
  | 59 => ⟨S10000, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S31, .f32⟩
  | 68 => ⟨S_, .f32⟩
  | 69 => ⟨S31, .f32⟩
  | 70 => ⟨S31, .f32⟩
  | 71 => ⟨S1, .f32⟩
  | 72 => ⟨S_, .f32⟩
  | 73 => ⟨S31, .f32⟩
  | 74 => ⟨S31, .f32⟩
  | 75 => ⟨S31, .f32⟩
  | 76 => ⟨S31, .f32⟩
  | 77 => ⟨S1, .f32⟩
  | 78 => ⟨S31, .f32⟩
  | 79 => ⟨S31, .f32⟩
  | 80 => ⟨S31, .f32⟩
  | 81 => ⟨S1, .f32⟩
  | 82 => ⟨S32, .f32⟩
  | 83 => ⟨S_, .f32⟩
  | 84 => ⟨S32, .f32⟩
  | 85 => ⟨S32, .f32⟩
  | 86 => ⟨S_, .f32⟩
  | 87 => ⟨S32, .f32⟩
  | 88 => ⟨S32, .f32⟩
  | 89 => ⟨S10000x1, .f32⟩
  | 90 => ⟨S1x32, .f32⟩
  | 91 => ⟨S10000x32, .f32⟩
  | 92 => ⟨S10000x32, .f32⟩
  | 93 => ⟨S10000x32, .f32⟩
  | 94 => ⟨S10000x32, .f32⟩
  | 95 => ⟨S10000x96, .f32⟩
  | 96 => ⟨S320000x128, .f32⟩
  | 97 => ⟨S320000x32, .f32⟩
  | 98 => ⟨S1x32, .f32⟩
  | 99 => ⟨S320000x32, .f32⟩
  | 100 => ⟨S320000x32, .f32⟩
  | 101 => ⟨S_, .f32⟩
  | 102 => ⟨S320000x32, .f32⟩
  | 103 => ⟨S320000x32, .f32⟩
  | 104 => ⟨S320000x16, .f32⟩
  | 105 => ⟨S320000x32, .f32⟩
  | 106 => ⟨S1x32, .f32⟩
  | 107 => ⟨S320000x32, .f32⟩
  | 108 => ⟨S320000x32, .f32⟩
  | 109 => ⟨S_, .f32⟩
  | 110 => ⟨S320000x32, .f32⟩
  | 111 => ⟨S320000x32, .f32⟩
  | 112 => ⟨S10000x1, .f32⟩
  | 113 => ⟨S10000x32, .f32⟩
  | 114 => ⟨S10000x32, .f32⟩
  | 115 => ⟨S320000, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S31, .f32⟩
  | 124 => ⟨S_, .f32⟩
  | 125 => ⟨S31, .f32⟩
  | 126 => ⟨S31, .f32⟩
  | 127 => ⟨S1, .f32⟩
  | _ => ⟨S10000x128, .f32⟩

abbrev hbmTy0_1 (i : Nat) : BufTy := match i % 128 with
  | 0 => ⟨S_, .f32⟩
  | 1 => ⟨S31, .f32⟩
  | 2 => ⟨S31, .f32⟩
  | 3 => ⟨S31, .f32⟩
  | 4 => ⟨S31, .f32⟩
  | 5 => ⟨S1, .f32⟩
  | 6 => ⟨S31, .f32⟩
  | 7 => ⟨S31, .f32⟩
  | 8 => ⟨S31, .f32⟩
  | 9 => ⟨S1, .f32⟩
  | 10 => ⟨S32, .f32⟩
  | 11 => ⟨S_, .f32⟩
  | 12 => ⟨S32, .f32⟩
  | 13 => ⟨S32, .f32⟩
  | 14 => ⟨S_, .f32⟩
  | 15 => ⟨S32, .f32⟩
  | 16 => ⟨S32, .f32⟩
  | 17 => ⟨S320000x1, .f32⟩
  | 18 => ⟨S1x32, .f32⟩
  | 19 => ⟨S320000x32, .f32⟩
  | 20 => ⟨S320000x32, .f32⟩
  | 21 => ⟨S320000x32, .f32⟩
  | 22 => ⟨S320000x32, .f32⟩
  | 23 => ⟨S10000x32x1, .i32⟩
  | 24 => ⟨S10000x1x32, .i32⟩
  | 25 => ⟨S10000x32x32, .i32⟩
  | 26 => ⟨S10000x32x32, .i32⟩
  | 27 => ⟨S10000x32x32, .i1⟩
  | 28 => ⟨S10000x32x32, .i32⟩
  | 29 => ⟨S_, .i32⟩
  | 30 => ⟨S10000x32, .i32⟩
  | 31 => ⟨S10000x32, .f32⟩
  | 32 => ⟨S_, .f32⟩
  | 33 => ⟨S10000x32, .f32⟩
  | 34 => ⟨S10000x32, .f32⟩
  | 35 => ⟨S320000, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S31, .f32⟩
  | 44 => ⟨S_, .f32⟩
  | 45 => ⟨S31, .f32⟩
  | 46 => ⟨S31, .f32⟩
  | 47 => ⟨S1, .f32⟩
  | 48 => ⟨S_, .f32⟩
  | 49 => ⟨S31, .f32⟩
  | 50 => ⟨S31, .f32⟩
  | 51 => ⟨S31, .f32⟩
  | 52 => ⟨S31, .f32⟩
  | 53 => ⟨S1, .f32⟩
  | 54 => ⟨S31, .f32⟩
  | 55 => ⟨S31, .f32⟩
  | 56 => ⟨S31, .f32⟩
  | 57 => ⟨S1, .f32⟩
  | 58 => ⟨S32, .f32⟩
  | 59 => ⟨S_, .f32⟩
  | 60 => ⟨S32, .f32⟩
  | 61 => ⟨S32, .f32⟩
  | 62 => ⟨S_, .f32⟩
  | 63 => ⟨S32, .f32⟩
  | 64 => ⟨S32, .f32⟩
  | 65 => ⟨S320000x1, .f32⟩
  | 66 => ⟨S1x32, .f32⟩
  | 67 => ⟨S320000x32, .f32⟩
  | 68 => ⟨S320000x32, .f32⟩
  | 69 => ⟨S320000x32, .f32⟩
  | 70 => ⟨S320000x32, .f32⟩
  | 71 => ⟨S10000x32x32, .f32⟩
  | 72 => ⟨S320000x32, .f32⟩
  | 73 => ⟨S320000x160, .f32⟩
  | 74 => ⟨S10000x32x160, .f32⟩
  | 75 => ⟨S10000x64, .f32⟩
  | 76 => ⟨S1x64, .f32⟩
  | 77 => ⟨S10000x64, .f32⟩
  | 78 => ⟨S10000x64, .f32⟩
  | 79 => ⟨S10000x32x64, .f32⟩
  | 80 => ⟨S1x1x64, .f32⟩
  | 81 => ⟨S10000x32x64, .f32⟩
  | 82 => ⟨S10000x32x64, .f32⟩
  | 83 => ⟨S10000x32, .f32⟩
  | 84 => ⟨S_, .f32⟩
  | 85 => ⟨S_, .f32⟩
  | 86 => ⟨S_, .f32⟩
  | 87 => ⟨S10000x32, .f32⟩
  | 88 => ⟨S10000x32, .f32⟩
  | 89 => ⟨S_, .f32⟩
  | 90 => ⟨S10000, .f32⟩
  | 91 => ⟨S_, .f32⟩
  | 92 => ⟨S10000, .f32⟩
  | 93 => ⟨S10000, .f32⟩
  | 94 => ⟨S10000x1, .f32⟩
  | 95 => ⟨S10000x32, .f32⟩
  | 96 => ⟨S10000x32, .f32⟩
  | 97 => ⟨S10000x32, .f32⟩
  | 98 => ⟨S_, .f32⟩
  | 99 => ⟨S10000, .f32⟩
  | 100 => ⟨S10000x1, .f32⟩
  | 101 => ⟨S10000x32, .f32⟩
  | 102 => ⟨S10000x32, .f32⟩
  | 103 => ⟨S_, .i32⟩
  | 104 => ⟨S_, .i32⟩
  | 105 => ⟨S_, .i32⟩
  | 106 => ⟨S_, .i32⟩
  | 107 => ⟨S1, .i32⟩
  | 108 => ⟨S_, .i32⟩
  | 109 => ⟨S_, .i32⟩
  | 110 => ⟨S_, .i32⟩
  | 111 => ⟨S1, .i32⟩
  | 112 => ⟨S2, .i32⟩
  | 113 => ⟨S_, .i32⟩
  | 114 => ⟨S_, .i32⟩
  | 115 => ⟨S_, .i32⟩
  | 116 => ⟨S1, .i32⟩
  | 117 => ⟨S_, .i32⟩
  | 118 => ⟨S_, .i32⟩
  | 119 => ⟨S1, .i32⟩
  | 120 => ⟨S2, .i32⟩
  | 121 => ⟨S1, .i32⟩
  | 122 => ⟨S_, .i32⟩
  | 123 => ⟨S1, .i32⟩
  | 124 => ⟨S_, .i32⟩
  | 125 => ⟨S1, .i32⟩
  | 126 => ⟨S1, .i32⟩
  | 127 => ⟨S_, .i32⟩
  | _ => ⟨S10000x128, .f32⟩

abbrev hbmTy0_2 (i : Nat) : BufTy := match i % 128 with
  | 0 => ⟨S_, .i32⟩
  | 1 => ⟨S_, .i32⟩
  | 2 => ⟨S1, .i32⟩
  | 3 => ⟨S1, .i32⟩
  | 4 => ⟨S1, .i32⟩
  | 5 => ⟨S1, .i32⟩
  | 6 => ⟨S1, .i32⟩
  | 7 => ⟨S_, .i32⟩
  | 8 => ⟨S1, .i32⟩
  | 9 => ⟨S1, .i32⟩
  | 10 => ⟨S_, .i32⟩
  | 11 => ⟨S1, .i32⟩
  | 12 => ⟨S1, .i32⟩
  | 13 => ⟨S1, .i32⟩
  | 14 => ⟨S1, .i32⟩
  | 15 => ⟨S1, .i32⟩
  | 16 => ⟨S_, .i32⟩
  | 17 => ⟨S1, .i32⟩
  | 18 => ⟨S1, .i32⟩
  | 19 => ⟨S_, .i32⟩
  | 20 => ⟨S1, .i32⟩
  | 21 => ⟨S1, .i32⟩
  | 22 => ⟨S1, .i32⟩
  | 23 => ⟨S1, .i32⟩
  | 24 => ⟨S1, .i32⟩
  | 25 => ⟨S_, .i32⟩
  | 26 => ⟨S1, .i32⟩
  | 27 => ⟨S1, .i32⟩
  | 28 => ⟨S_, .i32⟩
  | 29 => ⟨S1, .i32⟩
  | 30 => ⟨S1, .i32⟩
  | 31 => ⟨S1, .i32⟩
  | 32 => ⟨S1, .i32⟩
  | 33 => ⟨S1, .i32⟩
  | 34 => ⟨S_, .i32⟩
  | 35 => ⟨S1, .i32⟩
  | 36 => ⟨S1, .i32⟩
  | 37 => ⟨S_, .i32⟩
  | 38 => ⟨S1, .i32⟩
  | 39 => ⟨S1, .i32⟩
  | 40 => ⟨S1, .i32⟩
  | 41 => ⟨S1, .i32⟩
  | 42 => ⟨S1, .i32⟩
  | 43 => ⟨S1, .i32⟩
  | 44 => ⟨S1, .i32⟩
  | 45 => ⟨S1, .i32⟩
  | 46 => ⟨S_, .i32⟩
  | 47 => ⟨S1, .i32⟩
  | 48 => ⟨S1, .i32⟩
  | 49 => ⟨S1, .i32⟩
  | 50 => ⟨S_, .i32⟩
  | 51 => ⟨S1, .i32⟩
  | 52 => ⟨S1, .i32⟩
  | 53 => ⟨S_, .i32⟩
  | 54 => ⟨S1, .i32⟩
  | 55 => ⟨S1, .i32⟩
  | 56 => ⟨S1, .i32⟩
  | 57 => ⟨S1, .i32⟩
  | 58 => ⟨S1, .i32⟩
  | 59 => ⟨S_, .i32⟩
  | 60 => ⟨S1, .i32⟩
  | 61 => ⟨S1, .i32⟩
  | 62 => ⟨S_, .i32⟩
  | 63 => ⟨S1, .i32⟩
  | 64 => ⟨S1, .i32⟩
  | 65 => ⟨S1, .i32⟩
  | 66 => ⟨S1, .i32⟩
  | 67 => ⟨S1, .i32⟩
  | 68 => ⟨S_, .i32⟩
  | 69 => ⟨S1, .i32⟩
  | 70 => ⟨S1, .i32⟩
  | 71 => ⟨S_, .i32⟩
  | 72 => ⟨S1, .i32⟩
  | 73 => ⟨S1, .i32⟩
  | 74 => ⟨S1, .i32⟩
  | 75 => ⟨S1, .i32⟩
  | 76 => ⟨S1, .i32⟩
  | 77 => ⟨S_, .i32⟩
  | 78 => ⟨S1, .i32⟩
  | 79 => ⟨S1, .i32⟩
  | 80 => ⟨S_, .i32⟩
  | 81 => ⟨S1, .i32⟩
  | 82 => ⟨S1, .i32⟩
  | 83 => ⟨S1, .i32⟩
  | 84 => ⟨S1, .i32⟩
  | 85 => ⟨S1, .i32⟩
  | 86 => ⟨S1, .i32⟩
  | 87 => ⟨S1, .i32⟩
  | 88 => ⟨S1, .i32⟩
  | 89 => ⟨S_, .i32⟩
  | 90 => ⟨S1, .i32⟩
  | 91 => ⟨S1, .i32⟩
  | 92 => ⟨S1, .i32⟩
  | 93 => ⟨S_, .i32⟩
  | 94 => ⟨S1, .i32⟩
  | 95 => ⟨S1, .i32⟩
  | 96 => ⟨S_, .i32⟩
  | 97 => ⟨S1, .i32⟩
  | 98 => ⟨S1, .i32⟩
  | 99 => ⟨S1, .i32⟩
  | 100 => ⟨S1, .i32⟩
  | 101 => ⟨S1, .i32⟩
  | 102 => ⟨S_, .i32⟩
  | 103 => ⟨S1, .i32⟩
  | 104 => ⟨S1, .i32⟩
  | 105 => ⟨S_, .i32⟩
  | 106 => ⟨S1, .i32⟩
  | 107 => ⟨S1, .i32⟩
  | 108 => ⟨S1, .i32⟩
  | 109 => ⟨S1, .i32⟩
  | 110 => ⟨S1, .i32⟩
  | 111 => ⟨S_, .i32⟩
  | 112 => ⟨S1, .i32⟩
  | 113 => ⟨S1, .i32⟩
  | 114 => ⟨S_, .i32⟩
  | 115 => ⟨S1, .i32⟩
  | 116 => ⟨S1, .i32⟩
  | 117 => ⟨S1, .i32⟩
  | 118 => ⟨S1, .i32⟩
  | 119 => ⟨S1, .i32⟩
  | 120 => ⟨S_, .i32⟩
  | 121 => ⟨S1, .i32⟩
  | 122 => ⟨S1, .i32⟩
  | 123 => ⟨S_, .i32⟩
  | 124 => ⟨S1, .i32⟩
  | 125 => ⟨S1, .i32⟩
  | 126 => ⟨S1, .i32⟩
  | 127 => ⟨S1, .i32⟩
  | _ => ⟨S10000x128, .f32⟩

abbrev hbmTy0_3 (i : Nat) : BufTy := match i % 128 with
  | 0 => ⟨S1, .i32⟩
  | 1 => ⟨S1, .i32⟩
  | 2 => ⟨S1, .i32⟩
  | 3 => ⟨S1, .i32⟩
  | 4 => ⟨S_, .i32⟩
  | 5 => ⟨S1, .i32⟩
  | 6 => ⟨S1, .i32⟩
  | 7 => ⟨S1, .i32⟩
  | 8 => ⟨S_, .i32⟩
  | 9 => ⟨S1, .i32⟩
  | 10 => ⟨S1, .i32⟩
  | 11 => ⟨S_, .i32⟩
  | 12 => ⟨S1, .i32⟩
  | 13 => ⟨S1, .i32⟩
  | 14 => ⟨S1, .i32⟩
  | 15 => ⟨S1, .i32⟩
  | 16 => ⟨S1, .i32⟩
  | 17 => ⟨S_, .i32⟩
  | 18 => ⟨S1, .i32⟩
  | 19 => ⟨S1, .i32⟩
  | 20 => ⟨S_, .i32⟩
  | 21 => ⟨S1, .i32⟩
  | 22 => ⟨S1, .i32⟩
  | 23 => ⟨S1, .i32⟩
  | 24 => ⟨S1, .i32⟩
  | 25 => ⟨S1, .i32⟩
  | 26 => ⟨S_, .i32⟩
  | 27 => ⟨S1, .i32⟩
  | 28 => ⟨S1, .i32⟩
  | 29 => ⟨S_, .i32⟩
  | 30 => ⟨S1, .i32⟩
  | 31 => ⟨S1, .i32⟩
  | 32 => ⟨S1, .i32⟩
  | 33 => ⟨S1, .i32⟩
  | 34 => ⟨S1, .i32⟩
  | 35 => ⟨S_, .i32⟩
  | 36 => ⟨S1, .i32⟩
  | 37 => ⟨S1, .i32⟩
  | 38 => ⟨S_, .i32⟩
  | 39 => ⟨S1, .i32⟩
  | 40 => ⟨S1, .i32⟩
  | 41 => ⟨S1, .i32⟩
  | 42 => ⟨S1, .i32⟩
  | 43 => ⟨S1, .i32⟩
  | 44 => ⟨S1, .i32⟩
  | 45 => ⟨S1, .i32⟩
  | 46 => ⟨S1, .i32⟩
  | 47 => ⟨S_, .i32⟩
  | 48 => ⟨S1, .i32⟩
  | 49 => ⟨S1, .i32⟩
  | 50 => ⟨S1, .i32⟩
  | 51 => ⟨S_, .i32⟩
  | 52 => ⟨S1, .i32⟩
  | 53 => ⟨S1, .i32⟩
  | 54 => ⟨S_, .i32⟩
  | 55 => ⟨S1, .i32⟩
  | 56 => ⟨S1, .i32⟩
  | 57 => ⟨S1, .i32⟩
  | 58 => ⟨S1, .i32⟩
  | 59 => ⟨S1, .i32⟩
  | 60 => ⟨S_, .i32⟩
  | 61 => ⟨S1, .i32⟩
  | 62 => ⟨S1, .i32⟩
  | 63 => ⟨S_, .i32⟩
  | 64 => ⟨S1, .i32⟩
  | 65 => ⟨S1, .i32⟩
  | 66 => ⟨S1, .i32⟩
  | 67 => ⟨S1, .i32⟩
  | 68 => ⟨S1, .i32⟩
  | 69 => ⟨S_, .i32⟩
  | 70 => ⟨S1, .i32⟩
  | 71 => ⟨S1, .i32⟩
  | 72 => ⟨S_, .i32⟩
  | 73 => ⟨S1, .i32⟩
  | 74 => ⟨S1, .i32⟩
  | 75 => ⟨S1, .i32⟩
  | 76 => ⟨S1, .i32⟩
  | 77 => ⟨S1, .i32⟩
  | 78 => ⟨S_, .i32⟩
  | 79 => ⟨S1, .i32⟩
  | 80 => ⟨S1, .i32⟩
  | 81 => ⟨S_, .i32⟩
  | 82 => ⟨S1, .i32⟩
  | 83 => ⟨S1, .i32⟩
  | 84 => ⟨S1, .i32⟩
  | 85 => ⟨S1, .i32⟩
  | 86 => ⟨S1, .i32⟩
  | 87 => ⟨S1, .i32⟩
  | 88 => ⟨S1, .i32⟩
  | 89 => ⟨S1, .i32⟩
  | 90 => ⟨S_, .i32⟩
  | 91 => ⟨S1, .i32⟩
  | 92 => ⟨S1, .i32⟩
  | 93 => ⟨S2, .i32⟩
  | 94 => ⟨S_, .f32⟩
  | 95 => ⟨S_, .f32⟩
  | 96 => ⟨S_, .f32⟩
  | 97 => ⟨S_, .f32⟩
  | 98 => ⟨S1x1, .f32⟩
  | 99 => ⟨S1x1, .f32⟩
  | 100 => ⟨S1, .i32⟩
  | 101 => ⟨S_, .i32⟩
  | 102 => ⟨S1, .i32⟩
  | 103 => ⟨S_, .i32⟩
  | 104 => ⟨S10000x32, .i64⟩
  | 105 => ⟨S10000x32, .i64⟩
  | 106 => ⟨S_, .i64⟩
  | 107 => ⟨S10000x32, .i64⟩
  | 108 => ⟨S10000x32, .i64⟩
  | 109 => ⟨S_, .i64⟩
  | 110 => ⟨S10000x32, .i64⟩
  | 111 => ⟨S10000x32, .i64⟩
  | 112 => ⟨S10000x32, .i64⟩
  | 113 => ⟨S_, .i64⟩
  | 114 => ⟨S10000x32, .i64⟩
  | 115 => ⟨S10000x32, .i64⟩
  | 116 => ⟨S10000x32, .i32⟩
  | 117 => ⟨S10000x32, .i32⟩
  | 118 => ⟨S_, .i32⟩
  | 119 => ⟨S_, .i32⟩
  | 120 => ⟨S_, .i32⟩
  | 121 => ⟨S10000x32, .i32⟩
  | 122 => ⟨S10000x32, .i32⟩
  | 123 => ⟨S10000x32, .i32⟩
  | 124 => ⟨S10000x32, .i32⟩
  | 125 => ⟨S10000x32, .i32⟩
  | 126 => ⟨S_, .i32⟩
  | 127 => ⟨S10000x32, .i32⟩
  | _ => ⟨S10000x128, .f32⟩

abbrev hbmTy0_4 (i : Nat) : BufTy := match i % 128 with
  | 0 => ⟨S10000x32, .i32⟩
  | 1 => ⟨S_, .i32⟩
  | 2 => ⟨S10000x32, .i32⟩
  | 3 => ⟨S10000x32, .i32⟩
  | 4 => ⟨S10000x32, .i32⟩
  | 5 => ⟨S10000x32, .i32⟩
  | 6 => ⟨S10000x32, .i32⟩
  | 7 => ⟨S_, .i32⟩
  | 8 => ⟨S10000x32, .i32⟩
  | 9 => ⟨S10000x32, .i32⟩
  | 10 => ⟨S_, .i32⟩
  | 11 => ⟨S10000x32, .i32⟩
  | 12 => ⟨S10000x32, .i32⟩
  | 13 => ⟨S10000x32, .i32⟩
  | 14 => ⟨S10000x32, .i32⟩
  | 15 => ⟨S10000x32, .i32⟩
  | 16 => ⟨S_, .i32⟩
  | 17 => ⟨S10000x32, .i32⟩
  | 18 => ⟨S10000x32, .i32⟩
  | 19 => ⟨S_, .i32⟩
  | 20 => ⟨S10000x32, .i32⟩
  | 21 => ⟨S10000x32, .i32⟩
  | 22 => ⟨S10000x32, .i32⟩
  | 23 => ⟨S10000x32, .i32⟩
  | 24 => ⟨S10000x32, .i32⟩
  | 25 => ⟨S_, .i32⟩
  | 26 => ⟨S10000x32, .i32⟩
  | 27 => ⟨S10000x32, .i32⟩
  | 28 => ⟨S_, .i32⟩
  | 29 => ⟨S10000x32, .i32⟩
  | 30 => ⟨S10000x32, .i32⟩
  | 31 => ⟨S10000x32, .i32⟩
  | 32 => ⟨S10000x32, .i32⟩
  | 33 => ⟨S10000x32, .i32⟩
  | 34 => ⟨S10000x32, .i32⟩
  | 35 => ⟨S10000x32, .i32⟩
  | 36 => ⟨S10000x32, .i32⟩
  | 37 => ⟨S_, .i32⟩
  | 38 => ⟨S10000x32, .i32⟩
  | 39 => ⟨S10000x32, .i32⟩
  | 40 => ⟨S10000x32, .i32⟩
  | 41 => ⟨S_, .i32⟩
  | 42 => ⟨S10000x32, .i32⟩
  | 43 => ⟨S10000x32, .i32⟩
  | 44 => ⟨S_, .i32⟩
  | 45 => ⟨S10000x32, .i32⟩
  | 46 => ⟨S10000x32, .i32⟩
  | 47 => ⟨S10000x32, .i32⟩
  | 48 => ⟨S10000x32, .i32⟩
  | 49 => ⟨S10000x32, .i32⟩
  | 50 => ⟨S_, .i32⟩
  | 51 => ⟨S10000x32, .i32⟩
  | 52 => ⟨S10000x32, .i32⟩
  | 53 => ⟨S_, .i32⟩
  | 54 => ⟨S10000x32, .i32⟩
  | 55 => ⟨S10000x32, .i32⟩
  | 56 => ⟨S10000x32, .i32⟩
  | 57 => ⟨S10000x32, .i32⟩
  | 58 => ⟨S10000x32, .i32⟩
  | 59 => ⟨S_, .i32⟩
  | 60 => ⟨S10000x32, .i32⟩
  | 61 => ⟨S10000x32, .i32⟩
  | 62 => ⟨S_, .i32⟩
  | 63 => ⟨S10000x32, .i32⟩
  | 64 => ⟨S10000x32, .i32⟩
  | 65 => ⟨S10000x32, .i32⟩
  | 66 => ⟨S10000x32, .i32⟩
  | 67 => ⟨S10000x32, .i32⟩
  | 68 => ⟨S_, .i32⟩
  | 69 => ⟨S10000x32, .i32⟩
  | 70 => ⟨S10000x32, .i32⟩
  | 71 => ⟨S_, .i32⟩
  | 72 => ⟨S10000x32, .i32⟩
  | 73 => ⟨S10000x32, .i32⟩
  | 74 => ⟨S10000x32, .i32⟩
  | 75 => ⟨S10000x32, .i32⟩
  | 76 => ⟨S10000x32, .i32⟩
  | 77 => ⟨S10000x32, .i32⟩
  | 78 => ⟨S10000x32, .i32⟩
  | 79 => ⟨S10000x32, .i32⟩
  | 80 => ⟨S_, .i32⟩
  | 81 => ⟨S10000x32, .i32⟩
  | 82 => ⟨S10000x32, .i32⟩
  | 83 => ⟨S10000x32, .i32⟩
  | 84 => ⟨S_, .i32⟩
  | 85 => ⟨S10000x32, .i32⟩
  | 86 => ⟨S10000x32, .i32⟩
  | 87 => ⟨S_, .i32⟩
  | 88 => ⟨S10000x32, .i32⟩
  | 89 => ⟨S10000x32, .i32⟩
  | 90 => ⟨S10000x32, .i32⟩
  | 91 => ⟨S10000x32, .i32⟩
  | 92 => ⟨S10000x32, .i32⟩
  | 93 => ⟨S_, .i32⟩
  | 94 => ⟨S10000x32, .i32⟩
  | 95 => ⟨S10000x32, .i32⟩
  | 96 => ⟨S_, .i32⟩
  | 97 => ⟨S10000x32, .i32⟩
  | 98 => ⟨S10000x32, .i32⟩
  | 99 => ⟨S10000x32, .i32⟩
  | 100 => ⟨S10000x32, .i32⟩
  | 101 => ⟨S10000x32, .i32⟩
  | 102 => ⟨S_, .i32⟩
  | 103 => ⟨S10000x32, .i32⟩
  | 104 => ⟨S10000x32, .i32⟩
  | 105 => ⟨S_, .i32⟩
  | 106 => ⟨S10000x32, .i32⟩
  | 107 => ⟨S10000x32, .i32⟩
  | 108 => ⟨S10000x32, .i32⟩
  | 109 => ⟨S10000x32, .i32⟩
  | 110 => ⟨S10000x32, .i32⟩
  | 111 => ⟨S_, .i32⟩
  | 112 => ⟨S10000x32, .i32⟩
  | 113 => ⟨S10000x32, .i32⟩
  | 114 => ⟨S_, .i32⟩
  | 115 => ⟨S10000x32, .i32⟩
  | 116 => ⟨S10000x32, .i32⟩
  | 117 => ⟨S10000x32, .i32⟩
  | 118 => ⟨S10000x32, .i32⟩
  | 119 => ⟨S10000x32, .i32⟩
  | 120 => ⟨S10000x32, .i32⟩
  | 121 => ⟨S10000x32, .i32⟩
  | 122 => ⟨S10000x32, .i32⟩
  | 123 => ⟨S_, .i32⟩
  | 124 => ⟨S10000x32, .i32⟩
  | 125 => ⟨S10000x32, .i32⟩
  | 126 => ⟨S10000x32, .i32⟩
  | 127 => ⟨S_, .i32⟩
  | _ => ⟨S10000x128, .f32⟩

abbrev hbmTy0_5 (i : Nat) : BufTy := match i % 128 with
  | 0 => ⟨S10000x32, .i32⟩
  | 1 => ⟨S10000x32, .i32⟩
  | 2 => ⟨S_, .i32⟩
  | 3 => ⟨S10000x32, .i32⟩
  | 4 => ⟨S10000x32, .i32⟩
  | 5 => ⟨S10000x32, .i32⟩
  | 6 => ⟨S10000x32, .i32⟩
  | 7 => ⟨S10000x32, .i32⟩
  | 8 => ⟨S_, .i32⟩
  | 9 => ⟨S10000x32, .i32⟩
  | 10 => ⟨S10000x32, .i32⟩
  | 11 => ⟨S_, .i32⟩
  | 12 => ⟨S10000x32, .i32⟩
  | 13 => ⟨S10000x32, .i32⟩
  | 14 => ⟨S10000x32, .i32⟩
  | 15 => ⟨S10000x32, .i32⟩
  | 16 => ⟨S10000x32, .i32⟩
  | 17 => ⟨S_, .i32⟩
  | 18 => ⟨S10000x32, .i32⟩
  | 19 => ⟨S10000x32, .i32⟩
  | 20 => ⟨S_, .i32⟩
  | 21 => ⟨S10000x32, .i32⟩
  | 22 => ⟨S10000x32, .i32⟩
  | 23 => ⟨S10000x32, .i32⟩
  | 24 => ⟨S10000x32, .i32⟩
  | 25 => ⟨S10000x32, .i32⟩
  | 26 => ⟨S_, .i32⟩
  | 27 => ⟨S10000x32, .i32⟩
  | 28 => ⟨S10000x32, .i32⟩
  | 29 => ⟨S_, .i32⟩
  | 30 => ⟨S10000x32, .i32⟩
  | 31 => ⟨S10000x32, .i32⟩
  | 32 => ⟨S10000x32, .i32⟩
  | 33 => ⟨S10000x32, .i32⟩
  | 34 => ⟨S10000x32, .i32⟩
  | 35 => ⟨S10000x32, .i32⟩
  | 36 => ⟨S10000x32, .i32⟩
  | 37 => ⟨S10000x32, .i32⟩
  | 38 => ⟨S_, .i32⟩
  | 39 => ⟨S10000x32, .i32⟩
  | 40 => ⟨S10000x32, .i32⟩
  | 41 => ⟨S10000x32, .i32⟩
  | 42 => ⟨S_, .i32⟩
  | 43 => ⟨S10000x32, .i32⟩
  | 44 => ⟨S10000x32, .i32⟩
  | 45 => ⟨S_, .i32⟩
  | 46 => ⟨S10000x32, .i32⟩
  | 47 => ⟨S10000x32, .i32⟩
  | 48 => ⟨S10000x32, .i32⟩
  | 49 => ⟨S10000x32, .i32⟩
  | 50 => ⟨S10000x32, .i32⟩
  | 51 => ⟨S_, .i32⟩
  | 52 => ⟨S10000x32, .i32⟩
  | 53 => ⟨S10000x32, .i32⟩
  | 54 => ⟨S_, .i32⟩
  | 55 => ⟨S10000x32, .i32⟩
  | 56 => ⟨S10000x32, .i32⟩
  | 57 => ⟨S10000x32, .i32⟩
  | 58 => ⟨S10000x32, .i32⟩
  | 59 => ⟨S10000x32, .i32⟩
  | 60 => ⟨S_, .i32⟩
  | 61 => ⟨S10000x32, .i32⟩
  | 62 => ⟨S10000x32, .i32⟩
  | 63 => ⟨S_, .i32⟩
  | 64 => ⟨S10000x32, .i32⟩
  | 65 => ⟨S10000x32, .i32⟩
  | 66 => ⟨S10000x32, .i32⟩
  | 67 => ⟨S10000x32, .i32⟩
  | 68 => ⟨S10000x32, .i32⟩
  | 69 => ⟨S_, .i32⟩
  | 70 => ⟨S10000x32, .i32⟩
  | 71 => ⟨S10000x32, .i32⟩
  | 72 => ⟨S_, .i32⟩
  | 73 => ⟨S10000x32, .i32⟩
  | 74 => ⟨S10000x32, .i32⟩
  | 75 => ⟨S10000x32, .i32⟩
  | 76 => ⟨S10000x32, .i32⟩
  | 77 => ⟨S10000x32, .i32⟩
  | 78 => ⟨S10000x32, .i32⟩
  | 79 => ⟨S10000x32, .i32⟩
  | 80 => ⟨S10000x32, .i32⟩
  | 81 => ⟨S_, .i32⟩
  | 82 => ⟨S10000x32, .i32⟩
  | 83 => ⟨S10000x32, .i32⟩
  | 84 => ⟨S10000x32, .i32⟩
  | 85 => ⟨S_, .i32⟩
  | 86 => ⟨S10000x32, .i32⟩
  | 87 => ⟨S10000x32, .i32⟩
  | 88 => ⟨S_, .i32⟩
  | 89 => ⟨S10000x32, .i32⟩
  | 90 => ⟨S10000x32, .i32⟩
  | 91 => ⟨S10000x32, .f32⟩
  | 92 => ⟨S_, .f32⟩
  | 93 => ⟨S10000x32, .f32⟩
  | 94 => ⟨S10000x32, .f32⟩
  | 95 => ⟨S1x1, .f32⟩
  | 96 => ⟨S10000x32, .f32⟩
  | 97 => ⟨S10000x32, .f32⟩
  | 98 => ⟨S10000x32, .f32⟩
  | 99 => ⟨S10000x32, .f32⟩
  | 100 => ⟨S10000x32, .f32⟩
  | 101 => ⟨S10000x32, .f32⟩
  | 102 => ⟨S10000x32, .f32⟩
  | 103 => ⟨S10000x32, .f32⟩
  | 104 => ⟨S10000x32, .f32⟩
  | 105 => ⟨S10000x32, .f32⟩
  | 106 => ⟨S_, .f32⟩
  | 107 => ⟨S10000x32, .f32⟩
  | 108 => ⟨S10000x32, .f32⟩
  | 109 => ⟨S10000x32, .f32⟩
  | 110 => ⟨S10000x32, .f32⟩
  | 111 => ⟨S10000x16, .f32⟩
  | 112 => ⟨S10000x16, .i32⟩
  | _ => ⟨S10000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_cst : Ref sig .tc := ⟨.hbm, 18, rfl⟩
abbrev main_call0_v0 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_cst_0 : Ref sig .tc := ⟨.hbm, 23, rfl⟩
abbrev main_cst_1 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_cst : Ref sig .tc := ⟨.hbm, 28, rfl⟩
abbrev main_call1_v3 : Ref sig .tc := ⟨.hbm, 29, rfl⟩
abbrev main_call1_v4 : Ref sig .tc := ⟨.hbm, 30, rfl⟩
abbrev main_call1_cst_0 : Ref sig .tc := ⟨.hbm, 31, rfl⟩
abbrev main_call1_v5 : Ref sig .tc := ⟨.hbm, 32, rfl⟩
abbrev main_call1_v6 : Ref sig .tc := ⟨.hbm, 33, rfl⟩
abbrev main_call1_v7 : Ref sig .tc := ⟨.hbm, 34, rfl⟩
abbrev main_call1_cst_1 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_v12 : Ref sig .tc := ⟨.hbm, 40, rfl⟩
abbrev main_call1_v13 : Ref sig .tc := ⟨.hbm, 41, rfl⟩
abbrev main_call1_v14 : Ref sig .tc := ⟨.hbm, 42, rfl⟩
abbrev main_call1_v15 : Ref sig .tc := ⟨.hbm, 43, rfl⟩
abbrev main_call1_v16 : Ref sig .tc := ⟨.hbm, 44, rfl⟩
abbrev main_v6 : Ref sig .tc := ⟨.hbm, 45, rfl⟩
abbrev main_cst_2 : Ref sig .tc := ⟨.hbm, 46, rfl⟩
abbrev main_v7 : Ref sig .tc := ⟨.hbm, 47, rfl⟩
abbrev main_v8 : Ref sig .tc := ⟨.hbm, 48, rfl⟩
abbrev main_cst_3 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_cst_4 : Ref sig .tc := ⟨.hbm, 58, rfl⟩
abbrev main_v17 : Ref sig .tc := ⟨.hbm, 59, rfl⟩
abbrev main_cst_5 : Ref sig .tc := ⟨.hbm, 60, rfl⟩
abbrev main_cst_6 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_call2_cst : Ref sig .tc := ⟨.hbm, 65, rfl⟩
abbrev main_call2_v3 : Ref sig .tc := ⟨.hbm, 66, rfl⟩
abbrev main_call2_v4 : Ref sig .tc := ⟨.hbm, 67, rfl⟩
abbrev main_call2_cst_0 : Ref sig .tc := ⟨.hbm, 68, rfl⟩
abbrev main_call2_v5 : Ref sig .tc := ⟨.hbm, 69, rfl⟩
abbrev main_call2_v6 : Ref sig .tc := ⟨.hbm, 70, rfl⟩
abbrev main_call2_v7 : Ref sig .tc := ⟨.hbm, 71, rfl⟩
abbrev main_call2_cst_1 : Ref sig .tc := ⟨.hbm, 72, rfl⟩
abbrev main_call2_v8 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_v12 : Ref sig .tc := ⟨.hbm, 77, rfl⟩
abbrev main_call2_v13 : Ref sig .tc := ⟨.hbm, 78, rfl⟩
abbrev main_call2_v14 : Ref sig .tc := ⟨.hbm, 79, rfl⟩
abbrev main_call2_v15 : Ref sig .tc := ⟨.hbm, 80, rfl⟩
abbrev main_call2_v16 : Ref sig .tc := ⟨.hbm, 81, rfl⟩
abbrev main_v18 : Ref sig .tc := ⟨.hbm, 82, rfl⟩
abbrev main_cst_7 : Ref sig .tc := ⟨.hbm, 83, rfl⟩
abbrev main_v19 : Ref sig .tc := ⟨.hbm, 84, rfl⟩
abbrev main_v20 : Ref sig .tc := ⟨.hbm, 85, rfl⟩
abbrev main_cst_8 : Ref sig .tc := ⟨.hbm, 86, rfl⟩
abbrev main_v21 : Ref sig .tc := ⟨.hbm, 87, rfl⟩
abbrev main_v22 : Ref sig .tc := ⟨.hbm, 88, rfl⟩
abbrev main_v23 : Ref sig .tc := ⟨.hbm, 89, rfl⟩
abbrev main_v24 : Ref sig .tc := ⟨.hbm, 90, rfl⟩
abbrev main_v25 : Ref sig .tc := ⟨.hbm, 91, rfl⟩
abbrev main_v26 : Ref sig .tc := ⟨.hbm, 92, rfl⟩
abbrev main_v27 : Ref sig .tc := ⟨.hbm, 93, rfl⟩
abbrev main_v28 : Ref sig .tc := ⟨.hbm, 94, rfl⟩
abbrev main_v29 : Ref sig .tc := ⟨.hbm, 95, rfl⟩
abbrev main_v30 : Ref sig .tc := ⟨.hbm, 96, rfl⟩
abbrev main_v31 : Ref sig .tc := ⟨.hbm, 97, rfl⟩
abbrev main_v32 : Ref sig .tc := ⟨.hbm, 98, rfl⟩
abbrev main_v33 : Ref sig .tc := ⟨.hbm, 99, rfl⟩
abbrev main_v34 : Ref sig .tc := ⟨.hbm, 100, rfl⟩
abbrev main_call3_cst : Ref sig .tc := ⟨.hbm, 101, rfl⟩
abbrev main_call3_v0 : Ref sig .tc := ⟨.hbm, 102, rfl⟩
abbrev main_v35 : Ref sig .tc := ⟨.hbm, 103, rfl⟩
abbrev main_v36 : Ref sig .tc := ⟨.hbm, 104, rfl⟩
abbrev main_v37 : Ref sig .tc := ⟨.hbm, 105, rfl⟩
abbrev main_v38 : Ref sig .tc := ⟨.hbm, 106, rfl⟩
abbrev main_v39 : Ref sig .tc := ⟨.hbm, 107, rfl⟩
abbrev main_v40 : Ref sig .tc := ⟨.hbm, 108, rfl⟩
abbrev main_call4_cst : Ref sig .tc := ⟨.hbm, 109, rfl⟩
abbrev main_call4_v0 : Ref sig .tc := ⟨.hbm, 110, rfl⟩
abbrev main_v41 : Ref sig .tc := ⟨.hbm, 111, rfl⟩
abbrev main_v42 : Ref sig .tc := ⟨.hbm, 112, rfl⟩
abbrev main_v43 : Ref sig .tc := ⟨.hbm, 113, rfl⟩
abbrev main_v44 : Ref sig .tc := ⟨.hbm, 114, rfl⟩
abbrev main_v45 : Ref sig .tc := ⟨.hbm, 115, rfl⟩
abbrev main_cst_9 : Ref sig .tc := ⟨.hbm, 116, rfl⟩
abbrev main_cst_10 : Ref sig .tc := ⟨.hbm, 117, rfl⟩
abbrev main_call5_v0 : Ref sig .tc := ⟨.hbm, 118, rfl⟩
abbrev main_call5_v1 : Ref sig .tc := ⟨.hbm, 119, rfl⟩
abbrev main_call5_v2 : Ref sig .tc := ⟨.hbm, 120, rfl⟩
abbrev main_call5_cst : Ref sig .tc := ⟨.hbm, 121, rfl⟩
abbrev main_call5_v3 : Ref sig .tc := ⟨.hbm, 122, rfl⟩
abbrev main_call5_v4 : Ref sig .tc := ⟨.hbm, 123, rfl⟩
abbrev main_call5_cst_0 : Ref sig .tc := ⟨.hbm, 124, rfl⟩
abbrev main_call5_v5 : Ref sig .tc := ⟨.hbm, 125, rfl⟩
abbrev main_call5_v6 : Ref sig .tc := ⟨.hbm, 126, rfl⟩
abbrev main_call5_v7 : Ref sig .tc := ⟨.hbm, 127, rfl⟩
abbrev main_call5_cst_1 : Ref sig .tc := ⟨.hbm, 128, rfl⟩
abbrev main_call5_v8 : Ref sig .tc := ⟨.hbm, 129, rfl⟩
abbrev main_call5_v9 : Ref sig .tc := ⟨.hbm, 130, rfl⟩
abbrev main_call5_v10 : Ref sig .tc := ⟨.hbm, 131, rfl⟩
abbrev main_call5_v11 : Ref sig .tc := ⟨.hbm, 132, rfl⟩
abbrev main_call5_v12 : Ref sig .tc := ⟨.hbm, 133, rfl⟩
abbrev main_call5_v13 : Ref sig .tc := ⟨.hbm, 134, rfl⟩
abbrev main_call5_v14 : Ref sig .tc := ⟨.hbm, 135, rfl⟩
abbrev main_call5_v15 : Ref sig .tc := ⟨.hbm, 136, rfl⟩
abbrev main_call5_v16 : Ref sig .tc := ⟨.hbm, 137, rfl⟩
abbrev main_v46 : Ref sig .tc := ⟨.hbm, 138, rfl⟩
abbrev main_cst_11 : Ref sig .tc := ⟨.hbm, 139, rfl⟩
abbrev main_v47 : Ref sig .tc := ⟨.hbm, 140, rfl⟩
abbrev main_v48 : Ref sig .tc := ⟨.hbm, 141, rfl⟩
abbrev main_cst_12 : Ref sig .tc := ⟨.hbm, 142, rfl⟩
abbrev main_v49 : Ref sig .tc := ⟨.hbm, 143, rfl⟩
abbrev main_v50 : Ref sig .tc := ⟨.hbm, 144, rfl⟩
abbrev main_v51 : Ref sig .tc := ⟨.hbm, 145, rfl⟩
abbrev main_v52 : Ref sig .tc := ⟨.hbm, 146, rfl⟩
abbrev main_v53 : Ref sig .tc := ⟨.hbm, 147, rfl⟩
abbrev main_v54 : Ref sig .tc := ⟨.hbm, 148, rfl⟩
abbrev main_v55 : Ref sig .tc := ⟨.hbm, 149, rfl⟩
abbrev main_v56 : Ref sig .tc := ⟨.hbm, 150, rfl⟩
abbrev main_v57 : Ref sig .tc := ⟨.hbm, 151, rfl⟩
abbrev main_v58 : Ref sig .tc := ⟨.hbm, 152, rfl⟩
abbrev main_v59 : Ref sig .tc := ⟨.hbm, 153, rfl⟩
abbrev main_v60 : Ref sig .tc := ⟨.hbm, 154, rfl⟩
abbrev main_v61 : Ref sig .tc := ⟨.hbm, 155, rfl⟩
abbrev main_v62 : Ref sig .tc := ⟨.hbm, 156, rfl⟩
abbrev main_c : Ref sig .tc := ⟨.hbm, 157, rfl⟩
abbrev main_v63 : Ref sig .tc := ⟨.hbm, 158, rfl⟩
abbrev main_v64 : Ref sig .tc := ⟨.hbm, 159, rfl⟩
abbrev main_cst_13 : Ref sig .tc := ⟨.hbm, 160, rfl⟩
abbrev main_v65 : Ref sig .tc := ⟨.hbm, 161, rfl⟩
abbrev main_v66 : Ref sig .tc := ⟨.hbm, 162, rfl⟩
abbrev main_v67 : Ref sig .tc := ⟨.hbm, 163, rfl⟩
abbrev main_cst_14 : Ref sig .tc := ⟨.hbm, 164, rfl⟩
abbrev main_cst_15 : Ref sig .tc := ⟨.hbm, 165, rfl⟩
abbrev main_call6_v0 : Ref sig .tc := ⟨.hbm, 166, rfl⟩
abbrev main_call6_v1 : Ref sig .tc := ⟨.hbm, 167, rfl⟩
abbrev main_call6_v2 : Ref sig .tc := ⟨.hbm, 168, rfl⟩
abbrev main_call6_cst : Ref sig .tc := ⟨.hbm, 169, rfl⟩
abbrev main_call6_v3 : Ref sig .tc := ⟨.hbm, 170, rfl⟩
abbrev main_call6_v4 : Ref sig .tc := ⟨.hbm, 171, rfl⟩
abbrev main_call6_cst_0 : Ref sig .tc := ⟨.hbm, 172, rfl⟩
abbrev main_call6_v5 : Ref sig .tc := ⟨.hbm, 173, rfl⟩
abbrev main_call6_v6 : Ref sig .tc := ⟨.hbm, 174, rfl⟩
abbrev main_call6_v7 : Ref sig .tc := ⟨.hbm, 175, rfl⟩
abbrev main_call6_cst_1 : Ref sig .tc := ⟨.hbm, 176, rfl⟩
abbrev main_call6_v8 : Ref sig .tc := ⟨.hbm, 177, rfl⟩
abbrev main_call6_v9 : Ref sig .tc := ⟨.hbm, 178, rfl⟩
abbrev main_call6_v10 : Ref sig .tc := ⟨.hbm, 179, rfl⟩
abbrev main_call6_v11 : Ref sig .tc := ⟨.hbm, 180, rfl⟩
abbrev main_call6_v12 : Ref sig .tc := ⟨.hbm, 181, rfl⟩
abbrev main_call6_v13 : Ref sig .tc := ⟨.hbm, 182, rfl⟩
abbrev main_call6_v14 : Ref sig .tc := ⟨.hbm, 183, rfl⟩
abbrev main_call6_v15 : Ref sig .tc := ⟨.hbm, 184, rfl⟩
abbrev main_call6_v16 : Ref sig .tc := ⟨.hbm, 185, rfl⟩
abbrev main_v68 : Ref sig .tc := ⟨.hbm, 186, rfl⟩
abbrev main_cst_16 : Ref sig .tc := ⟨.hbm, 187, rfl⟩
abbrev main_v69 : Ref sig .tc := ⟨.hbm, 188, rfl⟩
abbrev main_v70 : Ref sig .tc := ⟨.hbm, 189, rfl⟩
abbrev main_cst_17 : Ref sig .tc := ⟨.hbm, 190, rfl⟩
abbrev main_v71 : Ref sig .tc := ⟨.hbm, 191, rfl⟩
abbrev main_v72 : Ref sig .tc := ⟨.hbm, 192, rfl⟩
abbrev main_v73 : Ref sig .tc := ⟨.hbm, 193, rfl⟩
abbrev main_v74 : Ref sig .tc := ⟨.hbm, 194, rfl⟩
abbrev main_v75 : Ref sig .tc := ⟨.hbm, 195, rfl⟩
abbrev main_v76 : Ref sig .tc := ⟨.hbm, 196, rfl⟩
abbrev main_v77 : Ref sig .tc := ⟨.hbm, 197, rfl⟩
abbrev main_v78 : Ref sig .tc := ⟨.hbm, 198, rfl⟩
abbrev main_v79 : Ref sig .tc := ⟨.hbm, 199, rfl⟩
abbrev main_v80 : Ref sig .tc := ⟨.hbm, 200, rfl⟩
abbrev main_v81 : Ref sig .tc := ⟨.hbm, 201, rfl⟩
abbrev main_v82 : Ref sig .tc := ⟨.hbm, 202, rfl⟩
abbrev main_v83 : Ref sig .tc := ⟨.hbm, 203, rfl⟩
abbrev main_v84 : Ref sig .tc := ⟨.hbm, 204, rfl⟩
abbrev main_v85 : Ref sig .tc := ⟨.hbm, 205, rfl⟩
abbrev main_v86 : Ref sig .tc := ⟨.hbm, 206, rfl⟩
abbrev main_v87 : Ref sig .tc := ⟨.hbm, 207, rfl⟩
abbrev main_v88 : Ref sig .tc := ⟨.hbm, 208, rfl⟩
abbrev main_v89 : Ref sig .tc := ⟨.hbm, 209, rfl⟩
abbrev main_v90 : Ref sig .tc := ⟨.hbm, 210, rfl⟩
abbrev main_v91 : Ref sig .tc := ⟨.hbm, 211, rfl⟩
abbrev main_cst_18 : Ref sig .tc := ⟨.hbm, 212, rfl⟩
abbrev main_v92 : Ref sig .tc := ⟨.hbm, 213, rfl⟩
abbrev main_v93 : Ref sig .tc := ⟨.hbm, 214, rfl⟩
abbrev main_v94 : Ref sig .tc := ⟨.hbm, 215, rfl⟩
abbrev main_v95 : Ref sig .tc := ⟨.hbm, 216, rfl⟩
abbrev main_cst_19 : Ref sig .tc := ⟨.hbm, 217, rfl⟩
abbrev main_v96 : Ref sig .tc := ⟨.hbm, 218, rfl⟩
abbrev main_cst_20 : Ref sig .tc := ⟨.hbm, 219, rfl⟩
abbrev main_v97 : Ref sig .tc := ⟨.hbm, 220, rfl⟩
abbrev main_v98 : Ref sig .tc := ⟨.hbm, 221, rfl⟩
abbrev main_v99 : Ref sig .tc := ⟨.hbm, 222, rfl⟩
abbrev main_v100 : Ref sig .tc := ⟨.hbm, 223, rfl⟩
abbrev main_v101 : Ref sig .tc := ⟨.hbm, 224, rfl⟩
abbrev main_v102 : Ref sig .tc := ⟨.hbm, 225, rfl⟩
abbrev main_cst_21 : Ref sig .tc := ⟨.hbm, 226, rfl⟩
abbrev main_v103 : Ref sig .tc := ⟨.hbm, 227, rfl⟩
abbrev main_v104 : Ref sig .tc := ⟨.hbm, 228, rfl⟩
abbrev main_v105 : Ref sig .tc := ⟨.hbm, 229, rfl⟩
abbrev main_v106 : Ref sig .tc := ⟨.hbm, 230, rfl⟩
abbrev main_c_22 : Ref sig .tc := ⟨.hbm, 231, rfl⟩
abbrev main_c_23 : Ref sig .tc := ⟨.hbm, 232, rfl⟩
abbrev main_v107 : Ref sig .tc := ⟨.hbm, 233, rfl⟩
abbrev main_v108 : Ref sig .tc := ⟨.hbm, 234, rfl⟩
abbrev main_v109 : Ref sig .tc := ⟨.hbm, 235, rfl⟩
abbrev main_c_24 : Ref sig .tc := ⟨.hbm, 236, rfl⟩
abbrev main_v110 : Ref sig .tc := ⟨.hbm, 237, rfl⟩
abbrev main_v111 : Ref sig .tc := ⟨.hbm, 238, rfl⟩
abbrev main_v112 : Ref sig .tc := ⟨.hbm, 239, rfl⟩
abbrev main_v113 : Ref sig .tc := ⟨.hbm, 240, rfl⟩
abbrev main_c_25 : Ref sig .tc := ⟨.hbm, 241, rfl⟩
abbrev main_call7_c : Ref sig .tc := ⟨.hbm, 242, rfl⟩
abbrev main_call7_v0 : Ref sig .tc := ⟨.hbm, 243, rfl⟩
abbrev main_call7_v1 : Ref sig .tc := ⟨.hbm, 244, rfl⟩
abbrev main_call7_c_0 : Ref sig .tc := ⟨.hbm, 245, rfl⟩
abbrev main_call7_v2 : Ref sig .tc := ⟨.hbm, 246, rfl⟩
abbrev main_call7_v3 : Ref sig .tc := ⟨.hbm, 247, rfl⟩
abbrev main_call7_v4 : Ref sig .tc := ⟨.hbm, 248, rfl⟩
abbrev main_call7_v5 : Ref sig .tc := ⟨.hbm, 249, rfl⟩
abbrev main_call7_v6 : Ref sig .tc := ⟨.hbm, 250, rfl⟩
abbrev main_call7_v7 : Ref sig .tc := ⟨.hbm, 251, rfl⟩
abbrev main_call7_v8 : Ref sig .tc := ⟨.hbm, 252, rfl⟩
abbrev main_call7_v9 : Ref sig .tc := ⟨.hbm, 253, rfl⟩
abbrev main_call7_v10 : Ref sig .tc := ⟨.hbm, 254, rfl⟩
abbrev main_call7_call0_v0 : Ref sig .tc := ⟨.hbm, 255, rfl⟩
abbrev main_call7_call0_c : Ref sig .tc := ⟨.hbm, 256, rfl⟩
abbrev main_call7_call0_v1 : Ref sig .tc := ⟨.hbm, 257, rfl⟩
abbrev main_call7_call0_v2 : Ref sig .tc := ⟨.hbm, 258, rfl⟩
abbrev main_call7_call0_v3 : Ref sig .tc := ⟨.hbm, 259, rfl⟩
abbrev main_call7_call0_v4 : Ref sig .tc := ⟨.hbm, 260, rfl⟩
abbrev main_call7_call0_v5 : Ref sig .tc := ⟨.hbm, 261, rfl⟩
abbrev main_call7_call0_v6 : Ref sig .tc := ⟨.hbm, 262, rfl⟩
abbrev main_call7_call0_c_0 : Ref sig .tc := ⟨.hbm, 263, rfl⟩
abbrev main_call7_call0_v7 : Ref sig .tc := ⟨.hbm, 264, rfl⟩
abbrev main_call7_call0_v8 : Ref sig .tc := ⟨.hbm, 265, rfl⟩
abbrev main_call7_call0_c_1 : Ref sig .tc := ⟨.hbm, 266, rfl⟩
abbrev main_call7_call0_v9 : Ref sig .tc := ⟨.hbm, 267, rfl⟩
abbrev main_call7_call0_v10 : Ref sig .tc := ⟨.hbm, 268, rfl⟩
abbrev main_call7_call0_v11 : Ref sig .tc := ⟨.hbm, 269, rfl⟩
abbrev main_call7_call0_v12 : Ref sig .tc := ⟨.hbm, 270, rfl⟩
abbrev main_call7_call0_v13 : Ref sig .tc := ⟨.hbm, 271, rfl⟩
abbrev main_call7_call0_c_2 : Ref sig .tc := ⟨.hbm, 272, rfl⟩
abbrev main_call7_call0_v14 : Ref sig .tc := ⟨.hbm, 273, rfl⟩
abbrev main_call7_call0_v15 : Ref sig .tc := ⟨.hbm, 274, rfl⟩
abbrev main_call7_call0_c_3 : Ref sig .tc := ⟨.hbm, 275, rfl⟩
abbrev main_call7_call0_v16 : Ref sig .tc := ⟨.hbm, 276, rfl⟩
abbrev main_call7_call0_v17 : Ref sig .tc := ⟨.hbm, 277, rfl⟩
abbrev main_call7_call0_v18 : Ref sig .tc := ⟨.hbm, 278, rfl⟩
abbrev main_call7_call0_v19 : Ref sig .tc := ⟨.hbm, 279, rfl⟩
abbrev main_call7_call0_v20 : Ref sig .tc := ⟨.hbm, 280, rfl⟩
abbrev main_call7_call0_c_4 : Ref sig .tc := ⟨.hbm, 281, rfl⟩
abbrev main_call7_call0_v21 : Ref sig .tc := ⟨.hbm, 282, rfl⟩
abbrev main_call7_call0_v22 : Ref sig .tc := ⟨.hbm, 283, rfl⟩
abbrev main_call7_call0_c_5 : Ref sig .tc := ⟨.hbm, 284, rfl⟩
abbrev main_call7_call0_v23 : Ref sig .tc := ⟨.hbm, 285, rfl⟩
abbrev main_call7_call0_v24 : Ref sig .tc := ⟨.hbm, 286, rfl⟩
abbrev main_call7_call0_v25 : Ref sig .tc := ⟨.hbm, 287, rfl⟩
abbrev main_call7_call0_v26 : Ref sig .tc := ⟨.hbm, 288, rfl⟩
abbrev main_call7_call0_v27 : Ref sig .tc := ⟨.hbm, 289, rfl⟩
abbrev main_call7_call0_c_6 : Ref sig .tc := ⟨.hbm, 290, rfl⟩
abbrev main_call7_call0_v28 : Ref sig .tc := ⟨.hbm, 291, rfl⟩
abbrev main_call7_call0_v29 : Ref sig .tc := ⟨.hbm, 292, rfl⟩
abbrev main_call7_call0_c_7 : Ref sig .tc := ⟨.hbm, 293, rfl⟩
abbrev main_call7_call0_v30 : Ref sig .tc := ⟨.hbm, 294, rfl⟩
abbrev main_call7_call0_v31 : Ref sig .tc := ⟨.hbm, 295, rfl⟩
abbrev main_call7_call0_v32 : Ref sig .tc := ⟨.hbm, 296, rfl⟩
abbrev main_call7_call0_v33 : Ref sig .tc := ⟨.hbm, 297, rfl⟩
abbrev main_call7_call0_v34 : Ref sig .tc := ⟨.hbm, 298, rfl⟩
abbrev main_call7_call0_v35 : Ref sig .tc := ⟨.hbm, 299, rfl⟩
abbrev main_call7_call0_v36 : Ref sig .tc := ⟨.hbm, 300, rfl⟩
abbrev main_call7_call0_v37 : Ref sig .tc := ⟨.hbm, 301, rfl⟩
abbrev main_call7_call0_c_8 : Ref sig .tc := ⟨.hbm, 302, rfl⟩
abbrev main_call7_call0_v38 : Ref sig .tc := ⟨.hbm, 303, rfl⟩
abbrev main_call7_call0_v39 : Ref sig .tc := ⟨.hbm, 304, rfl⟩
abbrev main_call7_call0_v40 : Ref sig .tc := ⟨.hbm, 305, rfl⟩
abbrev main_call7_call0_c_9 : Ref sig .tc := ⟨.hbm, 306, rfl⟩
abbrev main_call7_call0_v41 : Ref sig .tc := ⟨.hbm, 307, rfl⟩
abbrev main_call7_call0_v42 : Ref sig .tc := ⟨.hbm, 308, rfl⟩
abbrev main_call7_call0_c_10 : Ref sig .tc := ⟨.hbm, 309, rfl⟩
abbrev main_call7_call0_v43 : Ref sig .tc := ⟨.hbm, 310, rfl⟩
abbrev main_call7_call0_v44 : Ref sig .tc := ⟨.hbm, 311, rfl⟩
abbrev main_call7_call0_v45 : Ref sig .tc := ⟨.hbm, 312, rfl⟩
abbrev main_call7_call0_v46 : Ref sig .tc := ⟨.hbm, 313, rfl⟩
abbrev main_call7_call0_v47 : Ref sig .tc := ⟨.hbm, 314, rfl⟩
abbrev main_call7_call0_c_11 : Ref sig .tc := ⟨.hbm, 315, rfl⟩
abbrev main_call7_call0_v48 : Ref sig .tc := ⟨.hbm, 316, rfl⟩
abbrev main_call7_call0_v49 : Ref sig .tc := ⟨.hbm, 317, rfl⟩
abbrev main_call7_call0_c_12 : Ref sig .tc := ⟨.hbm, 318, rfl⟩
abbrev main_call7_call0_v50 : Ref sig .tc := ⟨.hbm, 319, rfl⟩
abbrev main_call7_call0_v51 : Ref sig .tc := ⟨.hbm, 320, rfl⟩
abbrev main_call7_call0_v52 : Ref sig .tc := ⟨.hbm, 321, rfl⟩
abbrev main_call7_call0_v53 : Ref sig .tc := ⟨.hbm, 322, rfl⟩
abbrev main_call7_call0_v54 : Ref sig .tc := ⟨.hbm, 323, rfl⟩
abbrev main_call7_call0_c_13 : Ref sig .tc := ⟨.hbm, 324, rfl⟩
abbrev main_call7_call0_v55 : Ref sig .tc := ⟨.hbm, 325, rfl⟩
abbrev main_call7_call0_v56 : Ref sig .tc := ⟨.hbm, 326, rfl⟩
abbrev main_call7_call0_c_14 : Ref sig .tc := ⟨.hbm, 327, rfl⟩
abbrev main_call7_call0_v57 : Ref sig .tc := ⟨.hbm, 328, rfl⟩
abbrev main_call7_call0_v58 : Ref sig .tc := ⟨.hbm, 329, rfl⟩
abbrev main_call7_call0_v59 : Ref sig .tc := ⟨.hbm, 330, rfl⟩
abbrev main_call7_call0_v60 : Ref sig .tc := ⟨.hbm, 331, rfl⟩
abbrev main_call7_call0_v61 : Ref sig .tc := ⟨.hbm, 332, rfl⟩
abbrev main_call7_call0_c_15 : Ref sig .tc := ⟨.hbm, 333, rfl⟩
abbrev main_call7_call0_v62 : Ref sig .tc := ⟨.hbm, 334, rfl⟩
abbrev main_call7_call0_v63 : Ref sig .tc := ⟨.hbm, 335, rfl⟩
abbrev main_call7_call0_c_16 : Ref sig .tc := ⟨.hbm, 336, rfl⟩
abbrev main_call7_call0_v64 : Ref sig .tc := ⟨.hbm, 337, rfl⟩
abbrev main_call7_call0_v65 : Ref sig .tc := ⟨.hbm, 338, rfl⟩
abbrev main_call7_call0_v66 : Ref sig .tc := ⟨.hbm, 339, rfl⟩
abbrev main_call7_call0_v67 : Ref sig .tc := ⟨.hbm, 340, rfl⟩
abbrev main_call7_call0_v68 : Ref sig .tc := ⟨.hbm, 341, rfl⟩
abbrev main_call7_call0_v69 : Ref sig .tc := ⟨.hbm, 342, rfl⟩
abbrev main_call7_call0_v70 : Ref sig .tc := ⟨.hbm, 343, rfl⟩
abbrev main_call7_call0_v71 : Ref sig .tc := ⟨.hbm, 344, rfl⟩
abbrev main_call7_call0_c_17 : Ref sig .tc := ⟨.hbm, 345, rfl⟩
abbrev main_call7_call0_v72 : Ref sig .tc := ⟨.hbm, 346, rfl⟩
abbrev main_call7_call0_v73 : Ref sig .tc := ⟨.hbm, 347, rfl⟩
abbrev main_call7_call0_v74 : Ref sig .tc := ⟨.hbm, 348, rfl⟩
abbrev main_call7_call0_c_18 : Ref sig .tc := ⟨.hbm, 349, rfl⟩
abbrev main_call7_call0_v75 : Ref sig .tc := ⟨.hbm, 350, rfl⟩
abbrev main_call7_call0_v76 : Ref sig .tc := ⟨.hbm, 351, rfl⟩
abbrev main_call7_call0_c_19 : Ref sig .tc := ⟨.hbm, 352, rfl⟩
abbrev main_call7_call0_v77 : Ref sig .tc := ⟨.hbm, 353, rfl⟩
abbrev main_call7_call0_v78 : Ref sig .tc := ⟨.hbm, 354, rfl⟩
abbrev main_call7_call0_v79 : Ref sig .tc := ⟨.hbm, 355, rfl⟩
abbrev main_call7_call0_v80 : Ref sig .tc := ⟨.hbm, 356, rfl⟩
abbrev main_call7_call0_v81 : Ref sig .tc := ⟨.hbm, 357, rfl⟩
abbrev main_call7_call0_c_20 : Ref sig .tc := ⟨.hbm, 358, rfl⟩
abbrev main_call7_call0_v82 : Ref sig .tc := ⟨.hbm, 359, rfl⟩
abbrev main_call7_call0_v83 : Ref sig .tc := ⟨.hbm, 360, rfl⟩
abbrev main_call7_call0_c_21 : Ref sig .tc := ⟨.hbm, 361, rfl⟩
abbrev main_call7_call0_v84 : Ref sig .tc := ⟨.hbm, 362, rfl⟩
abbrev main_call7_call0_v85 : Ref sig .tc := ⟨.hbm, 363, rfl⟩
abbrev main_call7_call0_v86 : Ref sig .tc := ⟨.hbm, 364, rfl⟩
abbrev main_call7_call0_v87 : Ref sig .tc := ⟨.hbm, 365, rfl⟩
abbrev main_call7_call0_v88 : Ref sig .tc := ⟨.hbm, 366, rfl⟩
abbrev main_call7_call0_c_22 : Ref sig .tc := ⟨.hbm, 367, rfl⟩
abbrev main_call7_call0_v89 : Ref sig .tc := ⟨.hbm, 368, rfl⟩
abbrev main_call7_call0_v90 : Ref sig .tc := ⟨.hbm, 369, rfl⟩
abbrev main_call7_call0_c_23 : Ref sig .tc := ⟨.hbm, 370, rfl⟩
abbrev main_call7_call0_v91 : Ref sig .tc := ⟨.hbm, 371, rfl⟩
abbrev main_call7_call0_v92 : Ref sig .tc := ⟨.hbm, 372, rfl⟩
abbrev main_call7_call0_v93 : Ref sig .tc := ⟨.hbm, 373, rfl⟩
abbrev main_call7_call0_v94 : Ref sig .tc := ⟨.hbm, 374, rfl⟩
abbrev main_call7_call0_v95 : Ref sig .tc := ⟨.hbm, 375, rfl⟩
abbrev main_call7_call0_c_24 : Ref sig .tc := ⟨.hbm, 376, rfl⟩
abbrev main_call7_call0_v96 : Ref sig .tc := ⟨.hbm, 377, rfl⟩
abbrev main_call7_call0_v97 : Ref sig .tc := ⟨.hbm, 378, rfl⟩
abbrev main_call7_call0_c_25 : Ref sig .tc := ⟨.hbm, 379, rfl⟩
abbrev main_call7_call0_v98 : Ref sig .tc := ⟨.hbm, 380, rfl⟩
abbrev main_call7_call0_v99 : Ref sig .tc := ⟨.hbm, 381, rfl⟩
abbrev main_call7_call0_v100 : Ref sig .tc := ⟨.hbm, 382, rfl⟩
abbrev main_call7_call0_v101 : Ref sig .tc := ⟨.hbm, 383, rfl⟩
abbrev main_call7_call0_v102 : Ref sig .tc := ⟨.hbm, 384, rfl⟩
abbrev main_call7_call0_v103 : Ref sig .tc := ⟨.hbm, 385, rfl⟩
abbrev main_call7_call0_v104 : Ref sig .tc := ⟨.hbm, 386, rfl⟩
abbrev main_call7_call0_v105 : Ref sig .tc := ⟨.hbm, 387, rfl⟩
abbrev main_call7_call0_c_26 : Ref sig .tc := ⟨.hbm, 388, rfl⟩
abbrev main_call7_call0_v106 : Ref sig .tc := ⟨.hbm, 389, rfl⟩
abbrev main_call7_call0_v107 : Ref sig .tc := ⟨.hbm, 390, rfl⟩
abbrev main_call7_call0_v108 : Ref sig .tc := ⟨.hbm, 391, rfl⟩
abbrev main_call7_call0_c_27 : Ref sig .tc := ⟨.hbm, 392, rfl⟩
abbrev main_call7_call0_v109 : Ref sig .tc := ⟨.hbm, 393, rfl⟩
abbrev main_call7_call0_v110 : Ref sig .tc := ⟨.hbm, 394, rfl⟩
abbrev main_call7_call0_c_28 : Ref sig .tc := ⟨.hbm, 395, rfl⟩
abbrev main_call7_call0_v111 : Ref sig .tc := ⟨.hbm, 396, rfl⟩
abbrev main_call7_call0_v112 : Ref sig .tc := ⟨.hbm, 397, rfl⟩
abbrev main_call7_call0_v113 : Ref sig .tc := ⟨.hbm, 398, rfl⟩
abbrev main_call7_call0_v114 : Ref sig .tc := ⟨.hbm, 399, rfl⟩
abbrev main_call7_call0_v115 : Ref sig .tc := ⟨.hbm, 400, rfl⟩
abbrev main_call7_call0_c_29 : Ref sig .tc := ⟨.hbm, 401, rfl⟩
abbrev main_call7_call0_v116 : Ref sig .tc := ⟨.hbm, 402, rfl⟩
abbrev main_call7_call0_v117 : Ref sig .tc := ⟨.hbm, 403, rfl⟩
abbrev main_call7_call0_c_30 : Ref sig .tc := ⟨.hbm, 404, rfl⟩
abbrev main_call7_call0_v118 : Ref sig .tc := ⟨.hbm, 405, rfl⟩
abbrev main_call7_call0_v119 : Ref sig .tc := ⟨.hbm, 406, rfl⟩
abbrev main_call7_call0_v120 : Ref sig .tc := ⟨.hbm, 407, rfl⟩
abbrev main_call7_call0_v121 : Ref sig .tc := ⟨.hbm, 408, rfl⟩
abbrev main_call7_call0_v122 : Ref sig .tc := ⟨.hbm, 409, rfl⟩
abbrev main_call7_call0_c_31 : Ref sig .tc := ⟨.hbm, 410, rfl⟩
abbrev main_call7_call0_v123 : Ref sig .tc := ⟨.hbm, 411, rfl⟩
abbrev main_call7_call0_v124 : Ref sig .tc := ⟨.hbm, 412, rfl⟩
abbrev main_call7_call0_c_32 : Ref sig .tc := ⟨.hbm, 413, rfl⟩
abbrev main_call7_call0_v125 : Ref sig .tc := ⟨.hbm, 414, rfl⟩
abbrev main_call7_call0_v126 : Ref sig .tc := ⟨.hbm, 415, rfl⟩
abbrev main_call7_call0_v127 : Ref sig .tc := ⟨.hbm, 416, rfl⟩
abbrev main_call7_call0_v128 : Ref sig .tc := ⟨.hbm, 417, rfl⟩
abbrev main_call7_call0_v129 : Ref sig .tc := ⟨.hbm, 418, rfl⟩
abbrev main_call7_call0_c_33 : Ref sig .tc := ⟨.hbm, 419, rfl⟩
abbrev main_call7_call0_v130 : Ref sig .tc := ⟨.hbm, 420, rfl⟩
abbrev main_call7_call0_v131 : Ref sig .tc := ⟨.hbm, 421, rfl⟩
abbrev main_call7_call0_c_34 : Ref sig .tc := ⟨.hbm, 422, rfl⟩
abbrev main_call7_call0_v132 : Ref sig .tc := ⟨.hbm, 423, rfl⟩
abbrev main_call7_call0_v133 : Ref sig .tc := ⟨.hbm, 424, rfl⟩
abbrev main_call7_call0_v134 : Ref sig .tc := ⟨.hbm, 425, rfl⟩
abbrev main_call7_call0_v135 : Ref sig .tc := ⟨.hbm, 426, rfl⟩
abbrev main_call7_call0_v136 : Ref sig .tc := ⟨.hbm, 427, rfl⟩
abbrev main_call7_call0_v137 : Ref sig .tc := ⟨.hbm, 428, rfl⟩
abbrev main_call7_call0_v138 : Ref sig .tc := ⟨.hbm, 429, rfl⟩
abbrev main_call7_call0_v139 : Ref sig .tc := ⟨.hbm, 430, rfl⟩
abbrev main_call7_call0_c_35 : Ref sig .tc := ⟨.hbm, 431, rfl⟩
abbrev main_call7_call0_v140 : Ref sig .tc := ⟨.hbm, 432, rfl⟩
abbrev main_call7_call0_v141 : Ref sig .tc := ⟨.hbm, 433, rfl⟩
abbrev main_call7_call0_v142 : Ref sig .tc := ⟨.hbm, 434, rfl⟩
abbrev main_call7_call0_c_36 : Ref sig .tc := ⟨.hbm, 435, rfl⟩
abbrev main_call7_call0_v143 : Ref sig .tc := ⟨.hbm, 436, rfl⟩
abbrev main_call7_call0_v144 : Ref sig .tc := ⟨.hbm, 437, rfl⟩
abbrev main_call7_call0_c_37 : Ref sig .tc := ⟨.hbm, 438, rfl⟩
abbrev main_call7_call0_v145 : Ref sig .tc := ⟨.hbm, 439, rfl⟩
abbrev main_call7_call0_v146 : Ref sig .tc := ⟨.hbm, 440, rfl⟩
abbrev main_call7_call0_v147 : Ref sig .tc := ⟨.hbm, 441, rfl⟩
abbrev main_call7_call0_v148 : Ref sig .tc := ⟨.hbm, 442, rfl⟩
abbrev main_call7_call0_v149 : Ref sig .tc := ⟨.hbm, 443, rfl⟩
abbrev main_call7_call0_c_38 : Ref sig .tc := ⟨.hbm, 444, rfl⟩
abbrev main_call7_call0_v150 : Ref sig .tc := ⟨.hbm, 445, rfl⟩
abbrev main_call7_call0_v151 : Ref sig .tc := ⟨.hbm, 446, rfl⟩
abbrev main_call7_call0_c_39 : Ref sig .tc := ⟨.hbm, 447, rfl⟩
abbrev main_call7_call0_v152 : Ref sig .tc := ⟨.hbm, 448, rfl⟩
abbrev main_call7_call0_v153 : Ref sig .tc := ⟨.hbm, 449, rfl⟩
abbrev main_call7_call0_v154 : Ref sig .tc := ⟨.hbm, 450, rfl⟩
abbrev main_call7_call0_v155 : Ref sig .tc := ⟨.hbm, 451, rfl⟩
abbrev main_call7_call0_v156 : Ref sig .tc := ⟨.hbm, 452, rfl⟩
abbrev main_call7_call0_c_40 : Ref sig .tc := ⟨.hbm, 453, rfl⟩
abbrev main_call7_call0_v157 : Ref sig .tc := ⟨.hbm, 454, rfl⟩
abbrev main_call7_call0_v158 : Ref sig .tc := ⟨.hbm, 455, rfl⟩
abbrev main_call7_call0_c_41 : Ref sig .tc := ⟨.hbm, 456, rfl⟩
abbrev main_call7_call0_v159 : Ref sig .tc := ⟨.hbm, 457, rfl⟩
abbrev main_call7_call0_v160 : Ref sig .tc := ⟨.hbm, 458, rfl⟩
abbrev main_call7_call0_v161 : Ref sig .tc := ⟨.hbm, 459, rfl⟩
abbrev main_call7_call0_v162 : Ref sig .tc := ⟨.hbm, 460, rfl⟩
abbrev main_call7_call0_v163 : Ref sig .tc := ⟨.hbm, 461, rfl⟩
abbrev main_call7_call0_c_42 : Ref sig .tc := ⟨.hbm, 462, rfl⟩
abbrev main_call7_call0_v164 : Ref sig .tc := ⟨.hbm, 463, rfl⟩
abbrev main_call7_call0_v165 : Ref sig .tc := ⟨.hbm, 464, rfl⟩
abbrev main_call7_call0_c_43 : Ref sig .tc := ⟨.hbm, 465, rfl⟩
abbrev main_call7_call0_v166 : Ref sig .tc := ⟨.hbm, 466, rfl⟩
abbrev main_call7_call0_v167 : Ref sig .tc := ⟨.hbm, 467, rfl⟩
abbrev main_call7_call0_v168 : Ref sig .tc := ⟨.hbm, 468, rfl⟩
abbrev main_call7_call0_v169 : Ref sig .tc := ⟨.hbm, 469, rfl⟩
abbrev main_call7_call0_v170 : Ref sig .tc := ⟨.hbm, 470, rfl⟩
abbrev main_call7_v11_0 : Ref sig .tc := ⟨.hbm, 471, rfl⟩
abbrev main_call7_call0_v172 : Ref sig .tc := ⟨.hbm, 472, rfl⟩
abbrev main_call7_call0_v173 : Ref sig .tc := ⟨.hbm, 473, rfl⟩
abbrev main_call7_call0_c_44 : Ref sig .tc := ⟨.hbm, 474, rfl⟩
abbrev main_call7_call0_v174 : Ref sig .tc := ⟨.hbm, 475, rfl⟩
abbrev main_call7_v11_1 : Ref sig .tc := ⟨.hbm, 476, rfl⟩
abbrev main_v114 : Ref sig .tc := ⟨.hbm, 477, rfl⟩
abbrev main_cst_26 : Ref sig .tc := ⟨.hbm, 478, rfl⟩
abbrev main_cst_27 : Ref sig .tc := ⟨.hbm, 479, rfl⟩
abbrev main_call8_v0 : Ref sig .tc := ⟨.hbm, 480, rfl⟩
abbrev main_call8_v1 : Ref sig .tc := ⟨.hbm, 481, rfl⟩
abbrev main_call8_v2 : Ref sig .tc := ⟨.hbm, 482, rfl⟩
abbrev main_call8_v3 : Ref sig .tc := ⟨.hbm, 483, rfl⟩
abbrev main_call8_v4 : Ref sig .tc := ⟨.hbm, 484, rfl⟩
abbrev main_call8_v5 : Ref sig .tc := ⟨.hbm, 485, rfl⟩
abbrev main_call8_v6 : Ref sig .tc := ⟨.hbm, 486, rfl⟩
abbrev main_call8_v7 : Ref sig .tc := ⟨.hbm, 487, rfl⟩
abbrev main_call8_v8 : Ref sig .tc := ⟨.hbm, 488, rfl⟩
abbrev main_call8_v9 : Ref sig .tc := ⟨.hbm, 489, rfl⟩
abbrev main_call8_c : Ref sig .tc := ⟨.hbm, 490, rfl⟩
abbrev main_call8_v10 : Ref sig .tc := ⟨.hbm, 491, rfl⟩
abbrev main_call8_v11 : Ref sig .tc := ⟨.hbm, 492, rfl⟩
abbrev main_call8_c_0 : Ref sig .tc := ⟨.hbm, 493, rfl⟩
abbrev main_call8_v12 : Ref sig .tc := ⟨.hbm, 494, rfl⟩
abbrev main_call8_v13 : Ref sig .tc := ⟨.hbm, 495, rfl⟩
abbrev main_call8_v14 : Ref sig .tc := ⟨.hbm, 496, rfl⟩
abbrev main_call8_c_1 : Ref sig .tc := ⟨.hbm, 497, rfl⟩
abbrev main_call8_v15 : Ref sig .tc := ⟨.hbm, 498, rfl⟩
abbrev main_call8_v16 : Ref sig .tc := ⟨.hbm, 499, rfl⟩
abbrev main_call8_v17 : Ref sig .tc := ⟨.hbm, 500, rfl⟩
abbrev main_call8_v18 : Ref sig .tc := ⟨.hbm, 501, rfl⟩
abbrev main_call8_call0_v0 : Ref sig .tc := ⟨.hbm, 502, rfl⟩
abbrev main_call8_call0_c : Ref sig .tc := ⟨.hbm, 503, rfl⟩
abbrev main_call8_call0_v1 : Ref sig .tc := ⟨.hbm, 504, rfl⟩
abbrev main_call8_call0_v2 : Ref sig .tc := ⟨.hbm, 505, rfl⟩
abbrev main_call8_call0_v3 : Ref sig .tc := ⟨.hbm, 506, rfl⟩
abbrev main_call8_call0_v4 : Ref sig .tc := ⟨.hbm, 507, rfl⟩
abbrev main_call8_call0_v5 : Ref sig .tc := ⟨.hbm, 508, rfl⟩
abbrev main_call8_call0_v6 : Ref sig .tc := ⟨.hbm, 509, rfl⟩
abbrev main_call8_call0_c_0 : Ref sig .tc := ⟨.hbm, 510, rfl⟩
abbrev main_call8_call0_v7 : Ref sig .tc := ⟨.hbm, 511, rfl⟩
abbrev main_call8_call0_v8 : Ref sig .tc := ⟨.hbm, 512, rfl⟩
abbrev main_call8_call0_c_1 : Ref sig .tc := ⟨.hbm, 513, rfl⟩
abbrev main_call8_call0_v9 : Ref sig .tc := ⟨.hbm, 514, rfl⟩
abbrev main_call8_call0_v10 : Ref sig .tc := ⟨.hbm, 515, rfl⟩
abbrev main_call8_call0_v11 : Ref sig .tc := ⟨.hbm, 516, rfl⟩
abbrev main_call8_call0_v12 : Ref sig .tc := ⟨.hbm, 517, rfl⟩
abbrev main_call8_call0_v13 : Ref sig .tc := ⟨.hbm, 518, rfl⟩
abbrev main_call8_call0_c_2 : Ref sig .tc := ⟨.hbm, 519, rfl⟩
abbrev main_call8_call0_v14 : Ref sig .tc := ⟨.hbm, 520, rfl⟩
abbrev main_call8_call0_v15 : Ref sig .tc := ⟨.hbm, 521, rfl⟩
abbrev main_call8_call0_c_3 : Ref sig .tc := ⟨.hbm, 522, rfl⟩
abbrev main_call8_call0_v16 : Ref sig .tc := ⟨.hbm, 523, rfl⟩
abbrev main_call8_call0_v17 : Ref sig .tc := ⟨.hbm, 524, rfl⟩
abbrev main_call8_call0_v18 : Ref sig .tc := ⟨.hbm, 525, rfl⟩
abbrev main_call8_call0_v19 : Ref sig .tc := ⟨.hbm, 526, rfl⟩
abbrev main_call8_call0_v20 : Ref sig .tc := ⟨.hbm, 527, rfl⟩
abbrev main_call8_call0_c_4 : Ref sig .tc := ⟨.hbm, 528, rfl⟩
abbrev main_call8_call0_v21 : Ref sig .tc := ⟨.hbm, 529, rfl⟩
abbrev main_call8_call0_v22 : Ref sig .tc := ⟨.hbm, 530, rfl⟩
abbrev main_call8_call0_c_5 : Ref sig .tc := ⟨.hbm, 531, rfl⟩
abbrev main_call8_call0_v23 : Ref sig .tc := ⟨.hbm, 532, rfl⟩
abbrev main_call8_call0_v24 : Ref sig .tc := ⟨.hbm, 533, rfl⟩
abbrev main_call8_call0_v25 : Ref sig .tc := ⟨.hbm, 534, rfl⟩
abbrev main_call8_call0_v26 : Ref sig .tc := ⟨.hbm, 535, rfl⟩
abbrev main_call8_call0_v27 : Ref sig .tc := ⟨.hbm, 536, rfl⟩
abbrev main_call8_call0_c_6 : Ref sig .tc := ⟨.hbm, 537, rfl⟩
abbrev main_call8_call0_v28 : Ref sig .tc := ⟨.hbm, 538, rfl⟩
abbrev main_call8_call0_v29 : Ref sig .tc := ⟨.hbm, 539, rfl⟩
abbrev main_call8_call0_c_7 : Ref sig .tc := ⟨.hbm, 540, rfl⟩
abbrev main_call8_call0_v30 : Ref sig .tc := ⟨.hbm, 541, rfl⟩
abbrev main_call8_call0_v31 : Ref sig .tc := ⟨.hbm, 542, rfl⟩
abbrev main_call8_call0_v32 : Ref sig .tc := ⟨.hbm, 543, rfl⟩
abbrev main_call8_call0_v33 : Ref sig .tc := ⟨.hbm, 544, rfl⟩
abbrev main_call8_call0_v34 : Ref sig .tc := ⟨.hbm, 545, rfl⟩
abbrev main_call8_call0_v35 : Ref sig .tc := ⟨.hbm, 546, rfl⟩
abbrev main_call8_call0_v36 : Ref sig .tc := ⟨.hbm, 547, rfl⟩
abbrev main_call8_call0_v37 : Ref sig .tc := ⟨.hbm, 548, rfl⟩
abbrev main_call8_call0_c_8 : Ref sig .tc := ⟨.hbm, 549, rfl⟩
abbrev main_call8_call0_v38 : Ref sig .tc := ⟨.hbm, 550, rfl⟩
abbrev main_call8_call0_v39 : Ref sig .tc := ⟨.hbm, 551, rfl⟩
abbrev main_call8_call0_v40 : Ref sig .tc := ⟨.hbm, 552, rfl⟩
abbrev main_call8_call0_c_9 : Ref sig .tc := ⟨.hbm, 553, rfl⟩
abbrev main_call8_call0_v41 : Ref sig .tc := ⟨.hbm, 554, rfl⟩
abbrev main_call8_call0_v42 : Ref sig .tc := ⟨.hbm, 555, rfl⟩
abbrev main_call8_call0_c_10 : Ref sig .tc := ⟨.hbm, 556, rfl⟩
abbrev main_call8_call0_v43 : Ref sig .tc := ⟨.hbm, 557, rfl⟩
abbrev main_call8_call0_v44 : Ref sig .tc := ⟨.hbm, 558, rfl⟩
abbrev main_call8_call0_v45 : Ref sig .tc := ⟨.hbm, 559, rfl⟩
abbrev main_call8_call0_v46 : Ref sig .tc := ⟨.hbm, 560, rfl⟩
abbrev main_call8_call0_v47 : Ref sig .tc := ⟨.hbm, 561, rfl⟩
abbrev main_call8_call0_c_11 : Ref sig .tc := ⟨.hbm, 562, rfl⟩
abbrev main_call8_call0_v48 : Ref sig .tc := ⟨.hbm, 563, rfl⟩
abbrev main_call8_call0_v49 : Ref sig .tc := ⟨.hbm, 564, rfl⟩
abbrev main_call8_call0_c_12 : Ref sig .tc := ⟨.hbm, 565, rfl⟩
abbrev main_call8_call0_v50 : Ref sig .tc := ⟨.hbm, 566, rfl⟩
abbrev main_call8_call0_v51 : Ref sig .tc := ⟨.hbm, 567, rfl⟩
abbrev main_call8_call0_v52 : Ref sig .tc := ⟨.hbm, 568, rfl⟩
abbrev main_call8_call0_v53 : Ref sig .tc := ⟨.hbm, 569, rfl⟩
abbrev main_call8_call0_v54 : Ref sig .tc := ⟨.hbm, 570, rfl⟩
abbrev main_call8_call0_c_13 : Ref sig .tc := ⟨.hbm, 571, rfl⟩
abbrev main_call8_call0_v55 : Ref sig .tc := ⟨.hbm, 572, rfl⟩
abbrev main_call8_call0_v56 : Ref sig .tc := ⟨.hbm, 573, rfl⟩
abbrev main_call8_call0_c_14 : Ref sig .tc := ⟨.hbm, 574, rfl⟩
abbrev main_call8_call0_v57 : Ref sig .tc := ⟨.hbm, 575, rfl⟩
abbrev main_call8_call0_v58 : Ref sig .tc := ⟨.hbm, 576, rfl⟩
abbrev main_call8_call0_v59 : Ref sig .tc := ⟨.hbm, 577, rfl⟩
abbrev main_call8_call0_v60 : Ref sig .tc := ⟨.hbm, 578, rfl⟩
abbrev main_call8_call0_v61 : Ref sig .tc := ⟨.hbm, 579, rfl⟩
abbrev main_call8_call0_c_15 : Ref sig .tc := ⟨.hbm, 580, rfl⟩
abbrev main_call8_call0_v62 : Ref sig .tc := ⟨.hbm, 581, rfl⟩
abbrev main_call8_call0_v63 : Ref sig .tc := ⟨.hbm, 582, rfl⟩
abbrev main_call8_call0_c_16 : Ref sig .tc := ⟨.hbm, 583, rfl⟩
abbrev main_call8_call0_v64 : Ref sig .tc := ⟨.hbm, 584, rfl⟩
abbrev main_call8_call0_v65 : Ref sig .tc := ⟨.hbm, 585, rfl⟩
abbrev main_call8_call0_v66 : Ref sig .tc := ⟨.hbm, 586, rfl⟩
abbrev main_call8_call0_v67 : Ref sig .tc := ⟨.hbm, 587, rfl⟩
abbrev main_call8_call0_v68 : Ref sig .tc := ⟨.hbm, 588, rfl⟩
abbrev main_call8_call0_v69 : Ref sig .tc := ⟨.hbm, 589, rfl⟩
abbrev main_call8_call0_v70 : Ref sig .tc := ⟨.hbm, 590, rfl⟩
abbrev main_call8_call0_v71 : Ref sig .tc := ⟨.hbm, 591, rfl⟩
abbrev main_call8_call0_c_17 : Ref sig .tc := ⟨.hbm, 592, rfl⟩
abbrev main_call8_call0_v72 : Ref sig .tc := ⟨.hbm, 593, rfl⟩
abbrev main_call8_call0_v73 : Ref sig .tc := ⟨.hbm, 594, rfl⟩
abbrev main_call8_call0_v74 : Ref sig .tc := ⟨.hbm, 595, rfl⟩
abbrev main_call8_call0_c_18 : Ref sig .tc := ⟨.hbm, 596, rfl⟩
abbrev main_call8_call0_v75 : Ref sig .tc := ⟨.hbm, 597, rfl⟩
abbrev main_call8_call0_v76 : Ref sig .tc := ⟨.hbm, 598, rfl⟩
abbrev main_call8_call0_c_19 : Ref sig .tc := ⟨.hbm, 599, rfl⟩
abbrev main_call8_call0_v77 : Ref sig .tc := ⟨.hbm, 600, rfl⟩
abbrev main_call8_call0_v78 : Ref sig .tc := ⟨.hbm, 601, rfl⟩
abbrev main_call8_call0_v79 : Ref sig .tc := ⟨.hbm, 602, rfl⟩
abbrev main_call8_call0_v80 : Ref sig .tc := ⟨.hbm, 603, rfl⟩
abbrev main_call8_call0_v81 : Ref sig .tc := ⟨.hbm, 604, rfl⟩
abbrev main_call8_call0_c_20 : Ref sig .tc := ⟨.hbm, 605, rfl⟩
abbrev main_call8_call0_v82 : Ref sig .tc := ⟨.hbm, 606, rfl⟩
abbrev main_call8_call0_v83 : Ref sig .tc := ⟨.hbm, 607, rfl⟩
abbrev main_call8_call0_c_21 : Ref sig .tc := ⟨.hbm, 608, rfl⟩
abbrev main_call8_call0_v84 : Ref sig .tc := ⟨.hbm, 609, rfl⟩
abbrev main_call8_call0_v85 : Ref sig .tc := ⟨.hbm, 610, rfl⟩
abbrev main_call8_call0_v86 : Ref sig .tc := ⟨.hbm, 611, rfl⟩
abbrev main_call8_call0_v87 : Ref sig .tc := ⟨.hbm, 612, rfl⟩
abbrev main_call8_call0_v88 : Ref sig .tc := ⟨.hbm, 613, rfl⟩
abbrev main_call8_call0_c_22 : Ref sig .tc := ⟨.hbm, 614, rfl⟩
abbrev main_call8_call0_v89 : Ref sig .tc := ⟨.hbm, 615, rfl⟩
abbrev main_call8_call0_v90 : Ref sig .tc := ⟨.hbm, 616, rfl⟩
abbrev main_call8_call0_c_23 : Ref sig .tc := ⟨.hbm, 617, rfl⟩
abbrev main_call8_call0_v91 : Ref sig .tc := ⟨.hbm, 618, rfl⟩
abbrev main_call8_call0_v92 : Ref sig .tc := ⟨.hbm, 619, rfl⟩
abbrev main_call8_call0_v93 : Ref sig .tc := ⟨.hbm, 620, rfl⟩
abbrev main_call8_call0_v94 : Ref sig .tc := ⟨.hbm, 621, rfl⟩
abbrev main_call8_call0_v95 : Ref sig .tc := ⟨.hbm, 622, rfl⟩
abbrev main_call8_call0_c_24 : Ref sig .tc := ⟨.hbm, 623, rfl⟩
abbrev main_call8_call0_v96 : Ref sig .tc := ⟨.hbm, 624, rfl⟩
abbrev main_call8_call0_v97 : Ref sig .tc := ⟨.hbm, 625, rfl⟩
abbrev main_call8_call0_c_25 : Ref sig .tc := ⟨.hbm, 626, rfl⟩
abbrev main_call8_call0_v98 : Ref sig .tc := ⟨.hbm, 627, rfl⟩
abbrev main_call8_call0_v99 : Ref sig .tc := ⟨.hbm, 628, rfl⟩
abbrev main_call8_call0_v100 : Ref sig .tc := ⟨.hbm, 629, rfl⟩
abbrev main_call8_call0_v101 : Ref sig .tc := ⟨.hbm, 630, rfl⟩
abbrev main_call8_call0_v102 : Ref sig .tc := ⟨.hbm, 631, rfl⟩
abbrev main_call8_call0_v103 : Ref sig .tc := ⟨.hbm, 632, rfl⟩
abbrev main_call8_call0_v104 : Ref sig .tc := ⟨.hbm, 633, rfl⟩
abbrev main_call8_call0_v105 : Ref sig .tc := ⟨.hbm, 634, rfl⟩
abbrev main_call8_call0_c_26 : Ref sig .tc := ⟨.hbm, 635, rfl⟩
abbrev main_call8_call0_v106 : Ref sig .tc := ⟨.hbm, 636, rfl⟩
abbrev main_call8_call0_v107 : Ref sig .tc := ⟨.hbm, 637, rfl⟩
abbrev main_call8_call0_v108 : Ref sig .tc := ⟨.hbm, 638, rfl⟩
abbrev main_call8_call0_c_27 : Ref sig .tc := ⟨.hbm, 639, rfl⟩
abbrev main_call8_call0_v109 : Ref sig .tc := ⟨.hbm, 640, rfl⟩
abbrev main_call8_call0_v110 : Ref sig .tc := ⟨.hbm, 641, rfl⟩
abbrev main_call8_call0_c_28 : Ref sig .tc := ⟨.hbm, 642, rfl⟩
abbrev main_call8_call0_v111 : Ref sig .tc := ⟨.hbm, 643, rfl⟩
abbrev main_call8_call0_v112 : Ref sig .tc := ⟨.hbm, 644, rfl⟩
abbrev main_call8_call0_v113 : Ref sig .tc := ⟨.hbm, 645, rfl⟩
abbrev main_call8_call0_v114 : Ref sig .tc := ⟨.hbm, 646, rfl⟩
abbrev main_call8_call0_v115 : Ref sig .tc := ⟨.hbm, 647, rfl⟩
abbrev main_call8_call0_c_29 : Ref sig .tc := ⟨.hbm, 648, rfl⟩
abbrev main_call8_call0_v116 : Ref sig .tc := ⟨.hbm, 649, rfl⟩
abbrev main_call8_call0_v117 : Ref sig .tc := ⟨.hbm, 650, rfl⟩
abbrev main_call8_call0_c_30 : Ref sig .tc := ⟨.hbm, 651, rfl⟩
abbrev main_call8_call0_v118 : Ref sig .tc := ⟨.hbm, 652, rfl⟩
abbrev main_call8_call0_v119 : Ref sig .tc := ⟨.hbm, 653, rfl⟩
abbrev main_call8_call0_v120 : Ref sig .tc := ⟨.hbm, 654, rfl⟩
abbrev main_call8_call0_v121 : Ref sig .tc := ⟨.hbm, 655, rfl⟩
abbrev main_call8_call0_v122 : Ref sig .tc := ⟨.hbm, 656, rfl⟩
abbrev main_call8_call0_c_31 : Ref sig .tc := ⟨.hbm, 657, rfl⟩
abbrev main_call8_call0_v123 : Ref sig .tc := ⟨.hbm, 658, rfl⟩
abbrev main_call8_call0_v124 : Ref sig .tc := ⟨.hbm, 659, rfl⟩
abbrev main_call8_call0_c_32 : Ref sig .tc := ⟨.hbm, 660, rfl⟩
abbrev main_call8_call0_v125 : Ref sig .tc := ⟨.hbm, 661, rfl⟩
abbrev main_call8_call0_v126 : Ref sig .tc := ⟨.hbm, 662, rfl⟩
abbrev main_call8_call0_v127 : Ref sig .tc := ⟨.hbm, 663, rfl⟩
abbrev main_call8_call0_v128 : Ref sig .tc := ⟨.hbm, 664, rfl⟩
abbrev main_call8_call0_v129 : Ref sig .tc := ⟨.hbm, 665, rfl⟩
abbrev main_call8_call0_c_33 : Ref sig .tc := ⟨.hbm, 666, rfl⟩
abbrev main_call8_call0_v130 : Ref sig .tc := ⟨.hbm, 667, rfl⟩
abbrev main_call8_call0_v131 : Ref sig .tc := ⟨.hbm, 668, rfl⟩
abbrev main_call8_call0_c_34 : Ref sig .tc := ⟨.hbm, 669, rfl⟩
abbrev main_call8_call0_v132 : Ref sig .tc := ⟨.hbm, 670, rfl⟩
abbrev main_call8_call0_v133 : Ref sig .tc := ⟨.hbm, 671, rfl⟩
abbrev main_call8_call0_v134 : Ref sig .tc := ⟨.hbm, 672, rfl⟩
abbrev main_call8_call0_v135 : Ref sig .tc := ⟨.hbm, 673, rfl⟩
abbrev main_call8_call0_v136 : Ref sig .tc := ⟨.hbm, 674, rfl⟩
abbrev main_call8_call0_v137 : Ref sig .tc := ⟨.hbm, 675, rfl⟩
abbrev main_call8_call0_v138 : Ref sig .tc := ⟨.hbm, 676, rfl⟩
abbrev main_call8_call0_v139 : Ref sig .tc := ⟨.hbm, 677, rfl⟩
abbrev main_call8_call0_c_35 : Ref sig .tc := ⟨.hbm, 678, rfl⟩
abbrev main_call8_call0_v140 : Ref sig .tc := ⟨.hbm, 679, rfl⟩
abbrev main_call8_call0_v141 : Ref sig .tc := ⟨.hbm, 680, rfl⟩
abbrev main_call8_call0_v142 : Ref sig .tc := ⟨.hbm, 681, rfl⟩
abbrev main_call8_call0_c_36 : Ref sig .tc := ⟨.hbm, 682, rfl⟩
abbrev main_call8_call0_v143 : Ref sig .tc := ⟨.hbm, 683, rfl⟩
abbrev main_call8_call0_v144 : Ref sig .tc := ⟨.hbm, 684, rfl⟩
abbrev main_call8_call0_c_37 : Ref sig .tc := ⟨.hbm, 685, rfl⟩
abbrev main_call8_call0_v145 : Ref sig .tc := ⟨.hbm, 686, rfl⟩
abbrev main_call8_call0_v146 : Ref sig .tc := ⟨.hbm, 687, rfl⟩
abbrev main_call8_call0_v147 : Ref sig .tc := ⟨.hbm, 688, rfl⟩
abbrev main_call8_call0_v148 : Ref sig .tc := ⟨.hbm, 689, rfl⟩
abbrev main_call8_call0_v149 : Ref sig .tc := ⟨.hbm, 690, rfl⟩
abbrev main_call8_call0_c_38 : Ref sig .tc := ⟨.hbm, 691, rfl⟩
abbrev main_call8_call0_v150 : Ref sig .tc := ⟨.hbm, 692, rfl⟩
abbrev main_call8_call0_v151 : Ref sig .tc := ⟨.hbm, 693, rfl⟩
abbrev main_call8_call0_c_39 : Ref sig .tc := ⟨.hbm, 694, rfl⟩
abbrev main_call8_call0_v152 : Ref sig .tc := ⟨.hbm, 695, rfl⟩
abbrev main_call8_call0_v153 : Ref sig .tc := ⟨.hbm, 696, rfl⟩
abbrev main_call8_call0_v154 : Ref sig .tc := ⟨.hbm, 697, rfl⟩
abbrev main_call8_call0_v155 : Ref sig .tc := ⟨.hbm, 698, rfl⟩
abbrev main_call8_call0_v156 : Ref sig .tc := ⟨.hbm, 699, rfl⟩
abbrev main_call8_call0_c_40 : Ref sig .tc := ⟨.hbm, 700, rfl⟩
abbrev main_call8_call0_v157 : Ref sig .tc := ⟨.hbm, 701, rfl⟩
abbrev main_call8_call0_v158 : Ref sig .tc := ⟨.hbm, 702, rfl⟩
abbrev main_call8_call0_c_41 : Ref sig .tc := ⟨.hbm, 703, rfl⟩
abbrev main_call8_call0_v159 : Ref sig .tc := ⟨.hbm, 704, rfl⟩
abbrev main_call8_call0_v160 : Ref sig .tc := ⟨.hbm, 705, rfl⟩
abbrev main_call8_call0_v161 : Ref sig .tc := ⟨.hbm, 706, rfl⟩
abbrev main_call8_call0_v162 : Ref sig .tc := ⟨.hbm, 707, rfl⟩
abbrev main_call8_call0_v163 : Ref sig .tc := ⟨.hbm, 708, rfl⟩
abbrev main_call8_call0_c_42 : Ref sig .tc := ⟨.hbm, 709, rfl⟩
abbrev main_call8_call0_v164 : Ref sig .tc := ⟨.hbm, 710, rfl⟩
abbrev main_call8_call0_v165 : Ref sig .tc := ⟨.hbm, 711, rfl⟩
abbrev main_call8_call0_c_43 : Ref sig .tc := ⟨.hbm, 712, rfl⟩
abbrev main_call8_call0_v166 : Ref sig .tc := ⟨.hbm, 713, rfl⟩
abbrev main_call8_call0_v167 : Ref sig .tc := ⟨.hbm, 714, rfl⟩
abbrev main_call8_call0_v168 : Ref sig .tc := ⟨.hbm, 715, rfl⟩
abbrev main_call8_call0_v169 : Ref sig .tc := ⟨.hbm, 716, rfl⟩
abbrev main_call8_call0_v170 : Ref sig .tc := ⟨.hbm, 717, rfl⟩
abbrev main_call8_v19_0 : Ref sig .tc := ⟨.hbm, 718, rfl⟩
abbrev main_call8_call0_v172 : Ref sig .tc := ⟨.hbm, 719, rfl⟩
abbrev main_call8_call0_v173 : Ref sig .tc := ⟨.hbm, 720, rfl⟩
abbrev main_call8_call0_c_44 : Ref sig .tc := ⟨.hbm, 721, rfl⟩
abbrev main_call8_call0_v174 : Ref sig .tc := ⟨.hbm, 722, rfl⟩
abbrev main_call8_v19_1 : Ref sig .tc := ⟨.hbm, 723, rfl⟩
abbrev main_call8_v20 : Ref sig .tc := ⟨.hbm, 724, rfl⟩
abbrev main_call8_c_2 : Ref sig .tc := ⟨.hbm, 725, rfl⟩
abbrev main_call8_v21 : Ref sig .tc := ⟨.hbm, 726, rfl⟩
abbrev main_call8_v22 : Ref sig .tc := ⟨.hbm, 727, rfl⟩
abbrev main_call8_c_3 : Ref sig .tc := ⟨.hbm, 728, rfl⟩
abbrev main_call8_v23 : Ref sig .tc := ⟨.hbm, 729, rfl⟩
abbrev main_call8_v24 : Ref sig .tc := ⟨.hbm, 730, rfl⟩
abbrev main_call8_v25 : Ref sig .tc := ⟨.hbm, 731, rfl⟩
abbrev main_call8_cst : Ref sig .tc := ⟨.hbm, 732, rfl⟩
abbrev main_call8_v26 : Ref sig .tc := ⟨.hbm, 733, rfl⟩
abbrev main_call8_v27 : Ref sig .tc := ⟨.hbm, 734, rfl⟩
abbrev main_call8_v28 : Ref sig .tc := ⟨.hbm, 735, rfl⟩
abbrev main_call8_v29 : Ref sig .tc := ⟨.hbm, 736, rfl⟩
abbrev main_call8_v30 : Ref sig .tc := ⟨.hbm, 737, rfl⟩
abbrev main_call8_v31 : Ref sig .tc := ⟨.hbm, 738, rfl⟩
abbrev main_call8_v32 : Ref sig .tc := ⟨.hbm, 739, rfl⟩
abbrev main_call8_v33 : Ref sig .tc := ⟨.hbm, 740, rfl⟩
abbrev main_v115 : Ref sig .tc := ⟨.hbm, 741, rfl⟩
abbrev main_v116 : Ref sig .tc := ⟨.hbm, 742, rfl⟩
abbrev main_v117 : Ref sig .tc := ⟨.hbm, 743, rfl⟩
abbrev main_v118 : Ref sig .tc := ⟨.hbm, 744, rfl⟩
abbrev main_v119 : Ref sig .tc := ⟨.hbm, 745, rfl⟩
abbrev main_cst_28 : Ref sig .tc := ⟨.hbm, 746, rfl⟩
abbrev main_v120 : Ref sig .tc := ⟨.hbm, 747, rfl⟩
abbrev main_v121 : Ref sig .tc := ⟨.hbm, 748, rfl⟩
abbrev main_v122 : Ref sig .tc := ⟨.hbm, 749, rfl⟩
abbrev main_v123 : Ref sig .tc := ⟨.hbm, 750, rfl⟩
abbrev main_values : Ref sig .tc := ⟨.hbm, 751, rfl⟩
abbrev main_indices : Ref sig .tc := ⟨.hbm, 752, rfl⟩

abbrev nD : Nat := 1
abbrev τ : Topo := Topo.v7x

variable {F : FTy → Type} [FloatOps F]
-- ==== Proof.Launch.KernelIdeal.lean ====
/- The launch of the idealized kernel: what the host operations leave at the region's entry (`V`), what one grid point's body leaves
   in the two result blocks (`out0_28`, `out0_29`), the proof data, the run of the whole program (`run_main`) and the
   frame (`frame`): the program ends, every argument as it was and every semaphore at zero.  The text is the set-up
   that is generated for this program, under larger budgets, since its body has thirty windows. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

-- the long axes are looked at one coordinate at a time (`View.cover_of_tiled`)
set_option maxRecDepth 16384
set_option maxHeartbeats 8000000

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`, `hostOps0_5`, `hostOps0_6`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor

/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6] (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
/-- Input window 18's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
/-- Input window 19's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
/-- Input window 20's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
/-- Input window 21's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)
/-- Input window 22's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_22_of {c : Dev nD} (dat : Dat τ (Elt F) Unit ℕ (UR sig nD τ) ℕ cfg0 c) (hA : dat.A 22 = V m c (Pipeline.arrRef spec0 22))
    (hafter : ∀ t, dat.after 22 t = iblk m c 22 t) (t : Fin cfg0.N) (d) : dat.before 22 t d = iblk m c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)
/-- Input window 23's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_23_of {c : Dev nD} (dat : Dat τ (Elt F) Unit ℕ (UR sig nD τ) ℕ cfg0 c) (hA : dat.A 23 = V m c (Pipeline.arrRef spec0 23))
    (hafter : ∀ t, dat.after 23 t = iblk m c 23 t) (t : Fin cfg0.N) (d) : dat.before 23 t d = iblk m c 23 t :=
  (dat.before_in_eq_fetched 23 rfl (fun _ => rfl) (fun _ _ _ => rfl) (fun t => by rw [hafter]; unfold Dat.blockOf iblk; rw [hA]; try rfl) t d).trans
    (by unfold Dat.fetched Dat.blockOf iblk; rw [hA]; try rfl)
/-- Input window 24's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_24_of {c : Dev nD} (dat : Dat τ (Elt F) Unit ℕ (UR sig nD τ) ℕ cfg0 c) (hA : dat.A 24 = V m c (Pipeline.arrRef spec0 24))
    (hafter : ∀ t, dat.after 24 t = iblk m c 24 t) (t : Fin cfg0.N) (d) : dat.before 24 t d = iblk m c 24 t :=
  (dat.before_in_eq_fetched 24 rfl (fun _ => rfl) (fun _ _ _ => rfl) (fun t => by rw [hafter]; unfold Dat.blockOf iblk; rw [hA]; try rfl) t d).trans
    (by unfold Dat.fetched Dat.blockOf iblk; rw [hA]; try rfl)
/-- Input window 25's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_25_of {c : Dev nD} (dat : Dat τ (Elt F) Unit ℕ (UR sig nD τ) ℕ cfg0 c) (hA : dat.A 25 = V m c (Pipeline.arrRef spec0 25))
    (hafter : ∀ t, dat.after 25 t = iblk m c 25 t) (t : Fin cfg0.N) (d) : dat.before 25 t d = iblk m c 25 t :=
  (dat.before_in_eq_fetched 25 rfl (fun _ => rfl) (fun _ _ _ => rfl) (fun t => by rw [hafter]; unfold Dat.blockOf iblk; rw [hA]; try rfl) t d).trans
    (by unfold Dat.fetched Dat.blockOf iblk; rw [hA]; try rfl)
/-- Input window 26's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_26_of {c : Dev nD} (dat : Dat τ (Elt F) Unit ℕ (UR sig nD τ) ℕ cfg0 c) (hA : dat.A 26 = V m c (Pipeline.arrRef spec0 26))
    (hafter : ∀ t, dat.after 26 t = iblk m c 26 t) (t : Fin cfg0.N) (d) : dat.before 26 t d = iblk m c 26 t :=
  (dat.before_in_eq_fetched 26 rfl (fun _ => rfl) (fun _ _ _ => rfl) (fun t => by rw [hafter]; unfold Dat.blockOf iblk; rw [hA]; try rfl) t d).trans
    (by unfold Dat.fetched Dat.blockOf iblk; rw [hA]; try rfl)
/-- Input window 27's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_27_of {c : Dev nD} (dat : Dat τ (Elt F) Unit ℕ (UR sig nD τ) ℕ cfg0 c) (hA : dat.A 27 = V m c (Pipeline.arrRef spec0 27))
    (hafter : ∀ t, dat.after 27 t = iblk m c 27 t) (t : Fin cfg0.N) (d) : dat.before 27 t d = iblk m c 27 t :=
  (dat.before_in_eq_fetched 27 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1800000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩) h

/-! ## The body's accesses -/

abbrev r0_0 : Rect S80x2560 := Rect.unit (s := S80x2560) ![0, 0] S80x2560.size inb_S80x2560_S80x2560_0_0
abbrev r0_1 : Rect S32x128 := Rect.unit (s := S32x128) ![0, 0] S32x128.size inb_S32x128_S32x128_0_0
abbrev r0_2 : Rect S80x128 := Rect.unit (s := S80x128) ![0, 0] S80x128.size inb_S80x128_S80x128_0_0
abbrev r0_3 : Rect S32x80 := Rect.unit (s := S32x80) ![0, 0] S32x80.size inb_S32x80_S32x80_0_0
abbrev r0_4 : Rect S32x64 := Rect.unit (s := S32x64) ![0, 0] S32x64.size inb_S32x64_S32x64_0_0
abbrev r0_5 : Rect S1x64 := Rect.unit (s := S1x64) ![0, 0] S1x64.size inb_S1x64_S1x64_0_0
abbrev r0_6 : Rect S80x32x128 := Rect.unit (s := S80x32x128) ![0, 0, 0] S80x32x128.size inb_S80x32x128_S80x32x128_0_0_0
abbrev r0_7 : Rect S32x2560 := Rect.unit (s := S32x2560) ![0, 0] S32x2560.size inb_S32x2560_S32x2560_0_0
abbrev r0_8 : Rect S32x16 := Rect.unit (s := S32x16) ![0, 0] S32x16.size inb_S32x16_S32x16_0_0
abbrev r0_9 : Rect S80x32x16 := Rect.unit (s := S80x32x16) ![0, 0, 0] S80x32x16.size inb_S80x32x16_S80x32x16_0_0_0
abbrev r0_10 : Rect S1x2560 := Rect.unit (s := S1x2560) ![0, 0] S1x2560.size inb_S1x2560_S1x2560_0_0
abbrev r0_11 : Rect S1x32x80 := Rect.unit (s := S1x32x80) ![0, 0, 0] S1x32x80.size inb_S1x32x80_S1x32x80_0_0_0
abbrev r0_12 : Rect S32x32 := Rect.unit (s := S32x32) ![0, 0] S32x32.size inb_S32x32_S32x32_0_0
abbrev r0_13 : Rect S80x32 := Rect.unit (s := S80x32) ![0, 0] S80x32.size inb_S80x32_S80x32_0_0
abbrev r0_14 : Rect S2560x80 := Rect.unit (s := S2560x80) ![0, 0] S2560x80.size inb_S2560x80_S2560x80_0_0
abbrev r0_15 : Rect S2560x32 := Rect.unit (s := S2560x32) ![0, 0] S2560x32.size inb_S2560x32_S2560x32_0_0
abbrev r0_16 : Rect S80x16 := Rect.unit (s := S80x16) ![0, 0] S80x16.size inb_S80x16_S80x16_0_0

/-! ## What the body leaves in each output window's buffer -/

/-! ### Values of the body that the stores' payloads, spelt out, would write more than once

    Each is a vector the body binds (often a part call's result), stated over the input windows' blocks and
    numbered on from the skeleton's payload functions (`k0_pay15` …, after `k0_pay14`); the comment after each is
    the printed function's name for the value. -/

def k0_pay15 (x0 : Vec F S80x128 .f32) (x1 : Vec F S80x32x128 .f32) (x2 : Vec F S80x32x16 .f32) (x3 : Vec F S1x2560 .f32) (x4 : Vec F S1x2560 .f32) (x5 : Vec F S1x2560 .f32) (x6 : Vec F S1x32x80 .f32) (x7 : Vec F S80x32 .f32) (x8 : Vec F S32x128 .f32) (x9 : Vec F S32x80 .f32) (x10 : Vec F S32x2560 .f32) (x11 : Vec F S32x16 .f32) (x12 : Vec F S32x2560 .f32) (x13 : Vec F S32x64 .f32) (x14 : Vec F S1x64 .f32) (x15 : Vec F S32x64 .f32) (x16 : Vec F S32x64 .f32) (x17 : Vec F S32x64 .f32) (x18 : Vec F S32x64 .f32) (x19 : Vec F S32x64 .f32) (x20 : Vec F S1x64 .f32) (x21 : Vec F S32x2560 .f32) (x22 : Vec F S32x2560 .f32) (x23 : Vec F S32x32 .f32) (x24 : Vec F S2560x80 .f32) (x25 : Vec F S80x2560 .f32) (x26 : Vec F S2560x32 .f32) (x27 : Vec F S2560x32 .f32) : FVec F S80x2560 .f32 :=
  k0_pay2 (View.ld x25 r0_0) -- `v1`
def k0_pay16 (x0 : Vec F S80x128 .f32) (x1 : Vec F S80x32x128 .f32) (x2 : Vec F S80x32x16 .f32) (x3 : Vec F S1x2560 .f32) (x4 : Vec F S1x2560 .f32) (x5 : Vec F S1x2560 .f32) (x6 : Vec F S1x32x80 .f32) (x7 : Vec F S80x32 .f32) (x8 : Vec F S32x128 .f32) (x9 : Vec F S32x80 .f32) (x10 : Vec F S32x2560 .f32) (x11 : Vec F S32x16 .f32) (x12 : Vec F S32x2560 .f32) (x13 : Vec F S32x64 .f32) (x14 : Vec F S1x64 .f32) (x15 : Vec F S32x64 .f32) (x16 : Vec F S32x64 .f32) (x17 : Vec F S32x64 .f32) (x18 : Vec F S32x64 .f32) (x19 : Vec F S32x64 .f32) (x20 : Vec F S1x64 .f32) (x21 : Vec F S32x2560 .f32) (x22 : Vec F S32x2560 .f32) (x23 : Vec F S32x32 .f32) (x24 : Vec F S2560x80 .f32) (x25 : Vec F S80x2560 .f32) (x26 : Vec F S2560x32 .f32) (x27 : Vec F S2560x32 .f32) : FVec F S80x32 .f32 :=
  k0_pay10 (k0_pay3 (View.ld x8 r0_1) (View.ld x0 r0_2) (View.ld x9 r0_3) (View.ld x13 r0_4) (View.ld x14 r0_5)) (k0_pay4 (View.ld x8 r0_1) (View.ld x1 r0_6) (View.ld x10 r0_7)) (k0_pay6 (k0_pay5 (View.ld x11 r0_8)) (View.ld x2 r0_9) (View.ld x12 r0_7)) (k0_pay7 (k0_pay15 x0 x1 x2 x3 x4 x5 x6 x7 x8 x9 x10 x11 x12 x13 x14 x15 x16 x17 x18 x19 x20 x21 x22 x23 x24 x25 x26 x27) (View.ld x5 r0_10) (View.ld x6 r0_11)) (k0_pay8 (View.ld x3 r0_10) (View.ld x4 r0_10) (View.ld x21 r0_7)) (k0_pay9 (k0_pay15 x0 x1 x2 x3 x4 x5 x6 x7 x8 x9 x10 x11 x12 x13 x14 x15 x16 x17 x18 x19 x20 x21 x22 x23 x24 x25 x26 x27) (View.ld x5 r0_10) (View.ld x6 r0_11) (View.ld x22 r0_7)) (View.ld x23 r0_12) (View.ld x15 r0_4) (View.ld x16 r0_4) (View.ld x17 r0_4) (View.ld x18 r0_4) (View.ld x19 r0_4) (View.ld x20 r0_5) -- `v102`
def k0_pay17 (x0 : Vec F S80x128 .f32) (x1 : Vec F S80x32x128 .f32) (x2 : Vec F S80x32x16 .f32) (x3 : Vec F S1x2560 .f32) (x4 : Vec F S1x2560 .f32) (x5 : Vec F S1x2560 .f32) (x6 : Vec F S1x32x80 .f32) (x7 : Vec F S80x32 .f32) (x8 : Vec F S32x128 .f32) (x9 : Vec F S32x80 .f32) (x10 : Vec F S32x2560 .f32) (x11 : Vec F S32x16 .f32) (x12 : Vec F S32x2560 .f32) (x13 : Vec F S32x64 .f32) (x14 : Vec F S1x64 .f32) (x15 : Vec F S32x64 .f32) (x16 : Vec F S32x64 .f32) (x17 : Vec F S32x64 .f32) (x18 : Vec F S32x64 .f32) (x19 : Vec F S32x64 .f32) (x20 : Vec F S1x64 .f32) (x21 : Vec F S32x2560 .f32) (x22 : Vec F S32x2560 .f32) (x23 : Vec F S32x32 .f32) (x24 : Vec F S2560x80 .f32) (x25 : Vec F S80x2560 .f32) (x26 : Vec F S2560x32 .f32) (x27 : Vec F S2560x32 .f32) : FVec F S80x32 .f32 :=
  k0_pay11 (F := F) -- `v103`

/-- Window 28's staging buffer after the body, from the input windows' blocks: its 1 store as pieces, LAST
    FIRST (Lib/Pipeline/FrameBody.lean `View.canon`; the payloads are the skeleton's and the values stated above). -/
def out0_28 (x0 : Vec F S80x128 .f32) (x1 : Vec F S80x32x128 .f32) (x2 : Vec F S80x32x16 .f32) (x3 : Vec F S1x2560 .f32) (x4 : Vec F S1x2560 .f32) (x5 : Vec F S1x2560 .f32) (x6 : Vec F S1x32x80 .f32) (x7 : Vec F S80x32 .f32) (x8 : Vec F S32x128 .f32) (x9 : Vec F S32x80 .f32) (x10 : Vec F S32x2560 .f32) (x11 : Vec F S32x16 .f32) (x12 : Vec F S32x2560 .f32) (x13 : Vec F S32x64 .f32) (x14 : Vec F S1x64 .f32) (x15 : Vec F S32x64 .f32) (x16 : Vec F S32x64 .f32) (x17 : Vec F S32x64 .f32) (x18 : Vec F S32x64 .f32) (x19 : Vec F S32x64 .f32) (x20 : Vec F S1x64 .f32) (x21 : Vec F S32x2560 .f32) (x22 : Vec F S32x2560 .f32) (x23 : Vec F S32x32 .f32) (x24 : Vec F S2560x80 .f32) (x25 : Vec F S80x2560 .f32) (x26 : Vec F S2560x32 .f32) (x27 : Vec F S2560x32 .f32) : Vec F S80x32 .f32 :=
  View.canon [⟨r0_13, k0_pay12 (k0_pay16 x0 x1 x2 x3 x4 x5 x6 x7 x8 x9 x10 x11 x12 x13 x14 x15 x16 x17 x18 x19 x20 x21 x22 x23 x24 x25 x26 x27) (k0_pay17 x0 x1 x2 x3 x4 x5 x6 x7 x8 x9 x10 x11 x12 x13 x14 x15 x16 x17 x18 x19 x20 x21 x22 x23 x24 x25 x26 x27)⟩]

/-- Its stores tile the buffer (checked by evaluation), so they cover it. -/
theorem cover0_28 (p0 : Vec F S80x32 .f32) (y : S80x32.Idx) :
    ∃ pc ∈ ([⟨r0_13, p0⟩] : List (View.Piece (Elt F) S80x32 .f32)), y ∈ pc.1.set :=
  View.cover_of_tiled [⟨r0_13, p0⟩] S80x32.size (by rfl) y

/-- Window 29's staging buffer after the body, from the input windows' blocks: its 1 store as pieces, LAST
    FIRST (Lib/Pipeline/FrameBody.lean `View.canon`; the payloads are the skeleton's and the values stated above). -/
def out0_29 (x0 : Vec F S80x128 .f32) (x1 : Vec F S80x32x128 .f32) (x2 : Vec F S80x32x16 .f32) (x3 : Vec F S1x2560 .f32) (x4 : Vec F S1x2560 .f32) (x5 : Vec F S1x2560 .f32) (x6 : Vec F S1x32x80 .f32) (x7 : Vec F S80x32 .f32) (x8 : Vec F S32x128 .f32) (x9 : Vec F S32x80 .f32) (x10 : Vec F S32x2560 .f32) (x11 : Vec F S32x16 .f32) (x12 : Vec F S32x2560 .f32) (x13 : Vec F S32x64 .f32) (x14 : Vec F S1x64 .f32) (x15 : Vec F S32x64 .f32) (x16 : Vec F S32x64 .f32) (x17 : Vec F S32x64 .f32) (x18 : Vec F S32x64 .f32) (x19 : Vec F S32x64 .f32) (x20 : Vec F S1x64 .f32) (x21 : Vec F S32x2560 .f32) (x22 : Vec F S32x2560 .f32) (x23 : Vec F S32x32 .f32) (x24 : Vec F S2560x80 .f32) (x25 : Vec F S80x2560 .f32) (x26 : Vec F S2560x32 .f32) (x27 : Vec F S2560x32 .f32) : Vec F S80x16 .i32 :=
  View.canon [⟨r0_16, k0_pay1 (k0_pay15 x0 x1 x2 x3 x4 x5 x6 x7 x8 x9 x10 x11 x12 x13 x14 x15 x16 x17 x18 x19 x20 x21 x22 x23 x24 x25 x26 x27) (k0_pay13 (View.ld x26 r0_15)) (k0_pay14 (k0_pay16 x0 x1 x2 x3 x4 x5 x6 x7 x8 x9 x10 x11 x12 x13 x14 x15 x16 x17 x18 x19 x20 x21 x22 x23 x24 x25 x26 x27) (k0_pay17 x0 x1 x2 x3 x4 x5 x6 x7 x8 x9 x10 x11 x12 x13 x14 x15 x16 x17 x18 x19 x20 x21 x22 x23 x24 x25 x26 x27) (View.ld x7 r0_13) (View.ld x24 r0_14) (View.ld x27 r0_15) (View.ld x26 r0_15)) (Scalar.ofBits .f32 0x3F800000#32)⟩]

/-- Its stores tile the buffer (checked by evaluation), so they cover it. -/
theorem cover0_29 (p0 : Vec F S80x16 .i32) (y : S80x16.Idx) :
    ∃ pc ∈ ([⟨r0_16, p0⟩] : List (View.Piece (Elt F) S80x16 .i32)), y ∈ pc.1.set :=
  View.cover_of_tiled [⟨r0_16, p0⟩] S80x16.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`*_eq_skeleton`), which `sl_exec` runs (Lib/Exec.lean), through every part call. -/
theorem sound_kernel (c : Dev nD) (E : Set ℕ) (i : grid0.Coords) (arg1 : Memref sig .tc .vmem S80x128 .f32) (harg1 : arg1.IsWhole) (arg2 : Memref sig .tc .vmem S80x32x128 .f32) (harg2 : arg2.IsWhole) (arg3 : Memref sig .tc .vmem S80x32x16 .f32) (harg3 : arg3.IsWhole) (arg4 : Memref sig .tc .vmem S1x2560 .f32) (harg4 : arg4.IsWhole) (arg5 : Memref sig .tc .vmem S1x2560 .f32) (harg5 : arg5.IsWhole) (arg6 : Memref sig .tc .vmem S1x2560 .f32) (harg6 : arg6.IsWhole) (arg7 : Memref sig .tc .vmem S1x32x80 .f32) (harg7 : arg7.IsWhole) (arg8 : Memref sig .tc .vmem S80x32 .f32) (harg8 : arg8.IsWhole) (arg9 : Memref sig .tc .vmem S32x128 .f32) (harg9 : arg9.IsWhole) (arg10 : Memref sig .tc .vmem S32x80 .f32) (harg10 : arg10.IsWhole) (arg11 : Memref sig .tc .vmem S32x2560 .f32) (harg11 : arg11.IsWhole) (arg12 : Memref sig .tc .vmem S32x16 .f32) (harg12 : arg12.IsWhole) (arg13 : Memref sig .tc .vmem S32x2560 .f32) (harg13 : arg13.IsWhole) (arg14 : Memref sig .tc .vmem S32x64 .f32) (harg14 : arg14.IsWhole) (arg15 : Memref sig .tc .vmem S1x64 .f32) (harg15 : arg15.IsWhole) (arg16 : Memref sig .tc .vmem S32x64 .f32) (harg16 : arg16.IsWhole) (arg17 : Memref sig .tc .vmem S32x64 .f32) (harg17 : arg17.IsWhole) (arg18 : Memref sig .tc .vmem S32x64 .f32) (harg18 : arg18.IsWhole) (arg19 : Memref sig .tc .vmem S32x64 .f32) (harg19 : arg19.IsWhole) (arg20 : Memref sig .tc .vmem S32x64 .f32) (harg20 : arg20.IsWhole) (arg21 : Memref sig .tc .vmem S1x64 .f32) (harg21 : arg21.IsWhole) (arg22 : Memref sig .tc .vmem S32x2560 .f32) (harg22 : arg22.IsWhole) (arg23 : Memref sig .tc .vmem S32x2560 .f32) (harg23 : arg23.IsWhole) (arg24 : Memref sig .tc .vmem S32x32 .f32) (harg24 : arg24.IsWhole) (arg25 : Memref sig .tc .vmem S2560x80 .f32) (harg25 : arg25.IsWhole) (arg26 : Memref sig .tc .vmem S80x2560 .f32) (harg26 : arg26.IsWhole) (arg27 : Memref sig .tc .vmem S2560x32 .f32) (harg27 : arg27.IsWhole) (arg28 : Memref sig .tc .vmem S2560x32 .f32) (harg28 : arg28.IsWhole) (arg29 : Memref sig .tc .vmem S80x32 .f32) (harg29 : arg29.IsWhole) (arg30 : Memref sig .tc .vmem S80x16 .i32) (harg30 : arg30.IsWhole)
    (x0 : Vec F S80x128 .f32) (x1 : Vec F S80x32x128 .f32) (x2 : Vec F S80x32x16 .f32) (x3 : Vec F S1x2560 .f32) (x4 : Vec F S1x2560 .f32) (x5 : Vec F S1x2560 .f32) (x6 : Vec F S1x32x80 .f32) (x7 : Vec F S80x32 .f32) (x8 : Vec F S32x128 .f32) (x9 : Vec F S32x80 .f32) (x10 : Vec F S32x2560 .f32) (x11 : Vec F S32x16 .f32) (x12 : Vec F S32x2560 .f32) (x13 : Vec F S32x64 .f32) (x14 : Vec F S1x64 .f32) (x15 : Vec F S32x64 .f32) (x16 : Vec F S32x64 .f32) (x17 : Vec F S32x64 .f32) (x18 : Vec F S32x64 .f32) (x19 : Vec F S32x64 .f32) (x20 : Vec F S1x64 .f32) (x21 : Vec F S32x2560 .f32) (x22 : Vec F S32x2560 .f32) (x23 : Vec F S32x32 .f32) (x24 : Vec F S2560x80 .f32) (x25 : Vec F S80x2560 .f32) (x26 : Vec F S2560x32 .f32) (x27 : Vec F S2560x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ (∃ d, owns (c : Thread nD τ) arg29 fullShare d) ∗ (∃ d, owns (c : Thread nD τ) arg30 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare (out0_28 x0 x1 x2 x3 x4 x5 x6 x7 x8 x9 x10 x11 x12 x13 x14 x15 x16 x17 x18 x19 x20 x21 x22 x23 x24 x25 x26 x27) ∗ owns (c : Thread nD τ) arg30 fullShare (out0_29 x0 x1 x2 x3 x4 x5 x6 x7 x8 x9 x10 x11 x12 x13 x14 x15 x16 x17 x18 x19 x20 x21 x22 x23 x24 x25 x26 x27)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  simp only [cc0__fused_kernel_eq_skeleton]; unfold cc0__fused_kernel_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%d28, %f28, -, H28⟩, ⟨%d29, %f29, -, H29⟩, Hk⟩
  subst hf0 hf1 hf2 hf3 hf4 hf5 hf6 hf7 hf8 hf9 hf10 hf11 hf12 hf13 hf14 hf15 hf16 hf17 hf18 hf19 hf20 hf21 hf22 hf23 hf24 hf25 hf26 hf27
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists _; isplitr
    swap; · iexact H28
    ipureintro
    refine (View.read_writes_eq_canon _ _ _ (cover0_28 _)).trans ?_
    rfl
  iexists _; isplitr
  swap; · iexact H29
  ipureintro
  refine (View.read_writes_eq_canon _ _ _ (cover0_29 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t)
    | ⟨29, _⟩ => out0_29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t)
    | ⟨_ + 30, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = iblk m c 27 t := by dsimp only [dats]
theorem after0_28 (c : Dev nD) (t : Fin cfg0.N) : (dats m 0 c).after 28 t = out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) := by dsimp only [dats]
theorem after0_29 (c : Dev nD) (t : Fin cfg0.N) : (dats m 0 c).after 29 t = out0_29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d
theorem before0_27 (c : Dev nD) (t : Fin cfg0.N) (d) : (dats m 0 c).before 27 t d = iblk m c 27 t :=
  before0_27_of m (dats m 0 c) (A_eq m c 27) (after0_27 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexists _; iexact H28
  isplitl [H29]; · iexists _; iexact H29
  iintro ⟨H0, H1, H2, H3, H4, H5, H6, H7, H8, H9, H10, H11, H12, H13, H14, H15, H16, H17, H18, H19, H20, H21, H22, H23, H24, H25, H26, H27, H28, H29⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  iexact H29

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

/-- The frame: the program ends from every launch, with every argument array as it was and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ) ((θ_run defs _ _).mono (fun _ h => h.2) (run_main_quiescent m ρ))

end Cert.KernelIdeal.Whole

end
-- ==== Proof.Launch.Blocks.lean ====
/- The two result arrays of the idealized kernel, block by block: what each grid point writes back (`flushed28`, `flushed29`), that
   the blocks of two points never meet, so that block `t` of the final array is what point `t` wrote (`blocks28`, `blocks29`),
   and the run of the program with the two arrays named and every argument unchanged (`run_blocks`). -/
module

public import proofs.«01_k».proof.Proof.Launch.KernelIdeal
public import Idealize.ShloMosaic.Lib.Pipeline.Value

@[expose] public section

noncomputable section

namespace Cert.KernelIdeal.Whole

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 28's array: the body's result for that window (`out0_28`: its stores
    as pieces over the input windows' blocks), read through the window's block. -/
theorem flushed28 (c : Dev nD) (t : Fin cfg0.N) :
    (dats m 0 c).flushed 28 t = (cfg0.win 28).cut (grid0.coords t) (out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t)) := by
  show (cfg0.win 28).cut (grid0.coords t) ((dats m 0 c).after 28 t) = _
  rw [after0_28]

/-- The index map sends distinct grid points to distinct block indices (decided over the 125 points). -/
theorem idx_inj28 : ∀ t t' : Fin cfg0.N, win0_28.index t = win0_28.index t' → t = t' :=
  (by decide +kernel : ∀ t t' : Fin grid0.N, win0_28.index t = win0_28.index t' → t = t')

/-- So two flushing points' blocks share no array index (Lib/Pipeline/Cells.lean `Window.disjoint_blk`). -/
theorem disjoint28 : ∀ t t' : Fin cfg0.N, (cfg0.win 28).flush t = true → (cfg0.win 28).flush t' = true → t ≠ t' →
    Disjoint ((cfg0.win 28).blk t).view.set ((cfg0.win 28).blk t').view.set :=
  fun t t' _ _ hne => (cfg0.win 28).disjoint_blk fun h => hne (idx_inj28 t t' h)

/-- BLOCK `t` OF THE FINAL ARRAY, read back through the window, is what point `t` wrote back (`flushed28`), for every
    point that writes back: no other point's block meets it. -/
theorem blocks28 (c : Dev nD) (t : Fin cfg0.N) (hf : (cfg0.win 28).flush t = true) :
    ((cfg0.win 28).blk t).view.read (Elt F) ((dats m 0 c).arrAt 28 cfg0.N) = (dats m 0 c).flushed 28 t :=
  (dats m 0 c).read_blk_arrAt_eq_flushed 28 disjoint28 cfg0.N t t.isLt hf

/-- An index that no flushing point's block covers keeps output window 28's array contents at region entry. -/
theorem entry28 (c : Dev nD) (i : S10000x32.Idx) (h : ∀ t : Fin cfg0.N, (cfg0.win 28).flush t = true → i ∉ ((cfg0.win 28).blk t).view.set) :
    (dats m 0 c).arrAt 28 cfg0.N i = V m c (Pipeline.arrRef spec0 28) i := by
  rw [(dats m 0 c).arrAt_apply_of_forall_not_mem 28 cfg0.N i (fun t _ hf => h t hf), A_eq]

/-- WHAT POINT `t` WRITES BACK to output window 29's array: the body's result for that window (`out0_29`: its stores
    as pieces over the input windows' blocks), read through the window's block. -/
theorem flushed29 (c : Dev nD) (t : Fin cfg0.N) :
    (dats m 0 c).flushed 29 t = (cfg0.win 29).cut (grid0.coords t) (out0_29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t)) := by
  show (cfg0.win 29).cut (grid0.coords t) ((dats m 0 c).after 29 t) = _
  rw [after0_29]

/-- The index map sends distinct grid points to distinct block indices (decided over the 125 points). -/
theorem idx_inj29 : ∀ t t' : Fin cfg0.N, win0_29.index t = win0_29.index t' → t = t' :=
  (by decide +kernel : ∀ t t' : Fin grid0.N, win0_29.index t = win0_29.index t' → t = t')

/-- So two flushing points' blocks share no array index (Lib/Pipeline/Cells.lean `Window.disjoint_blk`). -/
theorem disjoint29 : ∀ t t' : Fin cfg0.N, (cfg0.win 29).flush t = true → (cfg0.win 29).flush t' = true → t ≠ t' →
    Disjoint ((cfg0.win 29).blk t).view.set ((cfg0.win 29).blk t').view.set :=
  fun t t' _ _ hne => (cfg0.win 29).disjoint_blk fun h => hne (idx_inj29 t t' h)

/-- BLOCK `t` OF THE FINAL ARRAY, read back through the window, is what point `t` wrote back (`flushed29`), for every
    point that writes back: no other point's block meets it. -/
theorem blocks29 (c : Dev nD) (t : Fin cfg0.N) (hf : (cfg0.win 29).flush t = true) :
    ((cfg0.win 29).blk t).view.read (Elt F) ((dats m 0 c).arrAt 29 cfg0.N) = (dats m 0 c).flushed 29 t :=
  (dats m 0 c).read_blk_arrAt_eq_flushed 29 disjoint29 cfg0.N t t.isLt hf

/-- An index that no flushing point's block covers keeps output window 29's array contents at region entry. -/
theorem entry29 (c : Dev nD) (i : S10000x16.Idx) (h : ∀ t : Fin cfg0.N, (cfg0.win 29).flush t = true → i ∉ ((cfg0.win 29).blk t).view.set) :
    (dats m 0 c).arrAt 29 cfg0.N i = V m c (Pipeline.arrRef spec0 29) i := by
  rw [(dats m 0 c).arrAt_apply_of_forall_not_mem 29 cfg0.N i (fun t _ hf => h t hf), A_eq]

/-- After the frame run, output window 28's array is `(dats m 0 c).arrAt 28 N`. -/
theorem post28 (r : PUnit × MemSt nD τ sig (Elt F)) (h : Pipeline.FramePost cfgs (dats m) 0 (V m) r) (c : Dev nD) :
    r.2.mem ((c : Thread nD τ).loc main_v115_0) = (dats m 0 c).arrAt 28 cfg0.N :=
  (h c).1 28

/-- After the frame run, output window 29's array is `(dats m 0 c).arrAt 29 N`. -/
theorem post29 (r : PUnit × MemSt nD τ sig (Elt F)) (h : Pipeline.FramePost cfgs (dats m) 0 (V m) r) (c : Dev nD) :
    r.2.mem ((c : Thread nD τ).loc main_v115_1) = (dats m 0 c).arrAt 29 cfg0.N :=
  (h c).1 29

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- After the frame run, argument `main_arg11` is as launched: no window stages it, and the run leaves the region's other buffers as they were. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- After the frame run, argument `main_arg12` is as launched: no window stages it, and the run leaves the region's other buffers as they were. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- After the frame run, argument `main_arg13` is as launched: no window stages it, and the run leaves the region's other buffers as they were. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v115_0) = (dats m 0 c).arrAt 28 cfg0.N
      ∧ r.2.mem ((c : Thread nD τ).loc main_v115_1) = (dats m 0 c).arrAt 29 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨post28 m r h c,
      post29 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c⟩)
    (run_main m ρ)
end Cert.KernelIdeal.Whole

end
-- ==== Proof.Ref.Line.lean ====
/- A straight line of host operations read off a printed program: the program's part, the list of its operations, and
   the two facts that a run of such a list needs.  Lines compose as the program's parts do, so a called function's line
   is found once and used at each call. -/
module

public import Idealize.ShloMosaic.Lib.StableHlo.RunHlo

@[expose] public section

noncomputable section

namespace Cert.Line

open Idealize.ShloMosaic Idealize.SL.Sem

variable {nD : Nat} {τ : Topo} {sig : RefSig} {Val : EltTy → Type} {Λ : Labels}

/-- The operations of `p`, a part of a program that runs host operations only: `p` is their sequence, each touches
    TensorCore buffers only, and none allocates. -/
structure LineOf (p : Prog (TpuEff nD τ sig Val Λ .tc) PUnit) where
  ops : List (HloOp τ sig Val)
  isSeq : p = StableHlo.seq ops
  bufs : ops.Forall fun op => op.bufs ⊆ StableHlo.tcRefs τ sig
  fresh : ∀ op ∈ ops, op.fresh = ∅

/-- The return alone is the empty line. -/
def LineOf.nil : LineOf (nD := nD) (Λ := Λ) (pure ⟨⟩ : Prog (TpuEff nD τ sig Val Λ .tc) PUnit) :=
  ⟨[], rfl, trivial, by simp⟩

/-- One operation before a line is a line. -/
def LineOf.op {op : HloOp τ sig Val} {k : Prog (TpuEff nD τ sig Val Λ .tc) PUnit}
    (hb : op.bufs ⊆ StableHlo.tcRefs τ sig) (hf : op.fresh = ∅) (l : LineOf k) :
    LineOf ((hlo rfl op fun _ => .ret (⟨⟩ : PUnit)) >>= fun _ => k) :=
  ⟨op :: l.ops, by conv_lhs => rw [l.isSeq]
                   rfl,
   List.forall_cons _ _ _ |>.mpr ⟨hb, l.bufs⟩, List.forall_mem_cons.mpr ⟨hf, l.fresh⟩⟩

/-- One operation at the end of a part is a line. -/
def LineOf.last {op : HloOp τ sig Val} (hb : op.bufs ⊆ StableHlo.tcRefs τ sig) (hf : op.fresh = ∅) :
    LineOf (nD := nD) (Λ := Λ) (hlo rfl op fun _ => .ret (⟨⟩ : PUnit)) :=
  ⟨[op], (bind_pure (hlo rfl op fun _ => .ret (⟨⟩ : PUnit))).symm, hb, by simpa using hf⟩

/-- A part before another part: the two lines, one after the other. -/
def LineOf.call {p k : Prog (TpuEff nD τ sig Val Λ .tc) PUnit} (a : LineOf p) (l : LineOf k) :
    LineOf (p >>= fun _ => k) :=
  ⟨a.ops ++ l.ops, by rw [StableHlo.seq_append, ← a.isSeq, ← l.isSeq],
   List.forall_append.mpr ⟨a.bufs, l.bufs⟩, List.forall_mem_append.mpr ⟨a.fresh, l.fresh⟩⟩

section Builders

variable {k : Prog (TpuEff nD τ sig Val Λ .tc) PUnit} {x y a b : Ref sig .tc}

/-- A constant before a line. -/
def LineOf.nullary {v : y.ty.Contents Val} {hy} (l : LineOf k) :
    LineOf ((hlo rfl (StableHlo.nullary (τ := τ) y v hy) fun _ => .ret (⟨⟩ : PUnit)) >>= fun _ => k) :=
  .op (StableHlo.nullary_bufs_sub ..) rfl l

/-- An operation of one operand before a line. -/
def LineOf.unary {f : x.ty.Contents Val → y.ty.Contents Val} {hx hy} (l : LineOf k) :
    LineOf ((hlo rfl (StableHlo.unary (τ := τ) x y f hx hy) fun _ => .ret (⟨⟩ : PUnit)) >>= fun _ => k) :=
  .op (StableHlo.unary_bufs_sub ..) rfl l

/-- An operation of two operands before a line. -/
def LineOf.binary {f : a.ty.Contents Val → b.ty.Contents Val → y.ty.Contents Val} {ha hb hy} (l : LineOf k) :
    LineOf ((hlo rfl (StableHlo.binary (τ := τ) a b y f ha hb hy) fun _ => .ret (⟨⟩ : PUnit)) >>= fun _ => k) :=
  .op (StableHlo.binary_bufs_sub ..) rfl l

/-- A reshape before a line. -/
def LineOf.reshape {he hn hx hy} (l : LineOf k) :
    LineOf ((hlo rfl (StableHlo.reshape (τ := τ) (Val := Val) x y he hn hx hy) fun _ => .ret (⟨⟩ : PUnit)) >>= fun _ => k) :=
  .op (StableHlo.reshape_bufs_sub ..) rfl l

/-- An operation of a family of operands before a line. -/
def LineOf.nary {n : Nat} {xs : Fin n → Ref sig .tc} {f : ((k : Fin n) → (xs k).ty.Contents Val) → y.ty.Contents Val}
    {hxs hy} (l : LineOf k) :
    LineOf ((hlo rfl (StableHlo.nary (τ := τ) xs y f hxs hy) fun _ => .ret (⟨⟩ : PUnit)) >>= fun _ => k) :=
  .op (StableHlo.nary_bufs_sub ..) rfl l

/-- A constant at the end of a part. -/
def LineOf.lastNullary {v : y.ty.Contents Val} {hy} :
    LineOf (nD := nD) (Λ := Λ) (hlo rfl (StableHlo.nullary (τ := τ) y v hy) fun _ => .ret (⟨⟩ : PUnit)) :=
  .last (StableHlo.nullary_bufs_sub ..) rfl

/-- An operation of one operand at the end of a part. -/
def LineOf.lastUnary {f : x.ty.Contents Val → y.ty.Contents Val} {hx hy} :
    LineOf (nD := nD) (Λ := Λ) (hlo rfl (StableHlo.unary (τ := τ) x y f hx hy) fun _ => .ret (⟨⟩ : PUnit)) :=
  .last (StableHlo.unary_bufs_sub ..) rfl

/-- An operation of two operands at the end of a part. -/
def LineOf.lastBinary {f : a.ty.Contents Val → b.ty.Contents Val → y.ty.Contents Val} {ha hb hy} :
    LineOf (nD := nD) (Λ := Λ) (hlo rfl (StableHlo.binary (τ := τ) a b y f ha hb hy) fun _ => .ret (⟨⟩ : PUnit)) :=
  .last (StableHlo.binary_bufs_sub ..) rfl

end Builders

/-- A program that is a line runs, and leaves in every buffer what the line's operations compute from the launch. -/
theorem LineOf.run {defs : Defs nD τ sig Val Λ} {main : Dev nD → Prog (TpuEff nD τ sig Val Λ .tc) PUnit}
    (l : ∀ d, LineOf (main d))
    (hR : (Finset.univ.filter fun b : Ref sig .tc => b.isScoped) = ∅)
    (hC : (Finset.univ.filter fun sm : SemLoc sig => sm.isScoped .tc) = ∅)
    (m : (ℓ : Loc nD τ sig) → Buf Val ℓ) (ρ : Dev nD → PrngReg) :
    θ_run defs (onTc (τ := τ) main) ⟨m, fun _ => 0, ρ⟩ fun r =>
      ∀ (d : Dev nD) (b : Ref sig .tc), r.2.mem ((d.tc : Thread nD τ).loc b)
        = StableHlo.after (l d).ops (StableHlo.launchContents m d) (Proc.devRef .tc b) :=
  StableHlo.run_seq hR hC defs main (fun d => (l d).ops) (fun d => (l d).isSeq) (fun d => (l d).bufs) m ρ
    (fun d => (l d).fresh)

end Cert.Line

end
-- ==== Proof.Ref.Run.lean ====
/- The reference's run: the operations of each of its functions and of the whole program as lines (`mainLine`), and
   what the program leaves in every buffer (`run`). -/
module

public import proofs.«01_k».proof.Proof.Gen.ReferenceIdeal
public import proofs.«01_k».proof.Proof.Ref.Line
public import Idealize.ShloMosaic.PureOps.Ideal

@[expose] public section

set_option maxRecDepth 10000
set_option maxHeartbeats 4000000

noncomputable section

namespace Cert.ReferenceIdeal.Hand

open Idealize.ShloMosaic Idealize.ShloMosaic.TcCoe Idealize.SL.Sem Cert.Line

/-! Each definition below is the line of one printed function, or of one window of it, over its arguments and buffers. -/

/-- The line of `fn_relu.body`. -/
def relu (x : StableHlo.TRef sig ⟨S10000x32, .f32⟩) (φ : fn_relu.Bufs) :
    LineOf (fn_relu.body (F := Ideal) x φ) := by
  delta fn_relu.body
  repeat (first
    | with_reducible exact LineOf.nil | with_reducible apply LineOf.unary | with_reducible apply LineOf.binary
    | with_reducible apply LineOf.nullary | with_reducible apply LineOf.reshape | with_reducible apply LineOf.nary
    | with_reducible exact LineOf.lastUnary | with_reducible exact LineOf.lastBinary
    | with_reducible exact LineOf.lastNullary)

/-- The line of `fn_linspace.body`. -/
def linspace (a b : StableHlo.TRef sig ⟨S_, .f32⟩) (φ : fn_linspace.Bufs) :
    LineOf (fn_linspace.body (F := Ideal) a b φ) := by
  delta fn_linspace.body
  repeat (first
    | with_reducible exact LineOf.nil | with_reducible apply LineOf.unary | with_reducible apply LineOf.binary
    | with_reducible apply LineOf.nullary | with_reducible apply LineOf.reshape | with_reducible apply LineOf.nary
    | with_reducible exact LineOf.lastUnary | with_reducible exact LineOf.lastBinary
    | with_reducible exact LineOf.lastNullary)

/-- The line of `fn_relu_0.body`. -/
def relu0 (x : StableHlo.TRef sig ⟨S320000x32, .f32⟩) (φ : fn_relu_0.Bufs) :
    LineOf (fn_relu_0.body (F := Ideal) x φ) := by
  delta fn_relu_0.body
  repeat (first
    | with_reducible exact LineOf.nil | with_reducible apply LineOf.unary | with_reducible apply LineOf.binary
    | with_reducible apply LineOf.nullary | with_reducible apply LineOf.reshape | with_reducible apply LineOf.nary
    | with_reducible exact LineOf.lastUnary | with_reducible exact LineOf.lastBinary
    | with_reducible exact LineOf.lastNullary)

/-- The line of `fn_threefry2x32.body_part0`. -/
def keyMix0 (a b : StableHlo.TRef sig ⟨S_, .i32⟩) (c d : StableHlo.TRef sig ⟨S1, .i32⟩) (φ : fn_threefry2x32.Bufs) :
    LineOf (fn_threefry2x32.body_part0 (F := Ideal) a b c d φ) := by
  delta fn_threefry2x32.body_part0
  repeat (first
    | with_reducible exact LineOf.nil | with_reducible apply LineOf.unary | with_reducible apply LineOf.binary
    | with_reducible apply LineOf.nullary | with_reducible apply LineOf.reshape | with_reducible apply LineOf.nary
    | with_reducible exact LineOf.lastUnary | with_reducible exact LineOf.lastBinary
    | with_reducible exact LineOf.lastNullary)

/-- The line of `fn_threefry2x32.body_part1`. -/
def keyMix1 (a b : StableHlo.TRef sig ⟨S_, .i32⟩) (c d : StableHlo.TRef sig ⟨S1, .i32⟩) (φ : fn_threefry2x32.Bufs) :
    LineOf (fn_threefry2x32.body_part1 (F := Ideal) a b c d φ) := by
  delta fn_threefry2x32.body_part1
  repeat (first
    | with_reducible exact LineOf.nil | with_reducible apply LineOf.unary | with_reducible apply LineOf.binary
    | with_reducible apply LineOf.nullary | with_reducible apply LineOf.reshape | with_reducible apply LineOf.nary
    | with_reducible exact LineOf.lastUnary | with_reducible exact LineOf.lastBinary
    | with_reducible exact LineOf.lastNullary)

/-- The line of `fn_threefry2x32.body_part2`. -/
def keyMix2 (a b : StableHlo.TRef sig ⟨S_, .i32⟩) (c d : StableHlo.TRef sig ⟨S1, .i32⟩) (φ : fn_threefry2x32.Bufs) :
    LineOf (fn_threefry2x32.body_part2 (F := Ideal) a b c d φ) := by
  delta fn_threefry2x32.body_part2
  repeat (first
    | with_reducible exact LineOf.nil | with_reducible apply LineOf.unary | with_reducible apply LineOf.binary
    | with_reducible apply LineOf.nullary | with_reducible apply LineOf.reshape | with_reducible apply LineOf.nary
    | with_reducible exact LineOf.lastUnary | with_reducible exact LineOf.lastBinary
    | with_reducible exact LineOf.lastNullary)

/-- The line of `fn_threefry2x32.body_part3`. -/
def keyMix3 (a b : StableHlo.TRef sig ⟨S_, .i32⟩) (c d : StableHlo.TRef sig ⟨S1, .i32⟩) (φ : fn_threefry2x32.Bufs) :
    LineOf (fn_threefry2x32.body_part3 (F := Ideal) a b c d φ) := by
  delta fn_threefry2x32.body_part3
  repeat (first
    | with_reducible exact LineOf.nil | with_reducible apply LineOf.unary | with_reducible apply LineOf.binary
    | with_reducible apply LineOf.nullary | with_reducible apply LineOf.reshape | with_reducible apply LineOf.nary
    | with_reducible exact LineOf.lastUnary | with_reducible exact LineOf.lastBinary
    | with_reducible exact LineOf.lastNullary)

/-- The line of `fn_threefry2x32.body`. -/
def keyMix (a b : StableHlo.TRef sig ⟨S_, .i32⟩) (c d : StableHlo.TRef sig ⟨S1, .i32⟩) (φ : fn_threefry2x32.Bufs) : LineOf (fn_threefry2x32.body (F := Ideal) a b c d φ) :=
  .call (keyMix0 a b c d φ) (.call (keyMix1 a b c d φ) (.call (keyMix2 a b c d φ) (keyMix3 a b c d φ)))

/-- The line of `fn_threefry_fold_in.body`. -/
def foldIn (a : StableHlo.TRef sig ⟨S2, .i32⟩) (b : StableHlo.TRef sig ⟨S_, .i32⟩) (φ : fn_threefry_fold_in.Bufs) :
    LineOf (fn_threefry_fold_in.body (F := Ideal) a b φ) := by
  delta fn_threefry_fold_in.body
  repeat (first
    | with_reducible exact LineOf.nil | with_reducible apply LineOf.unary | with_reducible apply LineOf.binary
    | with_reducible apply LineOf.nullary | with_reducible apply LineOf.reshape | with_reducible apply LineOf.nary
    | with_reducible exact LineOf.lastUnary | with_reducible exact LineOf.lastBinary
    | with_reducible exact LineOf.lastNullary | with_reducible refine LineOf.call (keyMix _ _ _ _ _) ?_ | with_reducible exact keyMix _ _ _ _ _)

/-- The line of `fn_threefry2x32_1.body_part0`. -/
def bitMix0 (a b : StableHlo.TRef sig ⟨S_, .i32⟩) (c d : StableHlo.TRef sig ⟨S10000x32, .i32⟩) (φ : fn_threefry2x32_1.Bufs) :
    LineOf (fn_threefry2x32_1.body_part0 (F := Ideal) a b c d φ) := by
  delta fn_threefry2x32_1.body_part0
  repeat (first
    | with_reducible exact LineOf.nil | with_reducible apply LineOf.unary | with_reducible apply LineOf.binary
    | with_reducible apply LineOf.nullary | with_reducible apply LineOf.reshape | with_reducible apply LineOf.nary
    | with_reducible exact LineOf.lastUnary | with_reducible exact LineOf.lastBinary
    | with_reducible exact LineOf.lastNullary)

/-- The line of `fn_threefry2x32_1.body_part1`. -/
def bitMix1 (a b : StableHlo.TRef sig ⟨S_, .i32⟩) (c d : StableHlo.TRef sig ⟨S10000x32, .i32⟩) (φ : fn_threefry2x32_1.Bufs) :
    LineOf (fn_threefry2x32_1.body_part1 (F := Ideal) a b c d φ) := by
  delta fn_threefry2x32_1.body_part1
  repeat (first
    | with_reducible exact LineOf.nil | with_reducible apply LineOf.unary | with_reducible apply LineOf.binary
    | with_reducible apply LineOf.nullary | with_reducible apply LineOf.reshape | with_reducible apply LineOf.nary
    | with_reducible exact LineOf.lastUnary | with_reducible exact LineOf.lastBinary
    | with_reducible exact LineOf.lastNullary)

/-- The line of `fn_threefry2x32_1.body_part2`. -/
def bitMix2 (a b : StableHlo.TRef sig ⟨S_, .i32⟩) (c d : StableHlo.TRef sig ⟨S10000x32, .i32⟩) (φ : fn_threefry2x32_1.Bufs) :
    LineOf (fn_threefry2x32_1.body_part2 (F := Ideal) a b c d φ) := by
  delta fn_threefry2x32_1.body_part2
  repeat (first
    | with_reducible exact LineOf.nil | with_reducible apply LineOf.unary | with_reducible apply LineOf.binary
    | with_reducible apply LineOf.nullary | with_reducible apply LineOf.reshape | with_reducible apply LineOf.nary
    | with_reducible exact LineOf.lastUnary | with_reducible exact LineOf.lastBinary
    | with_reducible exact LineOf.lastNullary)

/-- The line of `fn_threefry2x32_1.body_part3`. -/
def bitMix3 (a b : StableHlo.TRef sig ⟨S_, .i32⟩) (c d : StableHlo.TRef sig ⟨S10000x32, .i32⟩) (φ : fn_threefry2x32_1.Bufs) :
    LineOf (fn_threefry2x32_1.body_part3 (F := Ideal) a b c d φ) := by
  delta fn_threefry2x32_1.body_part3
  repeat (first
    | with_reducible exact LineOf.nil | with_reducible apply LineOf.unary | with_reducible apply LineOf.binary
    | with_reducible apply LineOf.nullary | with_reducible apply LineOf.reshape | with_reducible apply LineOf.nary
    | with_reducible exact LineOf.lastUnary | with_reducible exact LineOf.lastBinary
    | with_reducible exact LineOf.lastNullary)

/-- The line of `fn_threefry2x32_1.body`. -/
def bitMix (a b : StableHlo.TRef sig ⟨S_, .i32⟩) (c d : StableHlo.TRef sig ⟨S10000x32, .i32⟩) (φ : fn_threefry2x32_1.Bufs) : LineOf (fn_threefry2x32_1.body (F := Ideal) a b c d φ) :=
  .call (bitMix0 a b c d φ) (.call (bitMix1 a b c d φ) (.call (bitMix2 a b c d φ) (bitMix3 a b c d φ)))

/-- The line of `fn_uniform.body`. -/
def uniform (a : StableHlo.TRef sig ⟨S2, .i32⟩) (b c : StableHlo.TRef sig ⟨S_, .f32⟩) (φ : fn_uniform.Bufs) :
    LineOf (fn_uniform.body (F := Ideal) a b c φ) := by
  delta fn_uniform.body
  repeat (first
    | with_reducible exact LineOf.nil | with_reducible apply LineOf.unary | with_reducible apply LineOf.binary
    | with_reducible apply LineOf.nullary | with_reducible apply LineOf.reshape | with_reducible apply LineOf.nary
    | with_reducible exact LineOf.lastUnary | with_reducible exact LineOf.lastBinary
    | with_reducible exact LineOf.lastNullary | with_reducible refine LineOf.call (bitMix _ _ _ _ _) ?_ | with_reducible exact bitMix _ _ _ _ _)

/-- The line of `main_part0`. -/
def part0 (c : Dev nD) :
    LineOf (main_part0 (F := Ideal) c) := by
  delta main_part0
  repeat (first
    | with_reducible exact LineOf.nil | with_reducible apply LineOf.unary | with_reducible apply LineOf.binary
    | with_reducible apply LineOf.nullary | with_reducible apply LineOf.reshape | with_reducible apply LineOf.nary
    | with_reducible exact LineOf.lastUnary | with_reducible exact LineOf.lastBinary
    | with_reducible exact LineOf.lastNullary | with_reducible refine LineOf.call (relu _ _) ?_ | with_reducible exact relu _ _ | with_reducible refine LineOf.call (linspace _ _ _) ?_ | with_reducible exact linspace _ _ _ | with_reducible refine LineOf.call (relu0 _ _) ?_ | with_reducible exact relu0 _ _)

/-- The line of `main_part1`. -/
def part1 (c : Dev nD) :
    LineOf (main_part1 (F := Ideal) c) := by
  delta main_part1
  repeat (first
    | with_reducible exact LineOf.nil | with_reducible apply LineOf.unary | with_reducible apply LineOf.binary
    | with_reducible apply LineOf.nullary | with_reducible apply LineOf.reshape | with_reducible apply LineOf.nary
    | with_reducible exact LineOf.lastUnary | with_reducible exact LineOf.lastBinary
    | with_reducible exact LineOf.lastNullary | with_reducible refine LineOf.call (linspace _ _ _) ?_ | with_reducible exact linspace _ _ _)

/-- The line of `main_part2`. -/
def part2 (c : Dev nD) :
    LineOf (main_part2 (F := Ideal) c) := by
  delta main_part2
  repeat (first
    | with_reducible exact LineOf.nil | with_reducible apply LineOf.unary | with_reducible apply LineOf.binary
    | with_reducible apply LineOf.nullary | with_reducible apply LineOf.reshape | with_reducible apply LineOf.nary
    | with_reducible exact LineOf.lastUnary | with_reducible exact LineOf.lastBinary
    | with_reducible exact LineOf.lastNullary | with_reducible refine LineOf.call (foldIn _ _ _) ?_ | with_reducible exact foldIn _ _ _ | with_reducible refine LineOf.call (uniform _ _ _ _) ?_ | with_reducible exact uniform _ _ _ _)

/-- The line of `main`. -/
def mainLine (c : Dev nD) : LineOf (main (F := Ideal) c) :=
  .call (part0 c) (.call (part1 c) (part2 c))

/-- The reference runs, and leaves in every buffer what its line computes from the launch. -/
theorem run (m : (ℓ : Loc nD τ sig) → Buf (Elt Ideal) ℓ) (g : Dev nD → PrngReg) :
    θ_run (defs (F := Ideal)) (onTc (τ := τ) (main (F := Ideal))) ⟨m, fun _ => 0, g⟩ fun r =>
      ∀ (d : Dev nD) (b : Ref sig .tc), r.2.mem ((d.tc : Thread nD τ).loc b)
        = StableHlo.after (mainLine d).ops (StableHlo.launchContents m d) (Proc.devRef .tc b) :=
  LineOf.run mainLine (by decide) (by decide) m g

end Cert.ReferenceIdeal.Hand

end
-- ==== Proof.Ref.Frame.lean ====
/- The reference program's frame: it ends from every launch, with every argument array as it was and every semaphore at
   zero. -/
module

public import proofs.«01_k».proof.Proof.Ref.Run
public import Idealize.ShloMosaic.Lib.Claim
public import Idealize.ShloMosaic.Lib.StableHlo.RunRead
public import Idealize.ShloMosaic.Lib.Quiescent

@[expose] public section

set_option maxRecDepth 20000
set_option maxHeartbeats 4000000

noncomputable section

namespace Cert.ReferenceIdeal.Hand

open Cert.ReferenceIdeal Cert.ReferenceIdeal.Gen Idealize.ShloMosaic Idealize.ShloMosaic.TcCoe Idealize.SL.Sem Cert.Line

/-- No operation of the reference writes an argument array. -/
theorem kept (V : Valuation τ sig (Elt Ideal)) (d : Dev nD) :
    StableHlo.after (mainLine d).ops V (Proc.devRef .tc main_arg0) = V (Proc.devRef .tc main_arg0)
    ∧ StableHlo.after (mainLine d).ops V (Proc.devRef .tc main_arg1) = V (Proc.devRef .tc main_arg1)
    ∧ StableHlo.after (mainLine d).ops V (Proc.devRef .tc main_arg2) = V (Proc.devRef .tc main_arg2)
    ∧ StableHlo.after (mainLine d).ops V (Proc.devRef .tc main_arg3) = V (Proc.devRef .tc main_arg3)
    ∧ StableHlo.after (mainLine d).ops V (Proc.devRef .tc main_arg4) = V (Proc.devRef .tc main_arg4)
    ∧ StableHlo.after (mainLine d).ops V (Proc.devRef .tc main_arg5) = V (Proc.devRef .tc main_arg5)
    ∧ StableHlo.after (mainLine d).ops V (Proc.devRef .tc main_arg6) = V (Proc.devRef .tc main_arg6)
    ∧ StableHlo.after (mainLine d).ops V (Proc.devRef .tc main_arg7) = V (Proc.devRef .tc main_arg7)
    ∧ StableHlo.after (mainLine d).ops V (Proc.devRef .tc main_arg8) = V (Proc.devRef .tc main_arg8)
    ∧ StableHlo.after (mainLine d).ops V (Proc.devRef .tc main_arg9) = V (Proc.devRef .tc main_arg9)
    ∧ StableHlo.after (mainLine d).ops V (Proc.devRef .tc main_arg10) = V (Proc.devRef .tc main_arg10)
    ∧ StableHlo.after (mainLine d).ops V (Proc.devRef .tc main_arg11) = V (Proc.devRef .tc main_arg11)
    ∧ StableHlo.after (mainLine d).ops V (Proc.devRef .tc main_arg12) = V (Proc.devRef .tc main_arg12)
    ∧ StableHlo.after (mainLine d).ops V (Proc.devRef .tc main_arg13) = V (Proc.devRef .tc main_arg13) := by
  refine ⟨?_, ?_, ?_, ?_, ?_, ?_, ?_, ?_, ?_, ?_, ?_, ?_, ?_, ?_⟩ <;> after_reads_simp

/-- The frame: the program ends from every launch, with every argument array as it was and every semaphore at zero. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  (θ_run _ _ _).mono (fun r h => ⟨fun c => by
      obtain ⟨h0, h1, h2, h3, h4, h5, h6, h7, h8, h9, h10, h11, h12, h13⟩ := kept (StableHlo.launchContents m c) c
      exact ⟨(h c _).trans h0, (h c _).trans h1, (h c _).trans h2, (h c _).trans h3, (h c _).trans h4, (h c _).trans h5, (h c _).trans h6, (h c _).trans h7, (h c _).trans h8, (h c _).trans h9, (h c _).trans h10, (h c _).trans h11, (h c _).trans h12, (h c _).trans h13⟩,
    sem_eq_zero_of_no_sems rfl _⟩) (run m g)

end Cert.ReferenceIdeal.Hand

end
-- ==== Proof.Math.Rank.lean ====
/- The rank of an element of a finite row, counted, against its place in the row sorted: the place at which a stable
   descending sort puts a position is the number of positions that go before it. -/
module

public import Idealize.ShloMosaic.Lib.SortFacts
public import Mathlib.Data.EReal.Basic

@[expose] public section

namespace Cert.Rank

open Idealize.ShloMosaic

variable {α : Type} [LinearOrder α] {n : Nat}

/-- Position `j` goes before position `b`: its element is greater, or the elements are equal and `j` is the earlier. -/
def Before (p : Fin n → α) (j b : Fin n) : Prop := p b < p j ∨ p j = p b ∧ j < b

noncomputable instance (p : Fin n → α) (j b : Fin n) : Decidable (Before p j b) := Classical.dec _

/-- The number of positions that go before `b`. -/
noncomputable def rank (p : Fin n → α) (b : Fin n) : Nat := (Finset.univ.filter fun j => Before p j b).card

/-- The position at place `k` of the row sorted with the greatest first, equal elements in their order. -/
def nth (p : Fin n → α) (k : Fin n) : Fin n := sortedFrom (fun i j => decide (p j < p i)) k

theorem Before.trans {p : Fin n → α} {a b c : Fin n} (h : Before p a b) (h' : Before p b c) : Before p a c := by
  rcases h with h | ⟨h, i⟩ <;> rcases h' with h' | ⟨h', i'⟩
  · exact .inl (h'.trans h)
  · exact .inl (h' ▸ h)
  · exact .inl (h ▸ h')
  · exact .inr ⟨h.trans h', i.trans i'⟩

theorem Before.irrefl {p : Fin n → α} {a : Fin n} : ¬ Before p a a := by
  rintro (h | ⟨-, h⟩) <;> exact lt_irrefl _ h

/-- Inserting a position that is earlier than all those of an ordered list leaves the list ordered. -/
theorem pairwise_insert (p : Fin n → α) (a : Fin n) : ∀ l : List (Fin n), l.Pairwise (Before p) → (∀ b ∈ l, a < b) →
    (insertBefore (fun i j => decide (p j < p i)) a l).Pairwise (Before p)
  | [], _, _ => List.pairwise_singleton _ _
  | b :: l, hl, ha => by
    obtain ⟨hb, hl'⟩ := List.pairwise_cons.mp hl
    unfold insertBefore
    by_cases h : p a < p b
    · rw [if_pos (decide_eq_true h)]
      refine List.pairwise_cons.mpr ⟨fun c hc => ?_, pairwise_insert p a l hl' fun c hc => ha c (.tail _ hc)⟩
      rcases List.mem_cons.mp ((perm_insertBefore _ a l).mem_iff.mp hc) with rfl | hc
      · exact .inl h
      · exact hb c hc
    · rw [if_neg (by simpa using h)]
      have hab : Before p a b := by
        rcases (not_lt.mp h).lt_or_eq with h | h
        · exact .inl h
        · exact .inr ⟨h.symm, ha b (.head _)⟩
      exact List.pairwise_cons.mpr ⟨fun c hc => (List.mem_cons.mp hc).elim (fun e => e ▸ hab) fun hc => hab.trans (hb c hc), hl⟩

/-- The sorted positions are in order. -/
theorem pairwise_sort (p : Fin n → α) : ∀ l : List (Fin n), l.Pairwise (· < ·) →
    (stableSort (fun i j => decide (p j < p i)) l).Pairwise (Before p)
  | [], _ => List.Pairwise.nil
  | a :: l, hl => by
    obtain ⟨ha, hl'⟩ := List.pairwise_cons.mp hl
    unfold stableSort
    exact pairwise_insert p a _ (pairwise_sort p l hl') fun b hb => ha b ((perm_stableSort _ l).mem_iff.mp hb)

theorem nth_before (p : Fin n → α) {i j : Fin n} (h : i < j) : Before p (nth p i) (nth p j) :=
  List.pairwise_iff_get.mp (pairwise_sort p _ (List.pairwise_lt_finRange n)) _ _ h

theorem nth_bijective (p : Fin n → α) : Function.Bijective (nth p) :=
  ⟨sortedFrom_injective _, sortedFrom_surjective _⟩

theorem nth_before_iff (p : Fin n → α) (i j : Fin n) : Before p (nth p i) (nth p j) ↔ i < j := by
  refine ⟨fun h => ?_, nth_before p⟩
  rcases lt_trichotomy i j with h' | h' | h'
  · exact h'
  · exact absurd (h' ▸ h) Before.irrefl
  · exact absurd (h.trans (nth_before p h')) Before.irrefl

/-- The rank of the position at place `k` is `k`. -/
theorem rank_nth (p : Fin n → α) (k : Fin n) : rank p (nth p k) = k.val := by
  rw [rank, ← Fin.card_Iio k]
  refine (Finset.card_bij (fun i _ => nth p i) ?_ ?_ ?_).symm
  · intro i hi
    exact Finset.mem_filter.mpr ⟨Finset.mem_univ _, nth_before p (Finset.mem_Iio.mp hi)⟩
  · exact fun i _ j _ h => (nth_bijective p).1 h
  · intro b hb
    obtain ⟨i, rfl⟩ := (nth_bijective p).2 b
    exact ⟨i, Finset.mem_Iio.mpr ((nth_before_iff p i k).mp (Finset.mem_filter.mp hb).2), rfl⟩

/-- A position has rank `k` exactly when it is the one at place `k`. -/
theorem rank_eq_iff (p : Fin n → α) (b k : Fin n) : rank p b = k.val ↔ b = nth p k := by
  obtain ⟨i, rfl⟩ := (nth_bijective p).2 b
  rw [rank_nth, ← Fin.ext_iff, (nth_bijective p).1.eq_iff]

theorem rank_lt (p : Fin n → α) (b : Fin n) : rank p b < n := by
  obtain ⟨i, rfl⟩ := (nth_bijective p).2 b
  rw [rank_nth]
  exact i.isLt

end Cert.Rank

end
-- ==== Proof.Value.Spec.lean ====
/- The mathematics both programs compute, one node at a time, over the extended reals: the attention scores of a node's
   32 neighbours, their softmax, the perturbed log-probabilities, and the ranking of the neighbours by them. -/
module

public import proofs.«01_k».proof.Proof.Math.Rank
public import Idealize.ShloMosaic.PureOps.Ideal
public import Idealize.ShloMosaic.Lib.IdealHost

@[expose] public section

noncomputable section

namespace Cert.Spec

open Idealize.ShloMosaic

/-- What one node brings: its features, its neighbours' features, its edges' features, its time, its neighbours' times
    and identifiers. -/
structure Row where
  root : Fin 128 → EReal
  nbr : Fin 32 → Fin 128 → EReal
  edge : Fin 32 → Fin 16 → EReal
  time : EReal
  stamp : Fin 32 → EReal
  id : Fin 32 → BitVec 32

/-- The weights, shared by all nodes. -/
structure Weights where
  node : Fin 128 → Fin 32 → EReal
  nodeBias : Fin 32 → EReal
  edge : Fin 16 → Fin 32 → EReal
  edgeBias : Fin 32 → EReal
  query : Fin 96 → Fin 64 → EReal
  queryBias : Fin 64 → EReal
  key : Fin 160 → Fin 64 → EReal
  keyBias : Fin 64 → EReal

/-- The frequency of a lane: one over ten to a power that runs evenly from 0 to 9 over the 32 lanes. -/
def freq (d : Fin 32) : EReal :=
  Ideal.div 1 (Ideal.pow (Ideal.ofBits .f32 0x41200000#32)
    (if d.val < 31 then
      Ideal.ofBits .f32 0x00000000#32
          * (1 - Ideal.div (FloatOps.sitofp (F := Ideal) .f32 (BitVec.ofNat 32 d.val)) (Ideal.ofBits .f32 0x41F80000#32))
        + Ideal.ofBits .f32 0x41100000#32
          * Ideal.div (FloatOps.sitofp (F := Ideal) .f32 (BitVec.ofNat 32 d.val)) (Ideal.ofBits .f32 0x41F80000#32)
    else Ideal.ofBits .f32 0x41100000#32))

variable (W : Weights) (R : Row)

/-- The node's own features, projected and rectified. -/
def rootFeat (f : Fin 32) : EReal := max (∑ l, R.root l * W.node l f + W.nodeBias f) 0

/-- A neighbour's features, projected and rectified. -/
def nbrFeat (b f : Fin 32) : EReal := max (∑ l, R.nbr b l * W.node l f + W.nodeBias f) 0

/-- An edge's features, projected and rectified. -/
def edgeFeat (b f : Fin 32) : EReal := max (∑ l, R.edge b l * W.edge l f + W.edgeBias f) 0

/-- The encoding of the time since a neighbour's stamp. -/
def timeEnc (b d : Fin 32) : EReal := Ideal.cos ((R.time - R.stamp b) * freq d)

/-- Whether two neighbours are one, as a number. -/
def same (b j : Fin 32) : EReal := if R.id b = R.id j then 1 else 0

/-- How often a neighbour occurs among the 32. -/
def count (b : Fin 32) : Nat := (Finset.univ.filter fun j => R.id b = R.id j).card

/-- The encoding of a relative frequency `c / 32`. -/
def freqEnc (c : Nat) (d : Fin 32) : EReal :=
  Ideal.cos (Ideal.div ((c : ℝ) : EReal) (Ideal.ofBits .f32 0x42000000#32) * freq d)

/-- The query: the node's features, the encodings of time 0 and of frequency 1, through the query weights. -/
def query (h : Fin 64) : EReal :=
  ∑ f : Fin 32, rootFeat W R f * W.query ⟨f.val, by omega⟩ h
    + ∑ f : Fin 32, Ideal.cos (0 * freq f) * W.query ⟨32 + f.val, by omega⟩ h
    + ∑ f : Fin 32, Ideal.cos (freq f) * W.query ⟨64 + f.val, by omega⟩ h
    + W.queryBias h

/-- A neighbour's key: its five groups of features through the key weights. -/
def key (b : Fin 32) (h : Fin 64) : EReal :=
  ∑ f : Fin 32, nbrFeat W R b f * W.key ⟨f.val, by omega⟩ h
    + ∑ f : Fin 32, edgeFeat W R b f * W.key ⟨32 + f.val, by omega⟩ h
    + ∑ f : Fin 32, timeEnc R b f * W.key ⟨64 + f.val, by omega⟩ h
    + ∑ f : Fin 32, freqEnc (count R b) f * W.key ⟨96 + f.val, by omega⟩ h
    + ∑ f : Fin 32, same R b f * W.key ⟨128 + f.val, by omega⟩ h
    + W.keyBias h

/-- A neighbour's score: query times key, over 8. -/
def score (b : Fin 32) : EReal :=
  Ideal.div (∑ h, query W R h * key W R b h) (Ideal.ofBits .f32 0x41000000#32)

/-- The softmax of 32 scores. -/
def softmax (s : Fin 32 → EReal) (b : Fin 32) : EReal :=
  Ideal.div (Ideal.exp (s b - Finset.univ.fold max (Ideal.ofBits .f32 0xFF800000#32) s))
    (∑ x, Ideal.exp (s x - Finset.univ.fold max (Ideal.ofBits .f32 0xFF800000#32) s))

/-- The probabilities of the neighbours. -/
def prob : Fin 32 → EReal := softmax (score W R)

/-- The perturbed log-probabilities, the noise given. -/
def perturbed (noise : Fin 32 → EReal) (b : Fin 32) : EReal :=
  Ideal.log (prob W R b + Ideal.ofBits .f32 0x1E3CE508#32) + noise b

/-- The neighbour chosen at place `s` of the 16: the one whose perturbed log-probability is the `s`-th greatest. -/
def action (noise : Fin 32 → EReal) (s : Fin 16) : BitVec 32 :=
  BitVec.ofNat 32 (Rank.nth (perturbed W R noise) ⟨s.val, by omega⟩).val

end Cert.Spec

end
-- ==== Proof.Math.OneHot.lean ====
/- Sums of extended reals weighted by an indicator, and the indicator `max (1 - |i - j|) 0` of two integers. -/
module

public import Idealize.ShloMosaic.PureOps.Ideal
public import Idealize.ShloMosaic.Lib.Pointwise
public import Mathlib.Algebra.BigOperators.Fin

@[expose] public section

namespace Cert.OneHot

open Idealize.ShloMosaic

/-- A sum against the indicator of one index is the term at that index. -/
theorem sum_mul_ind {ι : Type} [Fintype ι] [DecidableEq ι] (i : ι) (f : ι → EReal) :
    ∑ x, f x * (if x = i then 1 else 0) = f i := by
  rw [Finset.sum_eq_single i]
  · simp
  · intro b _ h; simp [h]
  · simp

/-- The same, the indicator on the left. -/
theorem sum_ind_mul {ι : Type} [Fintype ι] [DecidableEq ι] (i : ι) (f : ι → EReal) :
    ∑ x, (if x = i then 1 else 0) * f x = f i := by
  simp only [mul_comm _ (f _)]; exact sum_mul_ind i f

/-- The column of a block at row `r`, lane `b`: rows of 32 lanes, one after the other. -/
def col (r : Fin 80) (b : Fin 32) : Fin 2560 := ⟨r.val * 32 + b.val, by omega⟩

/-- A sum over the columns of a block is a sum over its rows and lanes. -/
theorem sum_col (f : Fin 2560 → EReal) : ∑ x, f x = ∑ r, ∑ b, f (col r b) := by
  rw [← Fintype.sum_prod_type']
  refine (Fintype.sum_equiv (finProdFinEquiv (m := 80) (n := 32)) _ _ fun p => ?_).symm
  congr 1
  ext
  simp [col, finProdFinEquiv]
  ring

/-- A sum over the columns weighted by the indicator of a row is the sum over the row's lanes. -/
theorem sum_row (r : Fin 80) (g : Fin 2560 → EReal) (f : Fin 2560 → EReal)
    (h : ∀ q b, g (col q b) = if q = r then 1 else 0) : ∑ x, g x * f x = ∑ b, f (col r b) := by
  rw [sum_col, Finset.sum_eq_single r]
  · simp [h]
  · intro q _ hq; simp [h, hq]
  · simp

/-- `max (1 - |i - j|) 0` is the indicator of `i = j`, for integers. -/
theorem near (i j : ℤ) : max (1 - max (((i : ℝ) : EReal) - ((j : ℝ) : EReal)) (-(((i : ℝ) : EReal) - ((j : ℝ) : EReal)))) 0
    = if i = j then (1 : EReal) else 0 := by
  have e : ((i : ℝ) : EReal) - ((j : ℝ) : EReal) = (((i - j : ℤ) : ℝ) : EReal) := by push_cast; rfl
  have m (a b : ℝ) : max (a : EReal) (b : EReal) = ((max a b : ℝ) : EReal) :=
    (EReal.coe_strictMono.monotone.map_max).symm
  rw [e, ← EReal.coe_neg, m, ← EReal.coe_one, ← EReal.coe_sub, ← EReal.coe_zero, m, ← abs_eq_max_neg]
  split
  · rename_i h; subst h; simp
  · rename_i h
    have : (1 : ℤ) ≤ |i - j| := Int.one_le_abs (sub_ne_zero.mpr h)
    have : (1 : ℝ) ≤ |((i - j : ℤ) : ℝ)| := by exact_mod_cast this
    rw [max_eq_right (by linarith)]

/-- A sum of indicators is a count. -/
theorem sum_ind {ι : Type} [Fintype ι] (P : ι → Prop) [DecidablePred P] :
    ∑ x, (if P x then (1 : EReal) else 0) = (((Finset.univ.filter P).card : ℝ) : EReal) := by
  rw [Finset.sum_ite]
  simp

end Cert.OneHot

end
-- ==== Proof.Value.Rows.lean ====
/- The kernel's body on one block of 80 nodes, node by node: each value the body computes is the value of `Spec`, when the
   input blocks hold the nodes' data and the tables prepared for them. -/
module

public import proofs.«01_k».proof.Proof.Gen.KernelIdeal.Skeleton
public import proofs.«01_k».proof.Proof.Value.Spec
public import proofs.«01_k».proof.Proof.Math.OneHot
public import Idealize.ShloMosaic.Lib.Pointwise

@[expose] public section

set_option maxRecDepth 20000
set_option maxHeartbeats 4000000

noncomputable section

namespace Cert.KernelIdeal.Rows

open Cert.KernelIdeal Cert.KernelIdeal.Gen Cert.OneHot Idealize.ShloMosaic

/-- A block of 80 nodes: the input blocks hold the nodes' data, the weights, and the tables. -/
structure Block (W : Spec.Weights) (R : Fin 80 → Spec.Row) (noise : Fin 80 → Fin 32 → EReal)
    (x0 : Vec Ideal S80x128 .f32) (x1 : Vec Ideal S80x32x128 .f32) (x2 : Vec Ideal S80x32x16 .f32)
    (x3 x4 x5 : Vec Ideal S1x2560 .f32) (x6 : Vec Ideal S1x32x80 .f32) (x7 : Vec Ideal S80x32 .f32)
    (x8 : Vec Ideal S32x128 .f32) (x9 : Vec Ideal S32x80 .f32) (x10 : Vec Ideal S32x2560 .f32)
    (x11 : Vec Ideal S32x16 .f32) (x12 : Vec Ideal S32x2560 .f32) (x13 : Vec Ideal S32x64 .f32)
    (x14 : Vec Ideal S1x64 .f32) (x15 x16 x17 x18 x19 : Vec Ideal S32x64 .f32) (x20 : Vec Ideal S1x64 .f32)
    (x21 x22 : Vec Ideal S32x2560 .f32) (x23 : Vec Ideal S32x32 .f32) (x24 : Vec Ideal S2560x80 .f32)
    (x25 : Vec Ideal S80x2560 .f32) (x26 x27 : Vec Ideal S2560x32 .f32) : Prop where
  h0 : ∀ r l, x0 (ix2 r l) = (R r).root l
  h1 : ∀ r b l, x1 (ix3 r b l) = (R r).nbr b l
  h2 : ∀ r b l, x2 (ix3 r b l) = (R r).edge b l
  h3 : ∀ r b, x3 (ix2 0 (col r b)) = (R r).time
  h4 : ∀ r b, x4 (ix2 0 (col r b)) = (R r).stamp b
  h5 : ∀ r b, x5 (ix2 0 (col r b)) = FloatOps.sitofp (F := Ideal) .f32 ((R r).id b)
  h6 : ∀ r b, x6 (ix3 0 b r) = FloatOps.sitofp (F := Ideal) .f32 ((R r).id b)
  h7 : ∀ r b, x7 (ix2 r b) = noise r b
  h8 : ∀ f l, x8 (ix2 f l) = W.node l f
  h9 : ∀ f r, x9 (ix2 f r) = W.nodeBias f
  h10 : ∀ f p, x10 (ix2 f p) = W.nodeBias f
  h11 : ∀ f l, x11 (ix2 f l) = W.edge l f
  h12 : ∀ f p, x12 (ix2 f p) = W.edgeBias f
  h13 : ∀ (f : Fin 32) h, x13 (ix2 f h) = W.query ⟨f.val, by omega⟩ h
  h14 : ∀ h, x14 (ix2 0 h) = ∑ f : Fin 32, Ideal.cos (0 * Spec.freq f) * W.query ⟨32 + f.val, by omega⟩ h
    + ∑ f : Fin 32, Ideal.cos (Spec.freq f) * W.query ⟨64 + f.val, by omega⟩ h + W.queryBias h
  h15 : ∀ (f : Fin 32) h, x15 (ix2 f h) = W.key ⟨f.val, by omega⟩ h
  h16 : ∀ (f : Fin 32) h, x16 (ix2 f h) = W.key ⟨32 + f.val, by omega⟩ h
  h17 : ∀ (f : Fin 32) h, x17 (ix2 f h) = W.key ⟨64 + f.val, by omega⟩ h
  h18 : ∀ (f : Fin 32) h, x18 (ix2 f h) = W.key ⟨96 + f.val, by omega⟩ h
  h19 : ∀ (f : Fin 32) h, x19 (ix2 f h) = W.key ⟨128 + f.val, by omega⟩ h
  h20 : ∀ h, x20 (ix2 0 h) = W.keyBias h
  h21 : ∀ d p, x21 (ix2 d p) = Spec.freq d
  h22 : ∀ (c : Fin 32) p, x22 (ix2 c p) = (((c.val + 1 : ℕ) : ℝ) : EReal)
  h23 : ∀ d (c : Fin 32), x23 (ix2 d c) = Spec.freqEnc (c.val + 1) d
  h24 : ∀ r b q, x24 (ix2 (col r b) q) = if q = r then 1 else 0
  h25 : ∀ r b q, x25 (ix2 q (col r b)) = if q = r then 1 else 0
  h26 : ∀ r (b l : Fin 32), x26 (ix2 (col r b) l) = ((b.val : ℝ) : EReal)
  h27 : ∀ r b (l : Fin 32), x27 (ix2 (col r b) l) = if l = b then 1 else 0

theorem col_div (r : Fin 80) (b : Fin 32) (h : (col r b).val / 32 < 80) : (⟨(col r b).val / 32, h⟩ : Fin 80) = r := by
  ext; simp only [col]; omega

theorem col_mod (r : Fin 80) (b : Fin 32) (h : (col r b).val % 32 < 32) : (⟨(col r b).val % 32, h⟩ : Fin 32) = b := by
  ext; simp only [col]; omega

theorem col_mk (r : Fin 80) (b : Fin 32) (h : r.val * 32 + b.val < 2560) : (⟨r.val * 32 + b.val, h⟩ : Fin 2560) = col r b := rfl

variable {W : Spec.Weights} {R : Fin 80 → Spec.Row} {noise : Fin 80 → Fin 32 → EReal}
    {x0 : Vec Ideal S80x128 .f32} {x1 : Vec Ideal S80x32x128 .f32} {x2 : Vec Ideal S80x32x16 .f32}
    {x3 x4 x5 : Vec Ideal S1x2560 .f32} {x6 : Vec Ideal S1x32x80 .f32} {x7 : Vec Ideal S80x32 .f32}
    {x8 : Vec Ideal S32x128 .f32} {x9 : Vec Ideal S32x80 .f32} {x10 : Vec Ideal S32x2560 .f32}
    {x11 : Vec Ideal S32x16 .f32} {x12 : Vec Ideal S32x2560 .f32} {x13 : Vec Ideal S32x64 .f32}
    {x14 : Vec Ideal S1x64 .f32} {x15 x16 x17 x18 x19 : Vec Ideal S32x64 .f32} {x20 : Vec Ideal S1x64 .f32}
    {x21 x22 : Vec Ideal S32x2560 .f32} {x23 : Vec Ideal S32x32 .f32} {x24 : Vec Ideal S2560x80 .f32}
    {x25 : Vec Ideal S80x2560 .f32} {x26 x27 : Vec Ideal S2560x32 .f32}

section
variable (H : Block W R noise x0 x1 x2 x3 x4 x5 x6 x7 x8 x9 x10 x11 x12 x13 x14 x15 x16 x17 x18 x19 x20 x21 x22 x23 x24
  x25 x26 x27)
include H

/-- The queries. -/
theorem query_at (r : Fin 80) (h : Fin 64) : k0_pay3 x8 x0 x9 x13 x14 (ix2 r h) = Spec.query W (R r) h := by
  pointwise [k0_pay3]
  simp only [H.h0, H.h8, H.h9, H.h13, H.h14, Spec.query, Spec.rootFeat, mul_comm (W.node _ _), add_assoc]

/-- The neighbours' features, a column for each. -/
theorem nbr_at (r : Fin 80) (b f : Fin 32) : k0_pay4 x8 x1 x10 (ix2 f (col r b)) = Spec.nbrFeat W (R r) b f := by
  pointwise [k0_pay4]
  simp only [col_div, col_mod, H.h1, H.h8, H.h10, Spec.nbrFeat, mul_comm (W.node _ _)]

/-- The edges' features, a column for each. -/
theorem edge_at (r : Fin 80) (b f : Fin 32) : k0_pay6 (k0_pay5 x11) x2 x12 (ix2 f (col r b)) = Spec.edgeFeat W (R r) b f := by
  pointwise [k0_pay6, k0_pay5]
  simp only [col_div, col_mod, H.h2, H.h11, H.h12, Spec.edgeFeat, mul_comm (W.edge _ _)]

/-- The time encodings, a column for each neighbour. -/
theorem time_at (r : Fin 80) (b f : Fin 32) : k0_pay8 x3 x4 x21 (ix2 f (col r b)) = Spec.timeEnc (R r) b f := by
  pointwise [k0_pay8]
  simp only [H.h3, H.h4, H.h21, Spec.timeEnc]

/-- Whether two neighbours are one. -/
theorem same_at (r : Fin 80) (b j : Fin 32) : k0_pay7 (k0_pay2 x25) x5 x6 (ix2 j (col r b)) = Spec.same (R r) b j := by
  pointwise [k0_pay7, k0_pay2]
  simp only [H.h5, H.h6, H.h25, sum_mul_ind]
  refine (near _ _).trans ?_
  simp only [Spec.same, BitVec.toInt_inj]

/-- How far a neighbour's number of occurrences is from `c + 1`. -/
theorem count_at (r : Fin 80) (b c : Fin 32) : k0_pay9 (k0_pay2 x25) x5 x6 x22 (ix2 c (col r b))
    = FloatOps.absf (F := Ideal) (φ := .f32) (((Spec.count (R r) b : ℝ) : EReal) - (((c.val + 1 : ℕ) : ℝ) : EReal)) := by
  pointwise [k0_pay9]
  simp only [same_at H, H.h22, one_mul, Spec.same, sum_ind, Spec.count]

omit H in
theorem count_pos (Q : Spec.Row) (b : Fin 32) : 0 < Spec.count Q b :=
  Finset.card_pos.mpr ⟨b, Finset.mem_filter.mpr ⟨Finset.mem_univ _, rfl⟩⟩

omit H in
theorem count_le (Q : Spec.Row) (b : Fin 32) : Spec.count Q b ≤ 32 :=
  (Finset.card_le_univ _).trans (by simp)

omit H in
/-- The table of encodings, looked up at a number of occurrences. -/
theorem lookup (Q : Spec.Row) (b : Fin 32) (d : Fin 32) :
    ∑ c : Fin 32, Spec.freqEnc (c.val + 1) d
        * max (1 - FloatOps.absf (F := Ideal) (φ := .f32) (((Spec.count Q b : ℝ) : EReal) - (((c.val + 1 : ℕ) : ℝ) : EReal))) 0
      = Spec.freqEnc (Spec.count Q b) d := by
  have hp := count_pos Q b
  have hl := count_le Q b
  have e (c : Fin 32) : max (1 - FloatOps.absf (F := Ideal) (φ := .f32) (((Spec.count Q b : ℝ) : EReal) - (((c.val + 1 : ℕ) : ℝ) : EReal))) 0
      = if c = (⟨Spec.count Q b - 1, by omega⟩ : Fin 32) then 1 else 0 := by
    have := near (Spec.count Q b : ℤ) ((c.val + 1 : ℕ) : ℤ)
    simp only [Int.cast_natCast] at this
    refine Eq.trans this ?_
    congr 1
    simp only [Nat.cast_inj, Fin.ext_iff, eq_iff_iff]
    omega
  simp only [e]
  rw [sum_mul_ind (⟨Spec.count Q b - 1, by omega⟩ : Fin 32) (fun c : Fin 32 => Spec.freqEnc (c.val + 1) d)]
  simp only [Nat.sub_add_cancel hp]

/-- The scores before the division by 8. -/
theorem raw_at (r : Fin 80) (b : Fin 32) :
    k0_pay10 (k0_pay3 x8 x0 x9 x13 x14) (k0_pay4 x8 x1 x10) (k0_pay6 (k0_pay5 x11) x2 x12) (k0_pay7 (k0_pay2 x25) x5 x6)
        (k0_pay8 x3 x4 x21) (k0_pay9 (k0_pay2 x25) x5 x6 x22) x23 x15 x16 x17 x18 x19 x20 (ix2 r b)
      = ∑ h, Spec.query W (R r) h * Spec.key W (R r) b h := by
  pointwise [k0_pay10]
  simp only [col_mk, query_at H, nbr_at H, edge_at H, time_at H, same_at H, count_at H, H.h15, H.h16, H.h17, H.h18, H.h19,
    H.h20, H.h23, lookup, Spec.key]

/-- The scores' divisor. -/
theorem eight_at (r : Fin 80) (b : Fin 32) : k0_pay11 (F := Ideal) (ix2 r b) = Ideal.ofBits .f32 0x41000000#32 := by
  pointwise [k0_pay11]

end

end Cert.KernelIdeal.Rows

end
-- ==== Proof.Value.Choice.lean ====
/- The kernel's body on one block, from the scores on: the probabilities, the perturbed log-probabilities, the ranks
   counted pair by pair, and the neighbours chosen. -/
module

public import proofs.«01_k».proof.Proof.Value.Rows
public import Idealize.ShloMosaic.Lib.IndicatorCount

@[expose] public section

set_option maxRecDepth 20000
set_option maxHeartbeats 4000000

noncomputable section

namespace Cert.KernelIdeal.Rows

open Cert.KernelIdeal Cert.KernelIdeal.Gen Cert.OneHot Idealize.ShloMosaic

/-- A small number, converted from a word. -/
theorem sitofp_small (x : Fin 32) : FloatOps.sitofp (F := Ideal) .f32 (BitVec.ofNat 32 x.val) = ((x.val : ℝ) : EReal) := by
  show (((BitVec.ofNat 32 x.val).toInt : ℝ) : EReal) = _
  have : (BitVec.ofNat 32 x.val).toInt = (x.val : ℤ) := by
    have := x.isLt
    rw [BitVec.toInt_eq_toNat_of_lt (by rw [BitVec.toNat_ofNat]; omega), BitVec.toNat_ofNat]; omega
  rw [this, Int.cast_natCast]

/-- A small number, converted to a word. -/
theorem fptosi_small (x : Fin 32) : FloatOps.fptosi (F := Ideal) (φ := .f32) 32 ((x.val : ℝ) : EReal) = BitVec.ofNat 32 x.val := by
  have := x.isLt
  show BitVec.ofInt 32 (Ideal.toIntClamped _ _ ((x.val : ℝ) : EReal)) = _
  rw [Ideal.toIntClamped_coe, if_pos (Nat.cast_nonneg _), Int.floor_natCast, min_eq_right (by omega), max_eq_right (by omega),
    BitVec.ofInt_natCast]

/-- The bit that says whether position `x` goes before `b`, as a number. -/
theorem bit (p : Fin 32 → EReal) (b x : Fin 32) {n : EReal} (hn : n = ((x.val : ℝ) : EReal)) :
    FloatOps.sitofp (F := Ideal) .f32 (BitVec.setWidth 32 (IntOp.ori (BitVec.ofBool (decide (p b < p x)))
      (IntOp.andi (BitVec.ofBool (decide (p x = p b))) (BitVec.ofBool (decide (n < ((b.val : ℝ) : EReal)))))))
      = if Rank.Before p x b then 1 else 0 := by
  have hl : n < ((b.val : ℝ) : EReal) ↔ x < b := by rw [hn, EReal.coe_lt_coe_iff, Nat.cast_lt]; rfl
  have one : FloatOps.sitofp (F := Ideal) .f32 (BitVec.setWidth 32 1#1) = 1 := by
    show (((1 : ℤ) : ℝ) : EReal) = 1
    norm_num
  have zero : FloatOps.sitofp (F := Ideal) .f32 (BitVec.setWidth 32 0#1) = 0 := by
    show (((0 : ℤ) : ℝ) : EReal) = 0
    norm_num
  have bits (P Q S : Bool) : FloatOps.sitofp (F := Ideal) .f32 (BitVec.setWidth 32 (IntOp.ori (BitVec.ofBool P)
      (IntOp.andi (BitVec.ofBool Q) (BitVec.ofBool S)))) = if P || Q && S then 1 else 0 := by
    cases P <;> cases Q <;> cases S <;> first | exact one | exact zero
  rw [bits]
  refine if_congr ?_ rfl rfl
  simp only [hl, Rank.Before, Bool.or_eq_true, Bool.and_eq_true, decide_eq_true_eq]

variable {W : Spec.Weights} {R : Fin 80 → Spec.Row} {noise : Fin 80 → Fin 32 → EReal}
    {x0 : Vec Ideal S80x128 .f32} {x1 : Vec Ideal S80x32x128 .f32} {x2 : Vec Ideal S80x32x16 .f32}
    {x3 x4 x5 : Vec Ideal S1x2560 .f32} {x6 : Vec Ideal S1x32x80 .f32} {x7 : Vec Ideal S80x32 .f32}
    {x8 : Vec Ideal S32x128 .f32} {x9 : Vec Ideal S32x80 .f32} {x10 : Vec Ideal S32x2560 .f32}
    {x11 : Vec Ideal S32x16 .f32} {x12 : Vec Ideal S32x2560 .f32} {x13 : Vec Ideal S32x64 .f32}
    {x14 : Vec Ideal S1x64 .f32} {x15 x16 x17 x18 x19 : Vec Ideal S32x64 .f32} {x20 : Vec Ideal S1x64 .f32}
    {x21 x22 : Vec Ideal S32x2560 .f32} {x23 : Vec Ideal S32x32 .f32} {x24 : Vec Ideal S2560x80 .f32}
    {x25 : Vec Ideal S80x2560 .f32} {x26 x27 : Vec Ideal S2560x32 .f32}

variable (H : Block W R noise x0 x1 x2 x3 x4 x5 x6 x7 x8 x9 x10 x11 x12 x13 x14 x15 x16 x17 x18 x19 x20 x21 x22 x23 x24
  x25 x26 x27) {raw eight : FVec Ideal S80x32 .f32}
  (hraw : ∀ r b, raw (ix2 r b) = ∑ h, Spec.query W (R r) h * Spec.key W (R r) b h)
  (height : ∀ r b, eight (ix2 r b) = Ideal.ofBits .f32 0x41000000#32)
include H hraw height

omit H in
/-- The probabilities. -/
theorem prob_at (r : Fin 80) (b : Fin 32) : k0_pay12 raw eight (ix2 r b) = Spec.prob W (R r) b := by
  pointwise [k0_pay12]
  simp only [hraw, height, Spec.prob, Spec.softmax]
  rfl

/-- The ranks, as their distances from each place. -/
theorem rank_at (r : Fin 80) (b h : Fin 32) : k0_pay14 raw eight x7 x24 x27 x26 (ix2 (col r b) h)
    = FloatOps.absf (F := Ideal) (φ := .f32)
        (((Rank.rank (Spec.perturbed W (R r) (noise r)) b : ℝ) : EReal) - ((h.val : ℝ) : EReal)) := by
  pointwise [k0_pay14, k0_pay13]
  simp only [prob_at hraw height, H.h7, H.h24, H.h26, H.h27, sum_mul_ind, sum_ind_mul]
  congr 2
  · refine Eq.trans (Finset.sum_congr rfl fun x _ => ?_) (sum_ind _)
    refine Eq.trans (bit (Spec.perturbed W (R r) (noise r)) b x ?_) ?_
    · exact sitofp_small x
    · rfl
  · exact sitofp_small h

omit hraw height in
/-- The choice, from ranks as distances. -/
theorem choice_at {dist : FVec Ideal S2560x32 .f32} {p : Fin 80 → Fin 32 → EReal}
    (hd : ∀ r b h, dist (ix2 (col r b) h) = FloatOps.absf (F := Ideal) (φ := .f32)
        (((Rank.rank (p r) b : ℝ) : EReal) - ((h.val : ℝ) : EReal))) (r : Fin 80) (s : Fin 16) :
    k0_pay1 (k0_pay2 x25) (k0_pay13 x26) dist (Scalar.ofBits .f32 0x3F800000#32) (ix2 r s)
      = BitVec.ofNat 32 (Rank.nth (p r) ⟨s.val, by omega⟩).val := by
  pointwise [k0_pay1, k0_pay2, k0_pay13]
  rw [sum_row r (fun x => x25 (ix2 r x)) _ fun q b => by rw [H.h25]; simp only [eq_comm]]
  simp only [hd, H.h26]
  have e (x : Fin 32) : max (1 - FloatOps.absf (F := Ideal) (φ := .f32) (((Rank.rank (p r) x : ℝ) : EReal) - ((s.val : ℝ) : EReal))) 0
      = if x = Rank.nth (p r) ⟨s.val, by omega⟩ then 1 else 0 := by
    have := near (Rank.rank (p r) x : ℤ) (s.val : ℤ)
    simp only [Int.cast_natCast] at this
    refine Eq.trans this ?_
    congr 1
    rw [Nat.cast_inj, ← Rank.rank_eq_iff]
  simp only [e, sum_ind_mul]
  exact fptosi_small _

end Cert.KernelIdeal.Rows

end
-- ==== Proof.Value.Out.lean ====
/- What the kernel's body leaves in its two output blocks, node by node. -/
module

public import proofs.«01_k».proof.Proof.Value.Choice
public import proofs.«01_k».proof.Proof.Launch.Blocks
public import Idealize.ShloMosaic.Lib.Pipeline.ValueKit

@[expose] public section

set_option maxRecDepth 20000
set_option maxHeartbeats 4000000

noncomputable section

namespace Cert.KernelIdeal.Rows

open Cert.KernelIdeal Cert.KernelIdeal.Gen Cert.KernelIdeal.Whole Idealize.ShloMosaic

variable {W : Spec.Weights} {R : Fin 80 → Spec.Row} {noise : Fin 80 → Fin 32 → EReal}
    {x0 : Vec Ideal S80x128 .f32} {x1 : Vec Ideal S80x32x128 .f32} {x2 : Vec Ideal S80x32x16 .f32}
    {x3 x4 x5 : Vec Ideal S1x2560 .f32} {x6 : Vec Ideal S1x32x80 .f32} {x7 : Vec Ideal S80x32 .f32}
    {x8 : Vec Ideal S32x128 .f32} {x9 : Vec Ideal S32x80 .f32} {x10 : Vec Ideal S32x2560 .f32}
    {x11 : Vec Ideal S32x16 .f32} {x12 : Vec Ideal S32x2560 .f32} {x13 : Vec Ideal S32x64 .f32}
    {x14 : Vec Ideal S1x64 .f32} {x15 x16 x17 x18 x19 : Vec Ideal S32x64 .f32} {x20 : Vec Ideal S1x64 .f32}
    {x21 x22 : Vec Ideal S32x2560 .f32} {x23 : Vec Ideal S32x32 .f32} {x24 : Vec Ideal S2560x80 .f32}
    {x25 : Vec Ideal S80x2560 .f32} {x26 x27 : Vec Ideal S2560x32 .f32}

variable (H : Block W R noise x0 x1 x2 x3 x4 x5 x6 x7 x8 x9 x10 x11 x12 x13 x14 x15 x16 x17 x18 x19 x20 x21 x22 x23 x24
  x25 x26 x27)
include H

/-- The body's scores before their division, on whole blocks. -/
theorem raw_out (r : Fin 80) (b : Fin 32) : k0_pay16 x0 x1 x2 x3 x4 x5 x6 x7 x8 x9 x10 x11 x12 x13 x14 x15 x16 x17 x18 x19
    x20 x21 x22 x23 x24 x25 x26 x27 (ix2 r b) = ∑ h, Spec.query W (R r) h * Spec.key W (R r) b h := by
  unfold k0_pay16 k0_pay15
  simp (disch := decide) only [View.ld_unit_lit]
  exact raw_at H r b

/-- What the scores are divided by. -/
theorem eight_out (r : Fin 80) (b : Fin 32) : (k0_pay17 x0 x1 x2 x3 x4 x5 x6 x7 x8 x9 x10 x11 x12 x13 x14 x15 x16 x17 x18 x19
    x20 x21 x22 x23 x24 x25 x26 x27 : FVec Ideal S80x32 .f32) (ix2 r b) = Ideal.ofBits .f32 0x41000000#32 :=
  eight_at H r b

/-- The first output block: the probabilities. -/
theorem out_prob (r : Fin 80) (b : Fin 32) : out0_28 x0 x1 x2 x3 x4 x5 x6 x7 x8 x9 x10 x11 x12 x13 x14 x15 x16 x17 x18 x19
    x20 x21 x22 x23 x24 x25 x26 x27 (ix2 r b) = Spec.prob W (R r) b := by
  unfold out0_28
  rw [View.canon_unit_zero (by decide)]
  exact prob_at (raw_out H) (eight_out H) r b

/-- The second: the neighbours chosen. -/
theorem out_action (r : Fin 80) (s : Fin 16) : out0_29 x0 x1 x2 x3 x4 x5 x6 x7 x8 x9 x10 x11 x12 x13 x14 x15 x16 x17 x18 x19
    x20 x21 x22 x23 x24 x25 x26 x27 (ix2 r s) = Spec.action W (R r) (noise r) s := by
  unfold out0_29 k0_pay15
  rw [View.canon_unit_zero (by decide)]
  simp (disch := decide) only [View.ld_unit_lit]
  exact choice_at H (p := fun r => Spec.perturbed W (R r) (noise r)) (rank_at H (raw_out H) (eight_out H)) r s

end Cert.KernelIdeal.Rows

end
-- ==== Proof.Gumbel.Pair.lean ====
/- Two arrays joined along an axis, as a function of the two. -/
module

public import Idealize.ShloMosaic.Lib.StableHlo.RunRead

@[expose] public section

noncomputable section

namespace Cert.Gumbel

open Idealize.ShloMosaic

/-- Two arrays joined along an axis. -/
def pair {α : Type} (t : Shape) (ax : Fin t.rank) (s s' : Shape) (h : Shape.Concatenates [s, s'] t ax)
    (a : s.Idx → α) (b : s'.Idx → α) : t.Idx → α :=
  concatenate t ax [⟨s, a⟩, ⟨s', b⟩] h

/-- A join of two arrays is `pair` of them. -/
theorem pair_eq {α : Type} (t : Shape) (ax : Fin t.rank) (s s' : Shape) (h : Shape.Concatenates [s, s'] t ax)
    (a : s.Idx → α) (b : s'.Idx → α) : concatenate t ax [⟨s, a⟩, ⟨s', b⟩] h = pair t ax s s' h a b := rfl

end Cert.Gumbel

end
-- ==== Proof.Value.Host.lean ====
/- What the host program prepares for the kernel, entry by entry: the transposed weights, the tables, and the rows of data
   laid out lane after lane. -/
module

public import proofs.«01_k».proof.Proof.Value.Out
public import proofs.«01_k».proof.Proof.Gumbel.Pair
public import Idealize.ShloMosaic.Lib.StableHlo.RunRead

@[expose] public section

set_option maxRecDepth 20000
set_option maxHeartbeats 4000000

noncomputable section

namespace Cert.KernelIdeal.HostRead

open Cert.KernelIdeal Cert.KernelIdeal.Gen Idealize.ShloMosaic Idealize.ShloMosaic.TcCoe Idealize.SL.Sem Cert.Gumbel Cert.OneHot

/-- What the host program leaves in each buffer before the kernel's launch. -/
def read (V : Valuation τ sig (Elt Ideal)) : Valuation τ sig (Elt Ideal) :=
  StableHlo.after (List.flatten [hostOps0, hostOps0_1, hostOps0_2, hostOps0_3, hostOps0_4, hostOps0_5, hostOps0_6]) V

/-- A column's row, as the host program divides. -/
theorem div_col : ∀ a : Fin 2560, IntOp.divsi .host (BitVec.ofNat 32 a.val) 32#32 = BitVec.ofNat 32 (a.val / 32) := by
  decide +kernel

/-- A column's lane, as the host program takes remainders. -/
theorem rem_col : ∀ a : Fin 2560, IntOp.remsi .host (BitVec.ofNat 32 a.val) 32#32 = BitVec.ofNat 32 (a.val % 32) := by
  decide +kernel

/-- The bit that says whether two small numbers are equal, as a number. -/
theorem eq_bit (x y : Nat) (hx : x < 2560) (hy : y < 2560) :
    FloatOps.uitofp (F := Ideal) .f32 (IntOp.cmpi .eq (BitVec.ofNat 32 x) (BitVec.ofNat 32 y)) = if x = y then (1 : EReal) else 0 := by
  have e : (BitVec.ofNat 32 x == BitVec.ofNat 32 y) = decide (x = y) := by
    rw [Bool.eq_iff_iff, beq_iff_eq, decide_eq_true_eq, ← BitVec.toNat_inj, BitVec.toNat_ofNat, BitVec.toNat_ofNat]
    omega
  show (((BitVec.ofBool (BitVec.ofNat 32 x == BitVec.ofNat 32 y)).toNat : ℝ) : EReal) = _
  rw [e]
  by_cases h : x = y <;> simp [h]

/-- One more than a small number. -/
theorem one_add_small (c : Fin 32) : (1 : EReal) + FloatOps.sitofp (F := Ideal) .f32 (BitVec.ofNat 32 c.val)
    = (((c.val + 1 : ℕ) : ℝ) : EReal) := by
  rw [Rows.sitofp_small, Nat.cast_add, Nat.cast_one, EReal.coe_add, EReal.coe_one, add_comm]

variable (V : Valuation τ sig (Elt Ideal))

/-- The frequencies. -/
theorem freq_at (d : Fin 32) : (read V (Proc.devRef .tc main_v4) (ix1 d) : EReal)
    = Spec.freq d := by
  unfold read
  after_reads_simp [pair_eq, StableHlo.TRef.toBuf, StableHlo.TRef.ofBuf, cast_eq]
  pointwise [pair]
  rfl

/-- The node weights, transposed. -/
theorem node_at (f : Fin 32) (l : Fin 128) : (read V (Proc.devRef .tc main_v45) (ix2 f l) : EReal)
    = (V (Proc.devRef .tc main_arg6) (ix2 l f) : EReal) := by
  unfold read
  after_reads_simp [pair_eq, StableHlo.TRef.toBuf, StableHlo.TRef.ofBuf, cast_eq]
  pointwise [pair]

/-- The edge weights, transposed. -/
theorem edge_at (f : Fin 32) (l : Fin 16) : (read V (Proc.devRef .tc main_v46) (ix2 f l) : EReal)
    = (V (Proc.devRef .tc main_arg8) (ix2 l f) : EReal) := by
  unfold read
  after_reads_simp [pair_eq, StableHlo.TRef.toBuf, StableHlo.TRef.ofBuf, cast_eq]
  pointwise [pair]

/-- The part of the query weights for the node itself. -/
theorem query_at (f : Fin 32) (h : Fin 64) : (read V (Proc.devRef .tc main_v47) (ix2 f h) : EReal)
    = (V (Proc.devRef .tc main_arg10) (ix2 (⟨f.val, by omega⟩ : Fin 96) h) : EReal) := by
  unfold read
  after_reads_simp [pair_eq, StableHlo.TRef.toBuf, StableHlo.TRef.ofBuf, cast_eq]
  pointwise [pair]

/-- Part 1 of 5 of the key weights. -/
theorem key0_at (f : Fin 32) (h : Fin 64) : (read V (Proc.devRef .tc main_v48) (ix2 f h) : EReal)
    = (V (Proc.devRef .tc main_arg12) (ix2 (⟨f.val, by omega⟩ : Fin 160) h) : EReal) := by
  unfold read
  after_reads_simp [pair_eq, StableHlo.TRef.toBuf, StableHlo.TRef.ofBuf, cast_eq]
  pointwise [pair]

/-- Part 2 of 5 of the key weights. -/
theorem key1_at (f : Fin 32) (h : Fin 64) : (read V (Proc.devRef .tc main_v49) (ix2 f h) : EReal)
    = (V (Proc.devRef .tc main_arg12) (ix2 (⟨32 + f.val, by omega⟩ : Fin 160) h) : EReal) := by
  unfold read
  after_reads_simp [pair_eq, StableHlo.TRef.toBuf, StableHlo.TRef.ofBuf, cast_eq]
  pointwise [pair]

/-- Part 3 of 5 of the key weights. -/
theorem key2_at (f : Fin 32) (h : Fin 64) : (read V (Proc.devRef .tc main_v50) (ix2 f h) : EReal)
    = (V (Proc.devRef .tc main_arg12) (ix2 (⟨64 + f.val, by omega⟩ : Fin 160) h) : EReal) := by
  unfold read
  after_reads_simp [pair_eq, StableHlo.TRef.toBuf, StableHlo.TRef.ofBuf, cast_eq]
  pointwise [pair]

/-- Part 4 of 5 of the key weights. -/
theorem key3_at (f : Fin 32) (h : Fin 64) : (read V (Proc.devRef .tc main_v51) (ix2 f h) : EReal)
    = (V (Proc.devRef .tc main_arg12) (ix2 (⟨96 + f.val, by omega⟩ : Fin 160) h) : EReal) := by
  unfold read
  after_reads_simp [pair_eq, StableHlo.TRef.toBuf, StableHlo.TRef.ofBuf, cast_eq]
  pointwise [pair]

/-- Part 5 of 5 of the key weights. -/
theorem key4_at (f : Fin 32) (h : Fin 64) : (read V (Proc.devRef .tc main_v52) (ix2 f h) : EReal)
    = (V (Proc.devRef .tc main_arg12) (ix2 (⟨128 + f.val, by omega⟩ : Fin 160) h) : EReal) := by
  unfold read
  after_reads_simp [pair_eq, StableHlo.TRef.toBuf, StableHlo.TRef.ofBuf, cast_eq]
  pointwise [pair]

/-- The node bias, a column for each node. -/
theorem nodeBias_at (f : Fin 32) (r : Fin 80) : (read V (Proc.devRef .tc main_v55) (ix2 f r) : EReal)
    = (V (Proc.devRef .tc main_arg7) (ix1 f) : EReal) := by
  unfold read
  after_reads_simp [pair_eq, StableHlo.TRef.toBuf, StableHlo.TRef.ofBuf, cast_eq]
  pointwise [pair]

/-- The node bias, a column for each neighbour. -/
theorem nbrBias_at (f : Fin 32) (p : Fin 2560) : (read V (Proc.devRef .tc main_v57) (ix2 f p) : EReal)
    = (V (Proc.devRef .tc main_arg7) (ix1 f) : EReal) := by
  unfold read
  after_reads_simp [pair_eq, StableHlo.TRef.toBuf, StableHlo.TRef.ofBuf, cast_eq]
  pointwise [pair]

/-- The edge bias, a column for each neighbour. -/
theorem edgeBias_at (f : Fin 32) (p : Fin 2560) : (read V (Proc.devRef .tc main_v59) (ix2 f p) : EReal)
    = (V (Proc.devRef .tc main_arg9) (ix1 f) : EReal) := by
  unfold read
  after_reads_simp [pair_eq, StableHlo.TRef.toBuf, StableHlo.TRef.ofBuf, cast_eq]
  pointwise [pair]

/-- The key bias. -/
theorem keyBias_at (h : Fin 64) : (read V (Proc.devRef .tc main_v114) (ix2 0 h) : EReal)
    = (V (Proc.devRef .tc main_arg13) (ix1 h) : EReal) := by
  unfold read
  after_reads_simp [pair_eq, StableHlo.TRef.toBuf, StableHlo.TRef.ofBuf, cast_eq]
  pointwise [pair]

/-- The frequencies, a column for each neighbour. -/
theorem freqs_at (f : Fin 32) (p : Fin 2560) : (read V (Proc.devRef .tc main_v61) (ix2 f p) : EReal)
    = Spec.freq f := by
  unfold read
  after_reads_simp [pair_eq, StableHlo.TRef.toBuf, StableHlo.TRef.ofBuf, cast_eq]
  pointwise [pair]
  rfl

/-- The numbers of occurrences there can be, down the rows. -/
theorem counts_at (c : Fin 32) (p : Fin 2560) : (read V (Proc.devRef .tc main_v66) (ix2 c p) : EReal)
    = (((c.val + 1 : ℕ) : ℝ) : EReal) := by
  unfold read
  after_reads_simp [pair_eq, StableHlo.TRef.toBuf, StableHlo.TRef.ofBuf, cast_eq]
  pointwise [pair]
  exact one_add_small c

/-- The encodings of those numbers. -/
theorem table_at (d c : Fin 32) : (read V (Proc.devRef .tc main_v53) (ix2 d c) : EReal)
    = Spec.freqEnc (c.val + 1) d := by
  unfold read
  after_reads_simp [pair_eq, StableHlo.TRef.toBuf, StableHlo.TRef.ofBuf, cast_eq]
  pointwise [pair]
  rw [one_add_small]
  rfl

/-- Which row a column is of, down the columns. -/
theorem rows_at (p : Fin 2560) (q : Fin 80) : (read V (Proc.devRef .tc main_v76) (ix2 p q) : EReal)
    = if p.val / 32 = q.val then (1 : EReal) else (0 : EReal) := by
  unfold read
  after_reads_simp [pair_eq, StableHlo.TRef.toBuf, StableHlo.TRef.ofBuf, cast_eq]
  pointwise [pair]
  rw [div_col, eq_bit _ _ (by omega) (by omega)]

/-- Which row a column is of, along the columns. -/
theorem rowsT_at (q : Fin 80) (p : Fin 2560) : (read V (Proc.devRef .tc main_v77) (ix2 q p) : EReal)
    = if p.val / 32 = q.val then (1 : EReal) else (0 : EReal) := by
  unfold read
  after_reads_simp [pair_eq, StableHlo.TRef.toBuf, StableHlo.TRef.ofBuf, cast_eq]
  pointwise [pair]
  rw [div_col, eq_bit _ _ (by omega) (by omega)]

/-- Which lane a column is. -/
theorem lane_at (p : Fin 2560) (l : Fin 32) : (read V (Proc.devRef .tc main_v82) (ix2 p l) : EReal)
    = (((p.val % 32 : ℕ) : ℝ) : EReal) := by
  unfold read
  after_reads_simp [pair_eq, StableHlo.TRef.toBuf, StableHlo.TRef.ofBuf, cast_eq]
  pointwise [pair]
  rw [rem_col]
  exact Rows.sitofp_small ⟨p.val % 32, by omega⟩

/-- Whether a column is of a lane. -/
theorem lanes_at (p : Fin 2560) (l : Fin 32) : (read V (Proc.devRef .tc main_v91) (ix2 p l) : EReal)
    = if p.val % 32 = l.val then (1 : EReal) else (0 : EReal) := by
  unfold read
  after_reads_simp [pair_eq, StableHlo.TRef.toBuf, StableHlo.TRef.ofBuf, cast_eq]
  pointwise [pair]
  rw [rem_col, eq_bit _ _ (by omega) (by omega)]

/-- The nodes' times, lane after lane. -/
theorem time_at (p : Fin 320000) : (read V (Proc.devRef .tc main_v94) (ix2 0 p) : EReal)
    = (V (Proc.devRef .tc main_arg3) (ix1 (⟨p.val / 32, by omega⟩ : Fin 10000)) : EReal) := by
  unfold read
  after_reads_simp [pair_eq, StableHlo.TRef.toBuf, StableHlo.TRef.ofBuf, cast_eq]
  pointwise [pair]

/-- The neighbours' times, lane after lane. -/
theorem stamp_at (p : Fin 320000) : (read V (Proc.devRef .tc main_v95) (ix2 0 p) : EReal)
    = (V (Proc.devRef .tc main_arg4) (ix2 (⟨p.val / 32, by omega⟩ : Fin 10000) (⟨p.val % 32, by omega⟩ : Fin 32)) : EReal) := by
  unfold read
  after_reads_simp [pair_eq, StableHlo.TRef.toBuf, StableHlo.TRef.ofBuf, cast_eq]
  pointwise [pair]

/-- The neighbours' numbers, lane after lane. -/
theorem id_at (p : Fin 320000) : (read V (Proc.devRef .tc main_v97) (ix2 0 p) : EReal)
    = FloatOps.sitofp (F := Ideal) .f32 ((V (Proc.devRef .tc main_arg5) (ix2 (⟨p.val / 32, by omega⟩ : Fin 10000) (⟨p.val % 32, by omega⟩ : Fin 32)) : BitVec 32)) := by
  unfold read
  after_reads_simp [pair_eq, StableHlo.TRef.toBuf, StableHlo.TRef.ofBuf, cast_eq]
  pointwise [pair]

/-- The neighbours' numbers, a block of 80 nodes turned over. -/
theorem idT_at (t : Fin 125) (b : Fin 32) (r : Fin 80) : (read V (Proc.devRef .tc main_v100) (ix3 t b r) : EReal)
    = FloatOps.sitofp (F := Ideal) .f32 ((V (Proc.devRef .tc main_arg5) (ix2 (⟨t.val * 80 + r.val, by omega⟩ : Fin 10000) b) : BitVec 32)) := by
  unfold read
  after_reads_simp [pair_eq, StableHlo.TRef.toBuf, StableHlo.TRef.ofBuf, cast_eq]
  pointwise [pair]

/-- The query bias, with the two parts of the query that no input changes. -/
theorem queryBias_at (h : Fin 64) : (read V (Proc.devRef .tc main_v33) (ix2 0 h) : EReal)
    = ∑ f : Fin 32, Ideal.cos (0 * Spec.freq f) * (V (Proc.devRef .tc main_arg10) (ix2 (⟨32 + f.val, by omega⟩ : Fin 96) h) : EReal)
      + ∑ f : Fin 32, Ideal.cos (Spec.freq f) * (V (Proc.devRef .tc main_arg10) (ix2 (⟨64 + f.val, by omega⟩ : Fin 96) h) : EReal)
      + (V (Proc.devRef .tc main_arg11) (ix1 h) : EReal) := by
  simp only [← freq_at V]
  unfold read
  after_reads_simp [pair_eq, StableHlo.TRef.toBuf, StableHlo.TRef.ofBuf, cast_eq]
  pointwise []

end Cert.KernelIdeal.HostRead

end
-- ==== Proof.Value.Place.lean ====
/- Where the entries of the kernel's blocks lie in their arrays: point `t` of 125 holds the data of nodes `80 t` to `80 t + 79`, and
   the weights and tables whole. -/
module

public import proofs.«01_k».proof.Proof.Value.Out

@[expose] public section

set_option maxRecDepth 20000
set_option maxHeartbeats 4000000

noncomputable section

namespace Cert.KernelIdeal.Place

open Cert.KernelIdeal Cert.KernelIdeal.Gen Cert.KernelIdeal.Whole Idealize.ShloMosaic Idealize.ShloMosaic.TcCoe Idealize.SL.Sem
  Cert.OneHot

/-- The node at row `r` of point `t`. -/
def node (t : Fin cfg0.N) (r : Fin 80) : Fin 10000 := ⟨t.val * 80 + r.val, by have h : t.val < 125 := t.isLt; omega⟩

/-! ## Which block each window takes at a point -/

theorem at0 : ∀ t : Fin cfg0.N, win0_0.index t = ![t.val, 0] := (by decide +kernel : ∀ t : Fin grid0.N, win0_0.index t = ![t.val, 0])
theorem at1 : ∀ t : Fin cfg0.N, win0_1.index t = ![t.val, 0, 0] := (by decide +kernel : ∀ t : Fin grid0.N, win0_1.index t = ![t.val, 0, 0])
theorem at2 : ∀ t : Fin cfg0.N, win0_2.index t = ![t.val, 0, 0] := (by decide +kernel : ∀ t : Fin grid0.N, win0_2.index t = ![t.val, 0, 0])
theorem at7 : ∀ t : Fin cfg0.N, win0_7.index t = ![t.val, 0] := (by decide +kernel : ∀ t : Fin grid0.N, win0_7.index t = ![t.val, 0])
theorem at28 : ∀ t : Fin cfg0.N, win0_28.index t = ![t.val, 0] := (by decide +kernel : ∀ t : Fin grid0.N, win0_28.index t = ![t.val, 0])
theorem at29 : ∀ t : Fin cfg0.N, win0_29.index t = ![t.val, 0] := (by decide +kernel : ∀ t : Fin grid0.N, win0_29.index t = ![t.val, 0])
theorem at3 : ∀ t : Fin cfg0.N, win0_3.index t = ![0, t.val] := (by decide +kernel : ∀ t : Fin grid0.N, win0_3.index t = ![0, t.val])
theorem at4 : ∀ t : Fin cfg0.N, win0_4.index t = ![0, t.val] := (by decide +kernel : ∀ t : Fin grid0.N, win0_4.index t = ![0, t.val])
theorem at5 : ∀ t : Fin cfg0.N, win0_5.index t = ![0, t.val] := (by decide +kernel : ∀ t : Fin grid0.N, win0_5.index t = ![0, t.val])
theorem at6 : ∀ t : Fin cfg0.N, win0_6.index t = ![t.val, 0, 0] := (by decide +kernel : ∀ t : Fin grid0.N, win0_6.index t = ![t.val, 0, 0])
theorem at8 (t : Fin cfg0.N) : win0_8.index t = ![0, 0] := rfl
theorem at9 (t : Fin cfg0.N) : win0_9.index t = ![0, 0] := rfl
theorem at10 (t : Fin cfg0.N) : win0_10.index t = ![0, 0] := rfl
theorem at11 (t : Fin cfg0.N) : win0_11.index t = ![0, 0] := rfl
theorem at12 (t : Fin cfg0.N) : win0_12.index t = ![0, 0] := rfl
theorem at13 (t : Fin cfg0.N) : win0_13.index t = ![0, 0] := rfl
theorem at14 (t : Fin cfg0.N) : win0_14.index t = ![0, 0] := rfl
theorem at15 (t : Fin cfg0.N) : win0_15.index t = ![0, 0] := rfl
theorem at16 (t : Fin cfg0.N) : win0_16.index t = ![0, 0] := rfl
theorem at17 (t : Fin cfg0.N) : win0_17.index t = ![0, 0] := rfl
theorem at18 (t : Fin cfg0.N) : win0_18.index t = ![0, 0] := rfl
theorem at19 (t : Fin cfg0.N) : win0_19.index t = ![0, 0] := rfl
theorem at20 (t : Fin cfg0.N) : win0_20.index t = ![0, 0] := rfl
theorem at21 (t : Fin cfg0.N) : win0_21.index t = ![0, 0] := rfl
theorem at22 (t : Fin cfg0.N) : win0_22.index t = ![0, 0] := rfl
theorem at23 (t : Fin cfg0.N) : win0_23.index t = ![0, 0] := rfl
theorem at24 (t : Fin cfg0.N) : win0_24.index t = ![0, 0] := rfl
theorem at25 (t : Fin cfg0.N) : win0_25.index t = ![0, 0] := rfl
theorem at26 (t : Fin cfg0.N) : win0_26.index t = ![0, 0] := rfl
theorem at27 (t : Fin cfg0.N) : win0_27.index t = ![0, 0] := rfl

/-! ## Where an entry of a block lies -/

variable (t : Fin cfg0.N)

theorem place0 (r : Fin 80) (l : Fin 128) : ((cfg0.win 0).blk t).view.emb (ix2 r l) = ix2 (node t r) l := by blk_ext [at0, node]
theorem place1 (r : Fin 80) (b : Fin 32) (l : Fin 128) : ((cfg0.win 1).blk t).view.emb (ix3 r b l) = ix3 (node t r) b l := by blk_ext [at1, node]
theorem place2 (r : Fin 80) (b : Fin 32) (l : Fin 16) : ((cfg0.win 2).blk t).view.emb (ix3 r b l) = ix3 (node t r) b l := by blk_ext [at2, node]
theorem place3 (p : Fin 2560) : ((cfg0.win 3).blk t).view.emb (ix2 0 p) = ix2 0 ⟨t.val * 2560 + p.val, by have h : t.val < 125 := t.isLt; omega⟩ := by blk_ext [at3]
theorem place4 (p : Fin 2560) : ((cfg0.win 4).blk t).view.emb (ix2 0 p) = ix2 0 ⟨t.val * 2560 + p.val, by have h : t.val < 125 := t.isLt; omega⟩ := by blk_ext [at4]
theorem place5 (p : Fin 2560) : ((cfg0.win 5).blk t).view.emb (ix2 0 p) = ix2 0 ⟨t.val * 2560 + p.val, by have h : t.val < 125 := t.isLt; omega⟩ := by blk_ext [at5]
theorem place6 (b : Fin 32) (r : Fin 80) : ((cfg0.win 6).blk t).view.emb (ix3 0 b r) = ix3 (⟨t.val, t.isLt⟩ : Fin 125) b r := by blk_ext [at6]
theorem place7 (r : Fin 80) (l : Fin 32) : ((cfg0.win 7).blk t).view.emb (ix2 r l) = ix2 (node t r) l := by blk_ext [at7, node]
theorem place28 (r : Fin 80) (l : Fin 32) : ((cfg0.win 28).blk t).view.emb (ix2 r l) = ix2 (node t r) l := by blk_ext [at28, node]
theorem place29 (r : Fin 80) (l : Fin 16) : ((cfg0.win 29).blk t).view.emb (ix2 r l) = ix2 (node t r) l := by blk_ext [at29, node]
theorem place8 (x : Fin 32) (y : Fin 128) : ((cfg0.win 8).blk t).view.emb (ix2 x y) = ix2 x y := by blk_ext [at8]
theorem place9 (x : Fin 32) (y : Fin 80) : ((cfg0.win 9).blk t).view.emb (ix2 x y) = ix2 x y := by blk_ext [at9]
theorem place10 (x : Fin 32) (y : Fin 2560) : ((cfg0.win 10).blk t).view.emb (ix2 x y) = ix2 x y := by blk_ext [at10]
theorem place11 (x : Fin 32) (y : Fin 16) : ((cfg0.win 11).blk t).view.emb (ix2 x y) = ix2 x y := by blk_ext [at11]
theorem place12 (x : Fin 32) (y : Fin 2560) : ((cfg0.win 12).blk t).view.emb (ix2 x y) = ix2 x y := by blk_ext [at12]
theorem place13 (x : Fin 32) (y : Fin 64) : ((cfg0.win 13).blk t).view.emb (ix2 x y) = ix2 x y := by blk_ext [at13]
theorem place14 (x : Fin 1) (y : Fin 64) : ((cfg0.win 14).blk t).view.emb (ix2 x y) = ix2 x y := by blk_ext [at14]
theorem place15 (x : Fin 32) (y : Fin 64) : ((cfg0.win 15).blk t).view.emb (ix2 x y) = ix2 x y := by blk_ext [at15]
theorem place16 (x : Fin 32) (y : Fin 64) : ((cfg0.win 16).blk t).view.emb (ix2 x y) = ix2 x y := by blk_ext [at16]
theorem place17 (x : Fin 32) (y : Fin 64) : ((cfg0.win 17).blk t).view.emb (ix2 x y) = ix2 x y := by blk_ext [at17]
theorem place18 (x : Fin 32) (y : Fin 64) : ((cfg0.win 18).blk t).view.emb (ix2 x y) = ix2 x y := by blk_ext [at18]
theorem place19 (x : Fin 32) (y : Fin 64) : ((cfg0.win 19).blk t).view.emb (ix2 x y) = ix2 x y := by blk_ext [at19]
theorem place20 (x : Fin 1) (y : Fin 64) : ((cfg0.win 20).blk t).view.emb (ix2 x y) = ix2 x y := by blk_ext [at20]
theorem place21 (x : Fin 32) (y : Fin 2560) : ((cfg0.win 21).blk t).view.emb (ix2 x y) = ix2 x y := by blk_ext [at21]
theorem place22 (x : Fin 32) (y : Fin 2560) : ((cfg0.win 22).blk t).view.emb (ix2 x y) = ix2 x y := by blk_ext [at22]
theorem place23 (x : Fin 32) (y : Fin 32) : ((cfg0.win 23).blk t).view.emb (ix2 x y) = ix2 x y := by blk_ext [at23]
theorem place24 (x : Fin 2560) (y : Fin 80) : ((cfg0.win 24).blk t).view.emb (ix2 x y) = ix2 x y := by blk_ext [at24]
theorem place25 (x : Fin 80) (y : Fin 2560) : ((cfg0.win 25).blk t).view.emb (ix2 x y) = ix2 x y := by blk_ext [at25]
theorem place26 (x : Fin 2560) (y : Fin 32) : ((cfg0.win 26).blk t).view.emb (ix2 x y) = ix2 x y := by blk_ext [at26]
theorem place27 (x : Fin 2560) (y : Fin 32) : ((cfg0.win 27).blk t).view.emb (ix2 x y) = ix2 x y := by blk_ext [at27]

end Cert.KernelIdeal.Place

end
-- ==== Proof.Value.Args.lean ====
/- The weights and the nodes' data, read off the program's arguments. -/
module

public import proofs.«01_k».proof.Proof.Value.Spec
public import Idealize.ShloMosaic.Lib.Pointwise

@[expose] public section

noncomputable section

namespace Cert.Spec

open Idealize.ShloMosaic

/-- The weights. -/
def weights (node : Vec Ideal ⟨2, ![128, 32]⟩ .f32) (nodeBias : Vec Ideal ⟨1, ![32]⟩ .f32) (edge : Vec Ideal ⟨2, ![16, 32]⟩ .f32)
    (edgeBias : Vec Ideal ⟨1, ![32]⟩ .f32) (query : Vec Ideal ⟨2, ![96, 64]⟩ .f32) (queryBias : Vec Ideal ⟨1, ![64]⟩ .f32)
    (key : Vec Ideal ⟨2, ![160, 64]⟩ .f32) (keyBias : Vec Ideal ⟨1, ![64]⟩ .f32) : Weights where
  node l f := node (ix2 l f)
  nodeBias f := nodeBias (ix1 f)
  edge l f := edge (ix2 l f)
  edgeBias f := edgeBias (ix1 f)
  query l h := query (ix2 l h)
  queryBias h := queryBias (ix1 h)
  key l h := key (ix2 l h)
  keyBias h := keyBias (ix1 h)

/-- One node's data. -/
def row (root : Vec Ideal ⟨2, ![10000, 128]⟩ .f32) (nbr : Vec Ideal ⟨3, ![10000, 32, 128]⟩ .f32)
    (edge : Vec Ideal ⟨3, ![10000, 32, 16]⟩ .f32) (time : Vec Ideal ⟨1, ![10000]⟩ .f32)
    (stamp : Vec Ideal ⟨2, ![10000, 32]⟩ .f32) (id : Vec Ideal ⟨2, ![10000, 32]⟩ .i32) (n : Fin 10000) : Row where
  root l := root (ix2 n l)
  nbr b l := nbr (ix3 n b l)
  edge b l := edge (ix3 n b l)
  time := time (ix1 n)
  stamp b := stamp (ix2 n b)
  id b := id (ix2 n b)

end Cert.Spec

end
-- ==== Proof.Value.Blk.lean ====
/- The kernel's input blocks at a grid point, as `Rows` asks them: point `t` of 125 holds the data of nodes `80 t` to `80 t + 79`, and
   the weights and tables whole. -/
module

public import proofs.«01_k».proof.Proof.Value.Host
public import proofs.«01_k».proof.Proof.Value.Place
public import proofs.«01_k».proof.Proof.Value.Args

@[expose] public section

set_option maxRecDepth 20000
set_option maxHeartbeats 1000000

noncomputable section

namespace Cert.KernelIdeal.Blk

open Cert.KernelIdeal Cert.KernelIdeal.Gen Idealize.ShloMosaic Idealize.ShloMosaic.TcCoe Idealize.SL.Sem
  Cert.OneHot Cert.KernelIdeal.HostRead Cert.KernelIdeal.Place

/-- The columns of point `t`'s blocks, among all columns. -/
theorem col_row (t : Fin cfg0.N) (r : Fin 80) (b : Fin 32) (h h') :
    (⟨(⟨t.val * 2560 + (col r b).val, h⟩ : Fin 320000).val / 32, h'⟩ : Fin 10000) = node t r := by
  ext; simp only [node, col]; omega

theorem col_lane (t : Fin cfg0.N) (r : Fin 80) (b : Fin 32) (h h') :
    (⟨(⟨t.val * 2560 + (col r b).val, h⟩ : Fin 320000).val % 32, h'⟩ : Fin 32) = b := by
  ext; simp only [col]; omega

/-- A column's row is `q` exactly when it is a column of row `q`. -/
theorem is_row (r : Fin 80) (b : Fin 32) (q : Fin 80) :
    (if (col r b).val / 32 = q.val then (1 : EReal) else (0 : EReal)) = if q = r then 1 else 0 := by
  refine if_congr ?_ rfl rfl
  simp only [col, Fin.ext_iff]; omega

/-- A column's lane. -/
theorem lane_col (r : Fin 80) (b : Fin 32) : (col r b).val % 32 = b.val := by
  simp only [col]; omega

theorem is_lane (r : Fin 80) (b l : Fin 32) :
    (if (col r b).val % 32 = l.val then (1 : EReal) else (0 : EReal)) = if l = b then 1 else 0 := by
  rw [lane_col]
  refine if_congr ?_ rfl rfl
  rw [Fin.ext_iff, eq_comm]

variable (V : Valuation τ sig (Elt Ideal))

/-- The weights among the arguments. -/
def weights : Spec.Weights :=
  Spec.weights (V (Proc.devRef .tc main_arg6)) (V (Proc.devRef .tc main_arg7)) (V (Proc.devRef .tc main_arg8))
    (V (Proc.devRef .tc main_arg9)) (V (Proc.devRef .tc main_arg10)) (V (Proc.devRef .tc main_arg11))
    (V (Proc.devRef .tc main_arg12)) (V (Proc.devRef .tc main_arg13))

/-- A node's data among the arguments. -/
def row (n : Fin 10000) : Spec.Row :=
  Spec.row (V (Proc.devRef .tc main_arg0)) (V (Proc.devRef .tc main_arg1)) (V (Proc.devRef .tc main_arg2))
    (V (Proc.devRef .tc main_arg3)) (V (Proc.devRef .tc main_arg4)) (V (Proc.devRef .tc main_arg5)) n

/-- The noise the host program draws for a node. -/
def noise (n : Fin 10000) (b : Fin 32) : EReal := read V (Proc.devRef .tc main_v113) (ix2 n b)

variable (c : Dev nD) (U : (b : Ref sig .tc) → Buf (Elt Ideal) ((c : Thread nD τ).loc b))

/-- A window's block at a point, of arrays `U`. -/
abbrev blk (w : Fin cfg0.W) (t : Fin cfg0.N) : ((cfg0.win w).xblock (cfg0.grid.coords t)).Idx → Elt Ideal (cfg0.win w).elt :=
  ((cfg0.win w).blk t).view.read (Elt Ideal) (U (Pipeline.arrRef spec0 w))

/-- The 28 input blocks of a point hold what `Rows.Block` asks, when `U` is what the host program leaves. -/
theorem block (t : Fin cfg0.N) (hU : ∀ b, U b = read V (Proc.devRef .tc b)) (h0 : U main_arg0 = V (Proc.devRef .tc main_arg0))
    (h1 : U main_arg1 = V (Proc.devRef .tc main_arg1)) (h2 : U main_arg2 = V (Proc.devRef .tc main_arg2)) :
    Rows.Block (weights V) (fun r => row V (node t r)) (fun r => noise V (node t r))
    (blk c U 0 t) (blk c U 1 t) (blk c U 2 t) (blk c U 3 t) (blk c U 4 t) (blk c U 5 t) (blk c U 6 t)
    (blk c U 7 t) (blk c U 8 t) (blk c U 9 t) (blk c U 10 t) (blk c U 11 t) (blk c U 12 t) (blk c U 13 t)
    (blk c U 14 t) (blk c U 15 t) (blk c U 16 t) (blk c U 17 t) (blk c U 18 t) (blk c U 19 t) (blk c U 20 t)
    (blk c U 21 t) (blk c U 22 t) (blk c U 23 t) (blk c U 24 t) (blk c U 25 t) (blk c U 26 t) (blk c U 27 t) where
  h0 r l := (congrArg (U main_arg0) (place0 t r l)).trans (congrFun h0 _)
  h1 r b l := (congrArg (U main_arg1) (place1 t r b l)).trans (congrFun h1 _)
  h2 r b l := (congrArg (U main_arg2) (place2 t r b l)).trans (congrFun h2 _)
  h3 r b := (congrArg (U main_v94) (place3 t _)).trans ((congrFun (hU main_v94) _).trans ((time_at V _).trans (by rw [col_row]; rfl)))
  h4 r b := (congrArg (U main_v95) (place4 t _)).trans ((congrFun (hU main_v95) _).trans ((stamp_at V _).trans (by rw [col_row, col_lane]; rfl)))
  h5 r b := (congrArg (U main_v97) (place5 t _)).trans ((congrFun (hU main_v97) _).trans ((id_at V _).trans (by rw [col_row, col_lane]; rfl)))
  h6 r b := (congrArg (U main_v100) (place6 t b r)).trans ((congrFun (hU main_v100) _).trans (idT_at V _ _ _))
  h7 r b := (congrArg (U main_v113) (place7 t r b)).trans ((congrFun (hU main_v113) _).trans rfl)
  h8 f l := (congrArg (U main_v45) (place8 t f l)).trans ((congrFun (hU main_v45) _).trans (node_at V _ _))
  h9 f r := (congrArg (U main_v55) (place9 t f r)).trans ((congrFun (hU main_v55) _).trans (nodeBias_at V _ _))
  h10 f p := (congrArg (U main_v57) (place10 t f p)).trans ((congrFun (hU main_v57) _).trans (nbrBias_at V _ _))
  h11 f l := (congrArg (U main_v46) (place11 t f l)).trans ((congrFun (hU main_v46) _).trans (edge_at V _ _))
  h12 f p := (congrArg (U main_v59) (place12 t f p)).trans ((congrFun (hU main_v59) _).trans (edgeBias_at V _ _))
  h13 f h := (congrArg (U main_v47) (place13 t f h)).trans ((congrFun (hU main_v47) _).trans (query_at V _ _))
  h14 h := (congrArg (U main_v33) (place14 t 0 h)).trans ((congrFun (hU main_v33) _).trans (queryBias_at V _))
  h15 f h := (congrArg (U main_v48) (place15 t f h)).trans ((congrFun (hU main_v48) _).trans (key0_at V _ _))
  h16 f h := (congrArg (U main_v49) (place16 t f h)).trans ((congrFun (hU main_v49) _).trans (key1_at V _ _))
  h17 f h := (congrArg (U main_v50) (place17 t f h)).trans ((congrFun (hU main_v50) _).trans (key2_at V _ _))
  h18 f h := (congrArg (U main_v51) (place18 t f h)).trans ((congrFun (hU main_v51) _).trans (key3_at V _ _))
  h19 f h := (congrArg (U main_v52) (place19 t f h)).trans ((congrFun (hU main_v52) _).trans (key4_at V _ _))
  h20 h := (congrArg (U main_v114) (place20 t 0 h)).trans ((congrFun (hU main_v114) _).trans (keyBias_at V _))
  h21 f p := (congrArg (U main_v61) (place21 t f p)).trans ((congrFun (hU main_v61) _).trans (freqs_at V _ _))
  h22 f p := (congrArg (U main_v66) (place22 t f p)).trans ((congrFun (hU main_v66) _).trans (counts_at V _ _))
  h23 d f := (congrArg (U main_v53) (place23 t d f)).trans ((congrFun (hU main_v53) _).trans (table_at V _ _))
  h24 r b q := (congrArg (U main_v76) (place24 t _ q)).trans ((congrFun (hU main_v76) _).trans ((rows_at V _ _).trans (is_row r b q)))
  h25 r b q := (congrArg (U main_v77) (place25 t q _)).trans ((congrFun (hU main_v77) _).trans ((rowsT_at V _ _).trans (is_row r b q)))
  h26 r b l := (congrArg (U main_v82) (place26 t _ l)).trans ((congrFun (hU main_v82) _).trans ((lane_at V _ _).trans (by rw [lane_col])))
  h27 r b l := (congrArg (U main_v91) (place27 t _ l)).trans ((congrFun (hU main_v91) _).trans ((lanes_at V _ _).trans (is_lane r b l)))

end Cert.KernelIdeal.Blk

end
-- ==== Proof.Value.Final.lean ====
/- The two arrays the kernel leaves, entry by entry. -/
module

public import proofs.«01_k».proof.Proof.Value.Blk

@[expose] public section

set_option maxRecDepth 20000
set_option maxHeartbeats 1000000

noncomputable section

namespace Cert.KernelIdeal.Final

open Cert.KernelIdeal Cert.KernelIdeal.Gen Cert.KernelIdeal.Whole Idealize.ShloMosaic Idealize.ShloMosaic.TcCoe Idealize.SL.Sem
  Cert.KernelIdeal.Place Cert.KernelIdeal.Blk

variable (m : (ℓ : Loc nD τ sig) → Buf (Elt Ideal) ℓ) (c : Dev nD)

/-- What one device starts from. -/
abbrev start : Valuation τ sig (Elt Ideal) := fun b => m (c, b)

/-- The blocks of the launched program hold what `Rows.Block` asks. -/
theorem block (t : Fin cfg0.N) : Rows.Block (weights (start m c)) (fun r => row (start m c) (node t r))
    (fun r => noise (start m c) (node t r))
    (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t)
    (iblk m c 14 t) (iblk m c 15 t) (iblk m c 16 t) (iblk m c 17 t) (iblk m c 18 t) (iblk m c 19 t) (iblk m c 20 t)
    (iblk m c 21 t) (iblk m c 22 t) (iblk m c 23 t) (iblk m c 24 t) (iblk m c 25 t) (iblk m c 26 t) (iblk m c 27 t) :=
  Blk.block (start m c) c (V m c) t (fun _ => rfl) (V_main_arg0 m c) (V_main_arg1 m c) (V_main_arg2 m c)

/-- The point and the row of a node. -/
theorem node_eq (n : Fin 10000) : ∃ (t : Fin cfg0.N) (r : Fin 80), node t r = n :=
  ⟨⟨n.val / 80, by show n.val / 80 < 125; omega⟩, ⟨n.val % 80, by omega⟩, by ext; simp only [node]; omega⟩

theorem flush28 : ∀ t : Fin cfg0.N, (cfg0.win 28).flush t = true := (by decide +kernel : ∀ t : Fin grid0.N, win0_28.flush t = true)
theorem flush29 : ∀ t : Fin cfg0.N, (cfg0.win 29).flush t = true := (by decide +kernel : ∀ t : Fin grid0.N, win0_29.flush t = true)

/-- An entry of the array read through a block. -/
theorem read28 (X : Vec Ideal S10000x32 .f32) (Y : Vec Ideal S80x32 .f32) (t : Fin cfg0.N)
    (h : ((cfg0.win 28).blk t).view.read (Elt Ideal) X = (cfg0.win 28).cut (grid0.coords t) Y) (r : Fin 80) (b : Fin 32) :
    X (ix2 (node t r) b) = Y (ix2 r b) :=
  (congrArg X (place28 t r b)).symm.trans (congrFun h (ix2 r b))

theorem read29 (X : Vec Ideal S10000x16 .i32) (Y : Vec Ideal S80x16 .i32) (t : Fin cfg0.N)
    (h : ((cfg0.win 29).blk t).view.read (Elt Ideal) X = (cfg0.win 29).cut (grid0.coords t) Y) (r : Fin 80) (s : Fin 16) :
    X (ix2 (node t r) s) = Y (ix2 r s) :=
  (congrArg X (place29 t r s)).symm.trans (congrFun h (ix2 r s))

/-- The first array: the probabilities. -/
theorem prob (n : Fin 10000) (b : Fin 32) : ((dats m 0 c).arrAt 28 cfg0.N : Vec Ideal S10000x32 .f32) (ix2 n b)
    = Spec.prob (weights (start m c)) (row (start m c) n) b := by
  obtain ⟨t, r, rfl⟩ := node_eq n
  exact (read28 _ _ t ((blocks28 m c t (flush28 t)).trans (flushed28 m c t)) r b).trans (Rows.out_prob (block m c t) r b)

/-- The second: the neighbours chosen. -/
theorem action (n : Fin 10000) (s : Fin 16) : ((dats m 0 c).arrAt 29 cfg0.N : Vec Ideal S10000x16 .i32) (ix2 n s)
    = Spec.action (weights (start m c)) (row (start m c) n) (noise (start m c) n) s := by
  obtain ⟨t, r, rfl⟩ := node_eq n
  exact (read29 _ _ t ((blocks29 m c t (flush29 t)).trans (flushed29 m c t)) r s).trans (Rows.out_action (block m c t) r s)

end Cert.KernelIdeal.Final

end
-- ==== Proof.Value.RefRead.lean ====
/- What the reference computes, entry by entry: the groups of features, the query and the keys. -/
module

public import proofs.«01_k».proof.Proof.Ref.Run
public import proofs.«01_k».proof.Proof.Gumbel.Pair
public import proofs.«01_k».proof.Proof.Value.Args
public import Idealize.ShloMosaic.Lib.StableHlo.RunRead
public import Idealize.ShloMosaic.Lib.IndicatorCount

@[expose] public section

set_option maxRecDepth 20000
set_option maxHeartbeats 4000000

noncomputable section

namespace Cert.ReferenceIdeal.Value

open Cert.ReferenceIdeal Cert.ReferenceIdeal.Hand Idealize.ShloMosaic Idealize.ShloMosaic.TcCoe Idealize.SL.Sem Cert.Gumbel Cert.Line

/-- Three arrays of one shape joined along an axis. -/
def cat3 {α : Type} (t : Shape) (ax : Fin t.rank) (s : Shape) (h : Shape.Concatenates [s, s, s] t ax)
    (a b c : s.Idx → α) : t.Idx → α :=
  concatenate t ax [⟨s, a⟩, ⟨s, b⟩, ⟨s, c⟩] h

theorem cat3_eq {α : Type} (t : Shape) (ax : Fin t.rank) (s : Shape) (h : Shape.Concatenates [s, s, s] t ax)
    (a b c : s.Idx → α) : concatenate t ax [⟨s, a⟩, ⟨s, b⟩, ⟨s, c⟩] h = cat3 t ax s h a b c := rfl

/-- Five arrays of one shape joined along an axis. -/
def cat5 {α : Type} (t : Shape) (ax : Fin t.rank) (s : Shape) (h : Shape.Concatenates [s, s, s, s, s] t ax)
    (a b c d e : s.Idx → α) : t.Idx → α :=
  concatenate t ax [⟨s, a⟩, ⟨s, b⟩, ⟨s, c⟩, ⟨s, d⟩, ⟨s, e⟩] h

theorem cat5_eq {α : Type} (t : Shape) (ax : Fin t.rank) (s : Shape) (h : Shape.Concatenates [s, s, s, s, s] t ax)
    (a b c d e : s.Idx → α) : concatenate t ax [⟨s, a⟩, ⟨s, b⟩, ⟨s, c⟩, ⟨s, d⟩, ⟨s, e⟩] h = cat5 t ax s h a b c d e := rfl

/-- The row of a neighbour among all neighbours of all nodes. -/
def line (n : Fin 10000) (b : Fin 32) : Fin 320000 := ⟨n.val * 32 + b.val, by omega⟩

theorem line_div (n : Fin 10000) (b : Fin 32) (h) : (⟨(line n b).val / 32, h⟩ : Fin 10000) = n := by
  ext; simp only [line]; omega

theorem line_mod (n : Fin 10000) (b : Fin 32) (h) : (⟨(line n b).val % 32, h⟩ : Fin 32) = b := by
  ext; simp only [line]; omega

variable (V : Valuation τ sig (Elt Ideal)) (d : Dev nD)

/-- What the reference leaves in each buffer. -/
def read : Valuation τ sig (Elt Ideal) := StableHlo.after (mainLine d).ops V

/-- The weights among the arguments. -/
def weights : Spec.Weights :=
  Spec.weights (V (Proc.devRef .tc main_arg6)) (V (Proc.devRef .tc main_arg7)) (V (Proc.devRef .tc main_arg8))
    (V (Proc.devRef .tc main_arg9)) (V (Proc.devRef .tc main_arg10)) (V (Proc.devRef .tc main_arg11))
    (V (Proc.devRef .tc main_arg12)) (V (Proc.devRef .tc main_arg13))

/-- A node's data among the arguments. -/
def row (n : Fin 10000) : Spec.Row :=
  Spec.row (V (Proc.devRef .tc main_arg0)) (V (Proc.devRef .tc main_arg1)) (V (Proc.devRef .tc main_arg2))
    (V (Proc.devRef .tc main_arg3)) (V (Proc.devRef .tc main_arg4)) (V (Proc.devRef .tc main_arg5)) n

/-- The noise the reference draws for a node. -/
def noise (n : Fin 10000) (b : Fin 32) : EReal := read V d (Proc.devRef .tc main_v119) (ix2 n b)

/-- The bit that says whether two words are equal, as a number. -/
theorem eq_bit (x y : BitVec 32) : FloatOps.uitofp (F := Ideal) .f32 (IntOp.cmpi .eq x y) = if x = y then (1 : EReal) else 0 := by
  show (((BitVec.ofBool (x == y)).toNat : ℝ) : EReal) = _
  by_cases h : x = y <;> simp [h]

/-- A count of equal words, as the reference takes it. -/
theorem count_bits (x : BitVec 32) (y : Fin 32 → BitVec 32) :
    FloatOps.sitofp (F := Ideal) .f32 (Finset.univ.fold IntOp.addi 0#32 fun j => (IntOp.cmpi .eq x (y j)).setWidth 32)
      = (((Finset.univ.filter fun j => x = y j).card : ℝ) : EReal) := by
  rw [IndicatorCount.fold_addi_setWidth_eq_card]
  have e : (Finset.univ.filter fun j => IntOp.cmpi .eq x (y j) = 1#1) = Finset.univ.filter fun j => x = y j := by
    refine Finset.filter_congr fun j _ => ?_
    show BitVec.ofBool (x == y j) = 1#1 ↔ _
    by_cases h : x = y j
    · simp [h]
    · rw [beq_eq_false_iff_ne.mpr h]; simp [h]
  rw [e]
  have hl : (Finset.univ.filter fun j => x = y j).card ≤ 32 := (Finset.card_le_univ _).trans (by simp)
  show (((BitVec.ofNat 32 _).toInt : ℝ) : EReal) = _
  rw [BitVec.toInt_eq_toNat_of_lt (by rw [BitVec.toNat_ofNat]; omega), BitVec.toNat_ofNat, Nat.mod_eq_of_lt (by omega),
    Int.cast_natCast]

/-- The nodes' features. -/
theorem root_at (n : Fin 10000) (f : Fin 32) : (read V d (Proc.devRef .tc main_v4) (ix2 n f) : EReal)
    = Spec.rootFeat (weights V) (row V n) f := by
  unfold read
  after_reads_simp [pair_eq, StableHlo.TRef.toBuf, StableHlo.TRef.ofBuf, cast_eq]
  pointwise [pair]
  rfl

/-- The encoding of time 0. -/
theorem zero_at (n : Fin 10000) (f : Fin 32) : (read V d (Proc.devRef .tc main_v16) (ix2 n f) : EReal)
    = Ideal.cos (0 * Spec.freq f) := by
  unfold read
  after_reads_simp [pair_eq, StableHlo.TRef.toBuf, StableHlo.TRef.ofBuf, cast_eq]
  pointwise [pair]
  rfl

/-- The encoding of frequency 1. -/
theorem one_at (n : Fin 10000) (f : Fin 32) : (read V d (Proc.devRef .tc main_v28) (ix2 n f) : EReal)
    = Ideal.cos (Spec.freq f) := by
  unfold read
  after_reads_simp [pair_eq, StableHlo.TRef.toBuf, StableHlo.TRef.ofBuf, cast_eq]
  pointwise [pair]
  rfl

/-- The neighbours' features. -/
theorem nbr_at (n : Fin 10000) (b f : Fin 32) : (read V d (Proc.devRef .tc main_v35) (ix2 (line n b) f) : EReal)
    = Spec.nbrFeat (weights V) (row V n) b f := by
  unfold read
  after_reads_simp [pair_eq, StableHlo.TRef.toBuf, StableHlo.TRef.ofBuf, cast_eq]
  pointwise [pair]
  simp only [line_div, line_mod]
  rfl

/-- The edges' features. -/
theorem edge_at (n : Fin 10000) (b f : Fin 32) : (read V d (Proc.devRef .tc main_v41) (ix2 (line n b) f) : EReal)
    = Spec.edgeFeat (weights V) (row V n) b f := by
  unfold read
  after_reads_simp [pair_eq, StableHlo.TRef.toBuf, StableHlo.TRef.ofBuf, cast_eq]
  pointwise [pair]
  simp only [line_div, line_mod]
  rfl

/-- The encodings of time. -/
theorem time_at (n : Fin 10000) (b f : Fin 32) : (read V d (Proc.devRef .tc main_v56) (ix2 (line n b) f) : EReal)
    = Spec.timeEnc (row V n) b f := by
  unfold read
  after_reads_simp [pair_eq, StableHlo.TRef.toBuf, StableHlo.TRef.ofBuf, cast_eq]
  pointwise [pair]
  simp only [line_div, line_mod]
  rfl

/-- The encodings of frequency. -/
theorem count_at (n : Fin 10000) (b f : Fin 32) : (read V d (Proc.devRef .tc main_v78) (ix2 (line n b) f) : EReal)
    = Spec.freqEnc (Spec.count (row V n) b) f := by
  unfold read
  after_reads_simp [pair_eq, StableHlo.TRef.toBuf, StableHlo.TRef.ofBuf, cast_eq]
  pointwise [pair]
  simp only [line_div, line_mod, count_bits]
  rfl

/-- Which neighbours are one. -/
theorem same_at (n : Fin 10000) (b f : Fin 32) : (read V d (Proc.devRef .tc main_v80) (ix2 (line n b) f) : EReal)
    = Spec.same (row V n) b f := by
  unfold read
  after_reads_simp [pair_eq, StableHlo.TRef.toBuf, StableHlo.TRef.ofBuf, cast_eq]
  pointwise [pair]
  simp only [line_div, line_mod]
  exact eq_bit _ _

end Cert.ReferenceIdeal.Value

end
-- ==== Proof.Math.Groups.lean ====
/- Sums over groups of 32 lanes laid side by side. -/
module

public import Mathlib.Data.EReal.Operations
public import Mathlib.Algebra.BigOperators.Fin

@[expose] public section

namespace Cert.Groups

/-- A sum over 96, in three parts of 32. -/
theorem sum_96 (F : Fin 96 → EReal) : ∑ x, F x
    = ∑ f : Fin 32, F ⟨f.val, by omega⟩ + ∑ f : Fin 32, F ⟨32 + f.val, by omega⟩ + ∑ f : Fin 32, F ⟨64 + f.val, by omega⟩ :=
  (Fin.sum_univ_add (a := 64) (b := 32) F).trans (congrArg (· + _) (Fin.sum_univ_add (a := 32) (b := 32) _))

/-- A sum over 160, in five parts of 32. -/
theorem sum_160 (F : Fin 160 → EReal) : ∑ x, F x
    = ∑ f : Fin 32, F ⟨f.val, by omega⟩ + ∑ f : Fin 32, F ⟨32 + f.val, by omega⟩ + ∑ f : Fin 32, F ⟨64 + f.val, by omega⟩
      + ∑ f : Fin 32, F ⟨96 + f.val, by omega⟩ + ∑ f : Fin 32, F ⟨128 + f.val, by omega⟩ :=
  (Fin.sum_univ_add (a := 128) (b := 32) F).trans (congrArg (· + _) ((Fin.sum_univ_add (a := 96) (b := 32) _).trans
    (congrArg (· + _) (sum_96 _))))

/-- A lane from its number. -/
theorem lane (a : Fin 32 → EReal) {k : Nat} (h : k < 32) (f : Fin 32) (e : k = f.val) : a ⟨k, h⟩ = a f :=
  congrArg a (Fin.ext e)

/-- Three groups side by side, against a column. -/
theorem three (a b c : Fin 32 → EReal) (u : Fin 96 → EReal) (hc : ∀ x : Fin 96, ¬ x.val < 32 → ¬ x.val - 32 < 32 → x.val - 32 - 32 < 32) :
    ∑ x : Fin 96, (if h : x.val < 32 then a ⟨x.val, h⟩ else if h' : x.val - 32 < 32 then b ⟨x.val - 32, h'⟩
      else c ⟨x.val - 32 - 32, hc x h h'⟩) * u x
    = ∑ f : Fin 32, a f * u ⟨f.val, by omega⟩ + ∑ f : Fin 32, b f * u ⟨32 + f.val, by omega⟩
      + ∑ f : Fin 32, c f * u ⟨64 + f.val, by omega⟩ := by
  rw [sum_96]
  refine congrArg₂ (· + ·) (congrArg₂ (· + ·) ?_ ?_) ?_ <;> refine Finset.sum_congr rfl fun f _ => congrArg (· * _) ?_ <;> dsimp only
  · rw [dif_pos f.isLt]
  · rw [dif_neg (by omega), dif_pos (by omega), lane b (by omega) f (by omega)]
  · rw [dif_neg (by omega), dif_neg (by omega), lane c (by omega) f (by omega)]

/-- Five groups side by side, against a column. -/
theorem five (a b c e g : Fin 32 → EReal) (u : Fin 160 → EReal)
    (hg : ∀ x : Fin 160, ¬ x.val < 32 → ¬ x.val - 32 < 32 → ¬ x.val - 32 - 32 < 32 → ¬ x.val - 32 - 32 - 32 < 32 →
      x.val - 32 - 32 - 32 - 32 < 32) :
    ∑ x : Fin 160, (if h : x.val < 32 then a ⟨x.val, h⟩ else if h' : x.val - 32 < 32 then b ⟨x.val - 32, h'⟩
      else if i : x.val - 32 - 32 < 32 then c ⟨x.val - 32 - 32, i⟩
      else if i' : x.val - 32 - 32 - 32 < 32 then e ⟨x.val - 32 - 32 - 32, i'⟩
      else g ⟨x.val - 32 - 32 - 32 - 32, hg x h h' i i'⟩) * u x
    = ∑ f : Fin 32, a f * u ⟨f.val, by omega⟩ + ∑ f : Fin 32, b f * u ⟨32 + f.val, by omega⟩
      + ∑ f : Fin 32, c f * u ⟨64 + f.val, by omega⟩ + ∑ f : Fin 32, e f * u ⟨96 + f.val, by omega⟩
      + ∑ f : Fin 32, g f * u ⟨128 + f.val, by omega⟩ := by
  rw [sum_160]
  refine congrArg₂ (· + ·) (congrArg₂ (· + ·) (congrArg₂ (· + ·) (congrArg₂ (· + ·) ?_ ?_) ?_) ?_) ?_ <;>
    refine Finset.sum_congr rfl fun f _ => congrArg (· * _) ?_ <;> dsimp only
  · rw [dif_pos f.isLt]
  · rw [dif_neg (by omega), dif_pos (by omega), lane b (by omega) f (by omega)]
  · rw [dif_neg (by omega), dif_neg (by omega), dif_pos (by omega), lane c (by omega) f (by omega)]
  · rw [dif_neg (by omega), dif_neg (by omega), dif_neg (by omega), dif_pos (by omega), lane e (by omega) f (by omega)]
  · rw [dif_neg (by omega), dif_neg (by omega), dif_neg (by omega), dif_neg (by omega), lane g (by omega) f (by omega)]

end Cert.Groups
-- ==== Proof.Value.RefValue.lean ====
/- What the reference computes, entry by entry: from the groups of features to the two results. -/
module

public import proofs.«01_k».proof.Proof.Value.RefRead
public import proofs.«01_k».proof.Proof.Math.Groups

@[expose] public section

set_option maxRecDepth 20000
set_option maxHeartbeats 4000000

noncomputable section

namespace Cert.ReferenceIdeal.Value

open Cert.ReferenceIdeal Cert.ReferenceIdeal.Gen Cert.ReferenceIdeal.Hand Idealize.ShloMosaic Idealize.ShloMosaic.TcCoe Idealize.SL.Sem Cert.Gumbel Cert.Line

/-- The queries, from the three groups of features. -/
def queries (a b c : FVec Ideal S10000x32 .f32) (w : FVec Ideal S96x64 .f32) (v : FVec Ideal S64 .f32) : FVec Ideal S10000x64 .f32 :=
  addf (Host.dotGeneral dot_S10000x96_S96x64_S10000x64_1_0_0_1_n_n none
    (cat3 S10000x96 1 S10000x32 concatenates_S10000x32_S10000x32_S10000x32_S10000x96_d1 a b c) w)
    (broadcastInDim S10000x64 ![0, 1] bcast_S1x64_S10000x64_0_1 (broadcastInDim S1x64 ![1] bcast_S64_S1x64_1 v))

/-- The keys, from the five groups. -/
def keys (a b c e g : FVec Ideal S320000x32 .f32) (w : FVec Ideal S160x64 .f32) (v : FVec Ideal S64 .f32) :
    FVec Ideal S10000x32x64 .f32 :=
  addf (Host.dotGeneral dot_S10000x32x160_S160x64_S10000x32x64_2_0_01_1_n_n none
    (shapeCast S10000x32x160 (cat5 S320000x160 1 S320000x32
      concatenates_S320000x32_S320000x32_S320000x32_S320000x32_S320000x32_S320000x160_d1 a b c e g)
      shapeCasts_S320000x160_S10000x32x160) w)
    (broadcastInDim S10000x32x64 ![0, 1, 2] bcast_S1x1x64_S10000x32x64_0_1_2 (broadcastInDim S1x1x64 ![2] bcast_S64_S1x1x64_2 v))

/-- The scores, from the queries and keys. -/
def scores (q : FVec Ideal S10000x64 .f32) (k : FVec Ideal S10000x32x64 .f32) : FVec Ideal S10000x32 .f32 :=
  Host.divf (Host.dotGeneral dot_S10000x64_S10000x32x64_S10000x32_1_2_n_1_0_0 none q k)
    (broadcastInDim S10000x32 ![] bcast_S_S10000x32 (id (Host.sqrt (constant S_ .f32 0x42800000#32))))

/-- The exponentials of the scores less their maximum. -/
def exps (s : FVec Ideal S10000x32 .f32) : FVec Ideal S10000x32 .f32 :=
  Host.exp (subf s (broadcastInDim S10000x32 ![0, 1] bcast_S10000x1_S10000x32_0_1
    (broadcastInDim S10000x1 ![0] bcast_S10000_S10000x1_0 (maximumf
      (broadcastInDim S10000 ![] bcast_S_S10000 (constant S_ .f32 0xFF800000#32))
      (Host.reduce FloatOps.maximumf s (constant S_ .f32 0xFF800000#32) reducesTo_S10000x32_S10000_d1 h_S_)))))

/-- The probabilities, from the exponentials. -/
def probs (e : FVec Ideal S10000x32 .f32) : FVec Ideal S10000x32 .f32 :=
  Host.divf e (broadcastInDim S10000x32 ![0, 1] bcast_S10000x1_S10000x32_0_1
    (broadcastInDim S10000x1 ![0] bcast_S10000_S10000x1_0
      (Host.reduceAdd e (constant S_ .f32 0x00000000#32) reducesTo_S10000x32_S10000_d1 h_S_)))

/-- The perturbed log-probabilities, from the probabilities and the noise. -/
def perturbed (p g : FVec Ideal S10000x32 .f32) : FVec Ideal S10000x32 .f32 :=
  addf (Host.log (addf p (broadcastInDim S10000x32 ![] bcast_S_S10000x32 (constant S_ .f32 0x1E3CE508#32)))) g

/-- Eight, as the square root of 64. -/
theorem sqrt_eight : Ideal.sqrt (Ideal.ofBits .f32 0x42800000#32) = Ideal.ofBits .f32 0x41000000#32 := by
  have a : Ideal.ofBits .f32 0x42800000#32 = ((64 : ℝ) : EReal) := by simp [Ideal.ofBits, Ideal.ieee, -EReal.coe_mul]; norm_num
  have b : Ideal.ofBits .f32 0x41000000#32 = ((8 : ℝ) : EReal) := by simp [Ideal.ofBits, Ideal.ieee, -EReal.coe_mul]; norm_num
  rw [a, b, Ideal.sqrt_coe, if_neg (by norm_num), show (64 : ℝ) = 8 ^ 2 by norm_num, Real.sqrt_sq (by norm_num)]

/-- The start of a maximum is below it. -/
theorem max_fold (c : EReal) (f : Fin 32 → EReal) : max c (Finset.univ.fold max c f) = Finset.univ.fold max c f :=
  max_eq_right ((Finset.le_fold_max _).mpr (.inl le_rfl))

section At

variable {W : Spec.Weights} {R : Fin 10000 → Spec.Row} {g : Fin 10000 → Fin 32 → EReal}

theorem queries_at {a b c w v} (ha : ∀ n f, a (ix2 n f) = Spec.rootFeat W (R n) f)
    (hb : ∀ n f, b (ix2 n f) = Ideal.cos (0 * Spec.freq f)) (hc : ∀ n f, c (ix2 n f) = Ideal.cos (Spec.freq f))
    (hw : ∀ l h, w (ix2 l h) = W.query l h) (hv : ∀ h, v (ix1 h) = W.queryBias h) (n : Fin 10000) (h : Fin 64) :
    queries a b c w v (ix2 n h) = Spec.query W (R n) h := by
  pointwise [queries, cat3]
  refine (congrArg (· + _) (Groups.three (fun f => a (ix2 n f)) (fun f => b (ix2 n f)) (fun f => c (ix2 n f))
    (fun x => w (ix2 x h)) (by omega))).trans ?_
  simp only [ha, hb, hc, hw, hv]
  rfl

theorem keys_at {a b c e g w v} (ha : ∀ n b f, a (ix2 (line n b) f) = Spec.nbrFeat W (R n) b f)
    (hb : ∀ n x f, b (ix2 (line n x) f) = Spec.edgeFeat W (R n) x f) (hc : ∀ n b f, c (ix2 (line n b) f) = Spec.timeEnc (R n) b f)
    (he : ∀ n b f, e (ix2 (line n b) f) = Spec.freqEnc (Spec.count (R n) b) f)
    (hg : ∀ n b f, g (ix2 (line n b) f) = Spec.same (R n) b f)
    (hw : ∀ l h, w (ix2 l h) = W.key l h) (hv : ∀ h, v (ix1 h) = W.keyBias h) (n : Fin 10000) (x : Fin 32) (h : Fin 64) :
    keys a b c e g w v (ix3 n x h) = Spec.key W (R n) x h := by
  pointwise [keys, cat5]
  refine (congrArg (· + _) (Groups.five (fun f => a (ix2 (line n x) f)) (fun f => b (ix2 (line n x) f))
    (fun f => c (ix2 (line n x) f)) (fun f => e (ix2 (line n x) f)) (fun f => g (ix2 (line n x) f))
    (fun y => w (ix2 y h)) (by omega))).trans ?_
  simp only [ha, hb, hc, he, hg, hw, hv]
  rfl

theorem scores_at {q k} (hq : ∀ n h, q (ix2 n h) = Spec.query W (R n) h) (hk : ∀ n b h, k (ix3 n b h) = Spec.key W (R n) b h)
    (n : Fin 10000) (b : Fin 32) : scores q k (ix2 n b) = Spec.score W (R n) b := by
  pointwise [scores]
  simp only [hq, hk, Spec.score]
  exact congrArg _ sqrt_eight

theorem exps_at {s} (hs : ∀ n b, s (ix2 n b) = Spec.score W (R n) b) (n : Fin 10000) (b : Fin 32) : exps s (ix2 n b)
    = Ideal.exp (Spec.score W (R n) b - Finset.univ.fold max (Ideal.ofBits .f32 0xFF800000#32) (Spec.score W (R n))) := by
  pointwise [exps]
  simp only [hs]
  exact congrArg _ (congrArg _ (max_fold _ _))

theorem probs_at {e} (he : ∀ n b, e (ix2 n b)
    = Ideal.exp (Spec.score W (R n) b - Finset.univ.fold max (Ideal.ofBits .f32 0xFF800000#32) (Spec.score W (R n))))
    (n : Fin 10000) (b : Fin 32) : probs e (ix2 n b) = Spec.prob W (R n) b := by
  pointwise [probs]
  simp only [he]
  rfl

theorem perturbed_at {p u} (hp : ∀ n b, p (ix2 n b) = Spec.prob W (R n) b) (hu : ∀ n b, u (ix2 n b) = g n b)
    (n : Fin 10000) (b : Fin 32) : perturbed p u (ix2 n b) = Spec.perturbed W (R n) (g n) b := by
  pointwise [perturbed]
  rw [hp, hu]
  rfl

end At

end Cert.ReferenceIdeal.Value

end
-- ==== Proof.Value.Chain.lean ====
/- What the reference leaves, stage by stage: each stage's array from the arrays of the stages before it. -/
module

public import proofs.«01_k».proof.Proof.Value.RefValue

@[expose] public section

set_option maxRecDepth 20000
set_option maxHeartbeats 4000000

noncomputable section

namespace Cert.ReferenceIdeal.Value

open Cert.ReferenceIdeal Cert.ReferenceIdeal.Gen Cert.ReferenceIdeal.Hand Idealize.ShloMosaic Idealize.ShloMosaic.TcCoe Idealize.SL.Sem Cert.Gumbel Cert.Line

variable (V : Valuation τ sig (Elt Ideal)) (d : Dev nD)

/-- A group of features is there when the groups are joined. -/
theorem upto_v35 : StableHlo.upto (mainLine d).ops V 187 (Proc.devRef .tc main_v35) = read V d (Proc.devRef .tc main_v35) := by
  unfold read
  after_reads_simp [pair_eq, StableHlo.TRef.toBuf, StableHlo.TRef.ofBuf, cast_eq]

/-- A group of features is there when the groups are joined. -/
theorem upto_v41 : StableHlo.upto (mainLine d).ops V 187 (Proc.devRef .tc main_v41) = read V d (Proc.devRef .tc main_v41) := by
  unfold read
  after_reads_simp [pair_eq, StableHlo.TRef.toBuf, StableHlo.TRef.ofBuf, cast_eq]

/-- A group of features is there when the groups are joined. -/
theorem upto_v56 : StableHlo.upto (mainLine d).ops V 187 (Proc.devRef .tc main_v56) = read V d (Proc.devRef .tc main_v56) := by
  unfold read
  after_reads_simp [pair_eq, StableHlo.TRef.toBuf, StableHlo.TRef.ofBuf, cast_eq]

/-- A group of features is there when the groups are joined. -/
theorem upto_v78 : StableHlo.upto (mainLine d).ops V 187 (Proc.devRef .tc main_v78) = read V d (Proc.devRef .tc main_v78) := by
  unfold read
  after_reads_simp [pair_eq, StableHlo.TRef.toBuf, StableHlo.TRef.ofBuf, cast_eq]

/-- A group of features is there when the groups are joined. -/
theorem upto_v80 : StableHlo.upto (mainLine d).ops V 187 (Proc.devRef .tc main_v80) = read V d (Proc.devRef .tc main_v80) := by
  unfold read
  after_reads_simp [pair_eq, StableHlo.TRef.toBuf, StableHlo.TRef.ofBuf, cast_eq]

/-- The queries. -/
theorem queries_read : read V d (Proc.devRef .tc main_v86) = queries (read V d (Proc.devRef .tc main_v4)) (read V d (Proc.devRef .tc main_v16)) (read V d (Proc.devRef .tc main_v28)) (V (Proc.devRef .tc main_arg10)) (V (Proc.devRef .tc main_arg11)) := by
  unfold read queries
  after_reads_simp [pair_eq, cat3_eq, cat5_eq, StableHlo.TRef.toBuf, StableHlo.TRef.ofBuf, cast_eq]
  all_goals rfl

/-- The keys, from the groups as they are when joined. -/
theorem keys_upto {x : FVec Ideal S10000x32x64 .f32} (h : x = keys (StableHlo.upto (mainLine d).ops V 187 (Proc.devRef .tc main_v35)) (StableHlo.upto (mainLine d).ops V 187 (Proc.devRef .tc main_v41)) (StableHlo.upto (mainLine d).ops V 187 (Proc.devRef .tc main_v56)) (StableHlo.upto (mainLine d).ops V 187 (Proc.devRef .tc main_v78)) (StableHlo.upto (mainLine d).ops V 187 (Proc.devRef .tc main_v80)) (V (Proc.devRef .tc main_arg12)) (V (Proc.devRef .tc main_arg13))) :
    read V d (Proc.devRef .tc main_v90) = x := by
  unfold read
  after_reads_simp [StableHlo.TRef.toBuf, StableHlo.TRef.ofBuf, cast_eq]
  exact Eq.trans rfl h.symm

/-- The keys. -/
theorem keys_read : read V d (Proc.devRef .tc main_v90) = keys (read V d (Proc.devRef .tc main_v35)) (read V d (Proc.devRef .tc main_v41)) (read V d (Proc.devRef .tc main_v56)) (read V d (Proc.devRef .tc main_v78)) (read V d (Proc.devRef .tc main_v80)) (V (Proc.devRef .tc main_arg12)) (V (Proc.devRef .tc main_arg13)) := by
  rw [← upto_v35, ← upto_v41, ← upto_v56, ← upto_v78, ← upto_v80]
  exact keys_upto V d rfl

/-- The scores. -/
theorem scores_read : read V d (Proc.devRef .tc main_v95) = scores (read V d (Proc.devRef .tc main_v86)) (read V d (Proc.devRef .tc main_v90)) := by
  unfold read scores
  after_reads_simp [pair_eq, cat3_eq, cat5_eq, StableHlo.TRef.toBuf, StableHlo.TRef.ofBuf, cast_eq]
  all_goals rfl

/-- The exponentials. -/
theorem exps_read : read V d (Proc.devRef .tc main_v102) = exps (read V d (Proc.devRef .tc main_v95)) := by
  unfold read exps
  after_reads_simp [pair_eq, cat3_eq, cat5_eq, StableHlo.TRef.toBuf, StableHlo.TRef.ofBuf, cast_eq]
  all_goals rfl

/-- The probabilities. -/
theorem probs_read : read V d (Proc.devRef .tc main_v106) = probs (read V d (Proc.devRef .tc main_v102)) := by
  unfold read probs
  after_reads_simp [pair_eq, cat3_eq, cat5_eq, StableHlo.TRef.toBuf, StableHlo.TRef.ofBuf, cast_eq]
  all_goals rfl

/-- The perturbed log-probabilities. -/
theorem perturbed_read : read V d (Proc.devRef .tc main_v123) = perturbed (read V d (Proc.devRef .tc main_v106)) (read V d (Proc.devRef .tc main_v119)) := by
  unfold read perturbed
  after_reads_simp [pair_eq, cat3_eq, cat5_eq, StableHlo.TRef.toBuf, StableHlo.TRef.ofBuf, cast_eq]
  all_goals rfl

/-- The choice. -/
theorem choice_read : read V d (Proc.devRef .tc main_indices) = (Host.topK S10000x16 1 (FloatOps.cmpfTotal (F := Ideal) (φ := .f32) .gt) (read V d (Proc.devRef .tc main_v123)) sliceFits_S10000x32_S10000x16).2 := by
  unfold read
  after_reads_simp [pair_eq, StableHlo.TRef.toBuf, StableHlo.TRef.ofBuf, cast_eq]
  all_goals rfl

end Cert.ReferenceIdeal.Value

end
-- ==== Proof.Math.TopK.lean ====
/- The positions of the greatest elements of each row of an array, as the sort of the row gives them. -/
module

public import Idealize.ShloMosaic.PureOps.Ideal
public import Idealize.ShloMosaic.Lib.Pointwise

@[expose] public section

namespace Cert.TopK

open Idealize.ShloMosaic

variable {N K k : Nat}

/-- Moving along a row. -/
theorem along (n : Fin N) (m i : Fin K) :
    Shape.Idx.along (s := ⟨2, ![N, K]⟩) (ix2 n m) 1 i = (ix2 n i : (⟨2, ![N, K]⟩ : Shape).Idx) := by
  funext a
  refine Fin.cases ?_ (fun a => Fin.cases ?_ (fun a => a.elim0) a) a <;> rfl

/-- The positions that come with a row sorted. -/
theorem sort2_snd {α β : Type} (cmp : α × β → α × β → BitVec 1) (x : (⟨2, ![N, K]⟩ : Shape).Idx → α)
    (y : (⟨2, ![N, K]⟩ : Shape).Idx → β) (n : Fin N) (m : Fin K) :
    (Host.sort2 ⟨2, ![N, K]⟩ 1 cmp x y).2 (ix2 n m)
      = y (ix2 n (sortedFrom (fun i j => cmp (x (ix2 n i), y (ix2 n i)) (x (ix2 n j), y (ix2 n j)) == 1#1) m)) := by
  unfold Host.sort2
  rw [dif_pos (show 1 < 2 by omega)]
  show y (Shape.Idx.along (s := ⟨2, ![N, K]⟩) (ix2 n m) 1 (sortedFrom (fun i j : Fin K =>
    cmp (x (Shape.Idx.along (s := ⟨2, ![N, K]⟩) (ix2 n m) 1 i), y (Shape.Idx.along (s := ⟨2, ![N, K]⟩) (ix2 n m) 1 i))
      (x (Shape.Idx.along (s := ⟨2, ![N, K]⟩) (ix2 n m) 1 j), y (Shape.Idx.along (s := ⟨2, ![N, K]⟩) (ix2 n m) 1 j)) == 1#1) m)) = _
  simp only [along]
  exact congrArg y (along n m _)

/-- The first columns of an array. -/
theorem slice {α : Type} (x : (⟨2, ![N, K]⟩ : Shape).Idx → α) (h : Shape.Slices ⟨2, ![N, K]⟩ (fun _ => 0) ⟨2, ![N, k]⟩)
    (hk : k ≤ K) (n : Fin N) (s : Fin k) :
    extractStridedSlice ⟨2, ![N, k]⟩ (fun _ => 0) x h (ix2 n s) = x (ix2 n ⟨s.val, by omega⟩) := by
  unfold extractStridedSlice
  congr 1
  funext a
  refine Fin.cases ?_ (fun a => Fin.cases ?_ (fun a => a.elim0) a) a
  · exact Fin.ext (Nat.zero_add _)
  · exact Fin.ext (Nat.zero_add _)

/-- The position at place `s` of the greatest. -/
theorem nth {α : Type} (gt : α → α → BitVec 1) (x : (⟨2, ![N, K]⟩ : Shape).Idx → α)
    (h : Shape.Slices ⟨2, ![N, K]⟩ (fun _ => 0) ⟨2, ![N, k]⟩) (hk : k ≤ K) (n : Fin N) (s : Fin k) :
    (Host.topK ⟨2, ![N, k]⟩ 1 gt x h).2 (ix2 n s)
      = BitVec.ofNat 32 (sortedFrom (fun i j => gt (x (ix2 n i)) (x (ix2 n j)) == 1#1) (⟨s.val, by omega⟩ : Fin K)).val := by
  show extractStridedSlice ⟨2, ![N, k]⟩ (fun _ => 0) (Host.sort2 ⟨2, ![N, K]⟩ 1 (fun l r => gt l.1 r.1) x fun i =>
    if hd : 1 < 2 then iotaInDim ⟨2, ![N, K]⟩ 32 ⟨1, hd⟩ i else 0#32).2 h (ix2 n s) = _
  refine (slice _ h hk n s).trans ((sort2_snd _ _ _ n _).trans ?_)
  rw [dif_pos (show 1 < 2 by omega)]
  rfl

end Cert.TopK
-- ==== Proof.Value.TopK.lean ====
/- The reference's choice of the 16 neighbours with the greatest perturbed log-probabilities. -/
module

public import proofs.«01_k».proof.Proof.Value.RefRead
public import proofs.«01_k».proof.Proof.Math.TopK

@[expose] public section

set_option maxRecDepth 20000
set_option maxHeartbeats 4000000

noncomputable section

namespace Cert.ReferenceIdeal.Value

open Cert.ReferenceIdeal Cert.ReferenceIdeal.Gen Cert.ReferenceIdeal.Hand Idealize.ShloMosaic Idealize.ShloMosaic.TcCoe Idealize.SL.Sem Cert.Gumbel Cert.Line

variable {W : Spec.Weights} {R : Fin 10000 → Spec.Row} {g : Fin 10000 → Fin 32 → EReal}

theorem topK_at {p} (hp : ∀ n b, p (ix2 n b) = Spec.perturbed W (R n) (g n) b) (n : Fin 10000) (s : Fin 16) :
    (Host.topK S10000x16 1 (FloatOps.cmpfTotal (F := Ideal) (φ := .f32) .gt) p sliceFits_S10000x32_S10000x16).2 (ix2 n s)
      = Spec.action W (R n) (g n) s := by
  have e (x y : EReal) : (FloatOps.cmpfTotal (F := Ideal) (φ := .f32) .gt x y == 1#1) = decide (y < x) := by
    show (BitVec.ofBool (decide (y < x)) == 1#1) = _
    cases decide (y < x) <;> rfl
  refine (TopK.nth _ p sliceFits_S10000x32_S10000x16 (by omega) n s).trans ?_
  simp only [e, hp]
  rfl

end Cert.ReferenceIdeal.Value

end
-- ==== Proof.Value.RefFinal.lean ====
/- The two arrays the reference leaves, entry by entry. -/
module

public import proofs.«01_k».proof.Proof.Value.Chain
public import proofs.«01_k».proof.Proof.Value.TopK

@[expose] public section

set_option maxRecDepth 20000
set_option maxHeartbeats 4000000

noncomputable section

namespace Cert.ReferenceIdeal.Value

open Cert.ReferenceIdeal Cert.ReferenceIdeal.Gen Cert.ReferenceIdeal.Hand Idealize.ShloMosaic Idealize.ShloMosaic.TcCoe Idealize.SL.Sem

variable (V : Valuation τ sig (Elt Ideal)) (d : Dev nD)

/-- The scores. -/
theorem score_at (n : Fin 10000) (b : Fin 32) : (read V d (Proc.devRef .tc main_v95) (ix2 n b) : EReal)
    = Spec.score (weights V) (row V n) b :=
  (congrFun (scores_read V d) _).trans (scores_at (W := weights V) (R := row V)
    (fun n h => (congrFun (queries_read V d) _).trans (queries_at (W := weights V) (R := row V) (root_at V d) (zero_at V d)
      (one_at V d) (fun _ _ => rfl) (fun _ => rfl) n h))
    (fun n b h => (congrFun (keys_read V d) _).trans (keys_at (W := weights V) (R := row V) (nbr_at V d) (edge_at V d)
      (time_at V d) (count_at V d) (same_at V d) (fun _ _ => rfl) (fun _ => rfl) n b h)) n b)

/-- The first result: the probabilities. -/
theorem prob_at (n : Fin 10000) (b : Fin 32) : (read V d (Proc.devRef .tc main_v106) (ix2 n b) : EReal)
    = Spec.prob (weights V) (row V n) b :=
  (congrFun (probs_read V d) _).trans (probs_at (W := weights V) (R := row V)
    (fun n b => (congrFun (exps_read V d) _).trans (exps_at (W := weights V) (R := row V) (score_at V d) n b)) n b)

/-- The second result: the choice. -/
theorem action_at (n : Fin 10000) (s : Fin 16) : (read V d (Proc.devRef .tc main_indices) (ix2 n s) : BitVec 32)
    = Spec.action (weights V) (row V n) (noise V d n) s :=
  (congrFun (choice_read V d) _).trans (topK_at (W := weights V) (R := row V) (g := noise V d)
    (fun n b => (congrFun (perturbed_read V d) _).trans (perturbed_at (W := weights V) (R := row V) (g := noise V d)
      (prob_at V d) (fun _ _ => rfl) n b)) n s)

end Cert.ReferenceIdeal.Value

end
-- ==== Proof.Gumbel.Same.lean ====
/- The noise the kernel's host program draws is the noise the reference draws: both run the same counter-based generator
   from the same key, and take minus the logarithm twice. -/
module

public import proofs.«01_k».proof.Proof.Ref.Run
public import proofs.«01_k».proof.Proof.Gumbel.Pair
public import proofs.«01_k».proof.Proof.Gen.KernelIdeal.Launch
public import Idealize.ShloMosaic.Lib.Claim
public import Idealize.ShloMosaic.Lib.StableHlo.RunRead

@[expose] public section

set_option maxRecDepth 20000
set_option maxHeartbeats 40000000

noncomputable section

namespace Cert.Gumbel

open Idealize.ShloMosaic Idealize.ShloMosaic.TcCoe Idealize.SL.Sem Cert.Line

/-- What the two programs hold as noise, whatever they start from. -/
theorem same (V : Valuation KernelIdeal.τ KernelIdeal.sig (Elt Ideal))
    (V' : Valuation ReferenceIdeal.τ ReferenceIdeal.sig (Elt Ideal)) (d : Dev ReferenceIdeal.nD) :
    StableHlo.after (List.flatten [KernelIdeal.Gen.hostOps0, KernelIdeal.Gen.hostOps0_1, KernelIdeal.Gen.hostOps0_2,
        KernelIdeal.Gen.hostOps0_3, KernelIdeal.Gen.hostOps0_4, KernelIdeal.Gen.hostOps0_5, KernelIdeal.Gen.hostOps0_6]) V
        (Proc.devRef .tc KernelIdeal.main_v113)
      = StableHlo.after (ReferenceIdeal.Hand.mainLine d).ops V' (Proc.devRef .tc ReferenceIdeal.main_v119) := by
  after_reads_simp [pair_eq, StableHlo.TRef.toBuf, StableHlo.TRef.ofBuf, cast_eq]
  rfl

end Cert.Gumbel

end
-- ==== Proof.Value.Agree.lean ====
/- The two programs' results are equal, from memories that agree on the arguments. -/
module

public import proofs.«01_k».proof.Proof.Value.Final
public import proofs.«01_k».proof.Proof.Value.RefFinal
public import proofs.«01_k».proof.Proof.Gumbel.Same

@[expose] public section

set_option maxRecDepth 20000
set_option maxHeartbeats 1000000

noncomputable section

namespace Cert.Agree

open Idealize.ShloMosaic Idealize.ShloMosaic.TcCoe Idealize.SL.Sem

/-- Two arrays equal at every pair of indices are equal. -/
theorem ext2 {α : Type} {N K : Nat} {x y : (⟨2, ![N, K]⟩ : Shape).Idx → α} (h : ∀ a b, x (ix2 a b) = y (ix2 a b)) : x = y :=
  funext fun i => (congrArg x (eq_ix2 i)).trans ((h _ _).trans (congrArg y (eq_ix2 i)).symm)

section Args

variable (V : Valuation KernelIdeal.τ KernelIdeal.sig (Elt Ideal)) (V' : Valuation ReferenceIdeal.τ ReferenceIdeal.sig (Elt Ideal))

/-- The arguments agree. -/
structure Same : Prop where
  a0 : V' (Proc.devRef .tc ReferenceIdeal.main_arg0) = V (Proc.devRef .tc KernelIdeal.main_arg0)
  a1 : V' (Proc.devRef .tc ReferenceIdeal.main_arg1) = V (Proc.devRef .tc KernelIdeal.main_arg1)
  a2 : V' (Proc.devRef .tc ReferenceIdeal.main_arg2) = V (Proc.devRef .tc KernelIdeal.main_arg2)
  a3 : V' (Proc.devRef .tc ReferenceIdeal.main_arg3) = V (Proc.devRef .tc KernelIdeal.main_arg3)
  a4 : V' (Proc.devRef .tc ReferenceIdeal.main_arg4) = V (Proc.devRef .tc KernelIdeal.main_arg4)
  a5 : V' (Proc.devRef .tc ReferenceIdeal.main_arg5) = V (Proc.devRef .tc KernelIdeal.main_arg5)
  a6 : V' (Proc.devRef .tc ReferenceIdeal.main_arg6) = V (Proc.devRef .tc KernelIdeal.main_arg6)
  a7 : V' (Proc.devRef .tc ReferenceIdeal.main_arg7) = V (Proc.devRef .tc KernelIdeal.main_arg7)
  a8 : V' (Proc.devRef .tc ReferenceIdeal.main_arg8) = V (Proc.devRef .tc KernelIdeal.main_arg8)
  a9 : V' (Proc.devRef .tc ReferenceIdeal.main_arg9) = V (Proc.devRef .tc KernelIdeal.main_arg9)
  a10 : V' (Proc.devRef .tc ReferenceIdeal.main_arg10) = V (Proc.devRef .tc KernelIdeal.main_arg10)
  a11 : V' (Proc.devRef .tc ReferenceIdeal.main_arg11) = V (Proc.devRef .tc KernelIdeal.main_arg11)
  a12 : V' (Proc.devRef .tc ReferenceIdeal.main_arg12) = V (Proc.devRef .tc KernelIdeal.main_arg12)
  a13 : V' (Proc.devRef .tc ReferenceIdeal.main_arg13) = V (Proc.devRef .tc KernelIdeal.main_arg13)

variable {V V'}

/-- Equal arguments give equal weights. -/
theorem Same.weights (h : Same V V') : ReferenceIdeal.Value.weights V' = KernelIdeal.Blk.weights V := by
  unfold ReferenceIdeal.Value.weights KernelIdeal.Blk.weights
  rw [h.a6, h.a7, h.a8, h.a9, h.a10, h.a11, h.a12, h.a13]

/-- Equal arguments give equal data of a node. -/
theorem Same.row (h : Same V V') (n : Fin 10000) : ReferenceIdeal.Value.row V' n = KernelIdeal.Blk.row V n := by
  unfold ReferenceIdeal.Value.row KernelIdeal.Blk.row
  rw [h.a0, h.a1, h.a2, h.a3, h.a4, h.a5]

/-- The noise is the same whatever the arguments. -/
theorem noise (d : Dev ReferenceIdeal.nD) (n : Fin 10000) : ReferenceIdeal.Value.noise V' d n = KernelIdeal.Blk.noise V n := by
  funext b
  exact (congrFun (Gumbel.same V V' d) (ix2 n b)).symm

end Args

variable (m : (ℓ : Loc KernelIdeal.nD KernelIdeal.τ KernelIdeal.sig) → Buf (Elt Ideal) ℓ) (c : Dev KernelIdeal.nD)
  {V' : Valuation ReferenceIdeal.τ ReferenceIdeal.sig (Elt Ideal)} (d : Dev ReferenceIdeal.nD)
  (h : Same (KernelIdeal.Final.start m c) V')

include h

/-- The first results are equal. -/
theorem prob : (ReferenceIdeal.Value.read V' d (Proc.devRef .tc ReferenceIdeal.main_v106) : Vec Ideal ⟨2, ![10000, 32]⟩ .f32)
    = (KernelIdeal.Whole.dats m 0 c).arrAt 28 KernelIdeal.cfg0.N := by
  refine ext2 fun n b => ?_
  refine (ReferenceIdeal.Value.prob_at V' d n b).trans (Eq.trans ?_ (KernelIdeal.Final.prob m c n b).symm)
  rw [h.weights, h.row]

/-- The second results are equal. -/
theorem action : (ReferenceIdeal.Value.read V' d (Proc.devRef .tc ReferenceIdeal.main_indices) : Vec Ideal ⟨2, ![10000, 16]⟩ .i32)
    = (KernelIdeal.Whole.dats m 0 c).arrAt 29 KernelIdeal.cfg0.N := by
  refine ext2 fun n s => ?_
  refine (ReferenceIdeal.Value.action_at V' d n s).trans (Eq.trans ?_ (KernelIdeal.Final.action m c n s).symm)
  rw [h.weights, h.row, noise (V := KernelIdeal.Final.start m c)]

end Cert.Agree

end
-- ==== Proof.lean ====
/- The proof of the certificate's claim: the frames of the three programs, the preservation, and the equality of the
   kernel's two results with the reference's. -/
module

public import proofs.«01_k».proof.Defs
public import proofs.«01_k».proof.Proof.Launch.Kernel
public import proofs.«01_k».proof.Proof.Launch.Blocks
public import proofs.«01_k».proof.Proof.Ref.Frame
public import proofs.«01_k».proof.Proof.Value.Agree

@[expose] public section

noncomputable section

namespace Cert.Proof

open Idealize.ShloMosaic Idealize.SL.Sem

/-- From memories that agree on the arguments, the kernel and the reference both end, with equal results and the
    arguments as they were. -/
theorem algebraic : Cert.algebraic_KernelIdeal_ReferenceIdeal (hKernelIdeal := Cert.KernelIdeal.Gen.facts)
    (hReferenceIdeal := Cert.ReferenceIdeal.Gen.facts) := fun m g m' g' _ agree =>
  ⟨fun c => (Cert.KernelIdeal.Whole.dats m 0 c).arrAt 28 Cert.KernelIdeal.cfg0.N,
    fun c => (Cert.KernelIdeal.Whole.dats m 0 c).arrAt 29 Cert.KernelIdeal.cfg0.N,
    Cert.KernelIdeal.Whole.run_blocks m g,
    (θ_run _ _ _).mono (fun r h c => by
      obtain ⟨a0, a1, a2, a3, a4, a5, a6, a7, a8, a9, a10, a11, a12, a13⟩ := agree c
      obtain ⟨h0, h1, h2, h3, h4, h5, h6, h7, h8, h9, h10, h11, h12, h13⟩ :=
        Cert.ReferenceIdeal.Hand.kept (StableHlo.launchContents m' c) c
      have same : Cert.Agree.Same (Cert.KernelIdeal.Final.start m c) (StableHlo.launchContents m' c) :=
        ⟨a0, a1, a2, a3, a4, a5, a6, a7, a8, a9, a10, a11, a12, a13⟩
      exact ⟨(h c _).trans (Cert.Agree.prob m c c same), (h c _).trans (Cert.Agree.action m c c same),
        (h c _).trans h0, (h c _).trans h1, (h c _).trans h2, (h c _).trans h3, (h c _).trans h4, (h c _).trans h5,
        (h c _).trans h6, (h c _).trans h7, (h c _).trans h8, (h c _).trans h9, (h c _).trans h10, (h c _).trans h11,
        (h c _).trans h12, (h c _).trans h13⟩)
      (Cert.ReferenceIdeal.Hand.run m' g')⟩

/-- The certificate's claim. -/
theorem claim : Cert.Claim :=
  ⟨Cert.Kernel.Gen.facts, Cert.KernelIdeal.Gen.facts, Cert.ReferenceIdeal.Gen.facts,
    fun m g _ => Cert.Kernel.Whole.frame m g, fun m g _ => Cert.KernelIdeal.Whole.frame m g,
    fun m g _ => Cert.ReferenceIdeal.Hand.frame m g, trivial, algebraic⟩

end Cert.Proof

end
